-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bags_in_order [hPre_bags_in_order : Cert.Pre_bags_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_bags_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_bags_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_bags_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bags_in_order [hPre_bags_in_order : Cert.Pre_bags_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bags_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_bags_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_bags_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Relayout (m : (ℓ : Loc Cert.Relayout.nD Cert.Relayout.τ Cert.Relayout.sig) → Buf (Elt Bits) ℓ) : Prop :=
  True

def Pre_RelayoutIdeal (m : (ℓ : Loc Cert.RelayoutIdeal.nD Cert.RelayoutIdeal.τ Cert.RelayoutIdeal.sig) → Buf (Elt Ideal) ℓ) : Prop :=
  True

def Pre_TableIdeal (m : (ℓ : Loc Cert.TableIdeal.nD Cert.TableIdeal.τ Cert.TableIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bags_in_order [hKernelIdeal : Cert.KernelIdeal.Facts] [hPre_bags_in_order : Cert.Pre_bags_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bags_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bags_in_order [hReferenceIdeal : Cert.ReferenceIdeal.Facts] [hPre_bags_in_order : Cert.Pre_bags_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bags_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Relayout [hRelayout : Cert.Relayout.Facts] : Prop :=
  ∀ (m : (ℓ : Loc Cert.Relayout.nD Cert.Relayout.τ Cert.Relayout.sig) → Buf (Elt Bits) ℓ) (g : Dev Cert.Relayout.nD → PrngReg), Pre_Relayout m →
    θ_run (Cert.Relayout.defs (F := Bits)) (onTc (τ := Cert.Relayout.τ) (Cert.Relayout.main (F := Bits))) ⟨m, fun _ => 0, g⟩ (fun r => (∀ c : Dev Cert.Relayout.nD,
      r.2.mem ((c.tc : Thread Cert.Relayout.nD Cert.Relayout.τ).loc Cert.Relayout.main_arg0) = m ((c.tc : Thread Cert.Relayout.nD Cert.Relayout.τ).loc Cert.Relayout.main_arg0))
      ∧ r.2.sem = fun _ => 0)

def quiescent_RelayoutIdeal [hRelayoutIdeal : Cert.RelayoutIdeal.Facts] : Prop :=
  ∀ (m : (ℓ : Loc Cert.RelayoutIdeal.nD Cert.RelayoutIdeal.τ Cert.RelayoutIdeal.sig) → Buf (Elt Ideal) ℓ) (g : Dev Cert.RelayoutIdeal.nD → PrngReg), Pre_RelayoutIdeal m →
    θ_run (Cert.RelayoutIdeal.defs (F := Ideal)) (onTc (τ := Cert.RelayoutIdeal.τ) (Cert.RelayoutIdeal.main (F := Ideal))) ⟨m, fun _ => 0, g⟩ (fun r => (∀ c : Dev Cert.RelayoutIdeal.nD,
      r.2.mem ((c.tc : Thread Cert.RelayoutIdeal.nD Cert.RelayoutIdeal.τ).loc Cert.RelayoutIdeal.main_arg0) = m ((c.tc : Thread Cert.RelayoutIdeal.nD Cert.RelayoutIdeal.τ).loc Cert.RelayoutIdeal.main_arg0))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0))
      ∧ r.2.sem = fun _ => 0)

def preserves_Kernel_KernelIdeal : Prop :=
  True

def algebraic_KernelIdeal_ReferenceIdeal_pre_bags_in_order [hKernelIdeal : Cert.KernelIdeal.Facts] [hReferenceIdeal : Cert.ReferenceIdeal.Facts] [hPre_bags_in_order : Cert.Pre_bags_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bags_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Relayout_RelayoutIdeal : Prop :=
  True

def algebraic_RelayoutIdeal_TableIdeal [hRelayoutIdeal : Cert.RelayoutIdeal.Facts] [hTableIdeal : Cert.TableIdeal.Facts] : Prop :=
  ∀ (m : (ℓ : Loc Cert.RelayoutIdeal.nD Cert.RelayoutIdeal.τ Cert.RelayoutIdeal.sig) → Buf (Elt Ideal) ℓ) (g : Dev Cert.RelayoutIdeal.nD → PrngReg)
    (m' : (ℓ : Loc Cert.TableIdeal.nD Cert.TableIdeal.τ Cert.TableIdeal.sig) → Buf (Elt Ideal) ℓ) (g' : Dev Cert.TableIdeal.nD → PrngReg), Pre_RelayoutIdeal m →
    (∀ c : Dev Cert.RelayoutIdeal.nD,
      m' ((c.tc : Thread Cert.TableIdeal.nD Cert.TableIdeal.τ).loc Cert.TableIdeal.main_arg0) = m ((c.tc : Thread Cert.RelayoutIdeal.nD Cert.RelayoutIdeal.τ).loc Cert.RelayoutIdeal.main_arg0)) →
    ∃ (v0 : (c : Dev Cert.RelayoutIdeal.nD) → Buf (Elt Ideal) ((c.tc : Thread Cert.RelayoutIdeal.nD Cert.RelayoutIdeal.τ).loc Cert.RelayoutIdeal.main_v0)),
      θ_run (Cert.RelayoutIdeal.defs (F := Ideal)) (onTc (τ := Cert.RelayoutIdeal.τ) (Cert.RelayoutIdeal.main (F := Ideal))) ⟨m, fun _ => 0, g⟩ (fun r => ∀ c : Dev Cert.RelayoutIdeal.nD,
          r.2.mem ((c.tc : Thread Cert.RelayoutIdeal.nD Cert.RelayoutIdeal.τ).loc Cert.RelayoutIdeal.main_v0) = v0 c
          ∧ r.2.mem ((c.tc : Thread Cert.RelayoutIdeal.nD Cert.RelayoutIdeal.τ).loc Cert.RelayoutIdeal.main_arg0) = m ((c.tc : Thread Cert.RelayoutIdeal.nD Cert.RelayoutIdeal.τ).loc Cert.RelayoutIdeal.main_arg0))
      ∧ θ_run (Cert.TableIdeal.defs (F := Ideal)) (onTc (τ := Cert.TableIdeal.τ) (Cert.TableIdeal.main (F := Ideal))) ⟨m', fun _ => 0, g'⟩ (fun r => ∀ c : Dev Cert.TableIdeal.nD,
          r.2.mem ((c.tc : Thread Cert.TableIdeal.nD Cert.TableIdeal.τ).loc Cert.TableIdeal.main_v16) = v0 c
          ∧ r.2.mem ((c.tc : Thread Cert.TableIdeal.nD Cert.TableIdeal.τ).loc Cert.TableIdeal.main_arg0) = m' ((c.tc : Thread Cert.TableIdeal.nD Cert.TableIdeal.τ).loc Cert.TableIdeal.main_arg0))

def Claim : Prop :=
  ∃ (hKernel : Cert.Kernel.Facts) (hKernelIdeal : Cert.KernelIdeal.Facts) (hReferenceIdeal : Cert.ReferenceIdeal.Facts) (hRelayout : Cert.Relayout.Facts) (hRelayoutIdeal : Cert.RelayoutIdeal.Facts) (hTableIdeal : Cert.TableIdeal.Facts) (hPre_bags_in_order : Cert.Pre_bags_in_order.Facts),
    quiescent_Kernel (hKernel := hKernel)
    ∧ quiescent_KernelIdeal (hKernelIdeal := hKernelIdeal)
    ∧ quiescent_KernelIdeal_pre_bags_in_order (hKernelIdeal := hKernelIdeal) (hPre_bags_in_order := hPre_bags_in_order)
    ∧ quiescent_ReferenceIdeal (hReferenceIdeal := hReferenceIdeal)
    ∧ quiescent_ReferenceIdeal_pre_bags_in_order (hReferenceIdeal := hReferenceIdeal) (hPre_bags_in_order := hPre_bags_in_order)
    ∧ quiescent_Relayout (hRelayout := hRelayout)
    ∧ quiescent_RelayoutIdeal (hRelayoutIdeal := hRelayoutIdeal)
    ∧ quiescent_TableIdeal (hTableIdeal := hTableIdeal)
    ∧ preserves_Kernel_KernelIdeal
    ∧ algebraic_KernelIdeal_ReferenceIdeal_pre_bags_in_order (hKernelIdeal := hKernelIdeal) (hReferenceIdeal := hReferenceIdeal) (hPre_bags_in_order := hPre_bags_in_order)
    ∧ preserves_Relayout_RelayoutIdeal
    ∧ algebraic_RelayoutIdeal_TableIdeal (hRelayoutIdeal := hRelayoutIdeal) (hTableIdeal := hTableIdeal)
-- ==== Pre_bags_in_order.lean ====
abbrev S196608x128 : Shape := ⟨2, ![196608, 128]⟩
abbrev S12288x128 : Shape := ⟨2, ![12288, 128]⟩
abbrev S6656 : Shape := ⟨1, ![6656]⟩
abbrev S6655 : Shape := ⟨1, ![6655]⟩
abbrev S_ : Shape := ⟨0, ![]⟩
abbrev S6654 : Shape := ⟨1, ![6654]⟩

class Facts : Prop where
  slices_S6656_S6655_1 : S6656.Slices ![1] S6655
  bcast_S_S12288x128 : S_.BroadcastsInDim S12288x128 (![] : Fin 0 → Fin S12288x128.rank)
  bcast_S_S6655 : S_.BroadcastsInDim S6655 (![] : Fin 0 → Fin S6655.rank)
  slices_S6655_S6654_0 : S6655.Slices ![0] S6654
  slices_S6655_S6654_1 : S6655.Slices ![1] S6654

variable [Facts]

def fn {F : FTy → Type} [FloatOps F] (main_arg0 : IVec S196608x128 32) (main_arg1 : FVec F S12288x128 .f32) (main_arg2 : IVec S6656 32) : IVec S12288x128 1 × IVec S6655 1 × IVec S6654 1 :=
  let main_v0 : IVec S6655 32 := (extractStridedSlice S6655 ![1] · slices_S6656_S6655_1) main_arg2
  let main_v1 : FVec F S12288x128 .f32 := Host.absf main_arg1
  let main_cst : FVec F S_ .f32 := constant S_ .f32 0x7F800000#32
  let main_v2 : FVec F S12288x128 .f32 := broadcastInDim S12288x128 ![] bcast_S_S12288x128 main_cst
  let main_v3 : IVec S12288x128 1 := cmpf .olt main_v1 main_v2
  let main_c : IVec S_ 32 := constantI S_ 32 0#32
  let main_v4 : IVec S6655 32 := broadcastInDim S6655 ![] bcast_S_S6655 main_c
  let main_v5 : IVec S6655 1 := cmpi .sge main_v0 main_v4
  let main_v6 : IVec S6654 32 := (extractStridedSlice S6654 ![0] · slices_S6655_S6654_0) main_v0
  let main_v7 : IVec S6654 32 := (extractStridedSlice S6654 ![1] · slices_S6655_S6654_1) main_v0
  let main_v8 : IVec S6654 1 := cmpi .sle main_v6 main_v7
  (main_v3, main_v5, main_v8)
-- ==== Kernel.lean ====
abbrev S196608x128 : Shape := ⟨2, ![196608, 128]⟩
abbrev S12288x128 : Shape := ⟨2, ![12288, 128]⟩
abbrev S6656 : Shape := ⟨1, ![6656]⟩
abbrev S_ : Shape := ⟨0, ![]⟩
abbrev S1 : Shape := ⟨1, ![1]⟩
abbrev S6655 : Shape := ⟨1, ![6655]⟩
abbrev S52x128 : Shape := ⟨2, ![52, 128]⟩
abbrev S52x1 : Shape := ⟨2, ![52, 1]⟩
abbrev S52 : Shape := ⟨1, ![52]⟩
abbrev S64x393216 : Shape := ⟨2, ![64, 393216]⟩
abbrev S64x6656 : Shape := ⟨2, ![64, 6656]⟩
abbrev S1024x128 : Shape := ⟨2, ![1024, 128]⟩
abbrev S64x128 : Shape := ⟨2, ![64, 128]⟩
abbrev S64x2048 : Shape := ⟨2, ![64, 2048]⟩
abbrev S52x64x128 : Shape := ⟨3, ![52, 64, 128]⟩
abbrev S128x128 : Shape := ⟨2, ![128, 128]⟩
abbrev S16x128 : Shape := ⟨2, ![16, 128]⟩
abbrev S1x128 : Shape := ⟨2, ![1, 128]⟩
abbrev S192x2048 : Shape := ⟨2, ![192, 2048]⟩
abbrev S2048x128 : Shape := ⟨2, ![2048, 128]⟩
abbrev S192x128 : Shape := ⟨2, ![192, 128]⟩
abbrev S1x64x128 : Shape := ⟨3, ![1, 64, 128]⟩

abbrev nBuf : Space → Nat
  | .hbm => 17
  | .vmem => 11
  | .smem => 2
  | _ => 0

abbrev bufTy : (tb : Table) → Fin (tcTables nBuf tb) → BufTy
  | .hbm, ⟨0, _⟩ => ⟨S196608x128, .i32⟩
  | .hbm, ⟨1, _⟩ => ⟨S12288x128, .f32⟩
  | .hbm, ⟨2, _⟩ => ⟨S6656, .i32⟩
  | .hbm, ⟨3, _⟩ => ⟨S_, .i32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S6655, .i32⟩
  | .hbm, ⟨8, _⟩ => ⟨S6656, .i32⟩
  | .hbm, ⟨9, _⟩ => ⟨S6655, .i32⟩
  | .hbm, ⟨10, _⟩ => ⟨S6656, .i32⟩
  | .hbm, ⟨11, _⟩ => ⟨S52x128, .i32⟩
  | .hbm, ⟨12, _⟩ => ⟨S52x1, .i32⟩
  | .hbm, ⟨13, _⟩ => ⟨S52x128, .i32⟩
  | .hbm, ⟨14, _⟩ => ⟨S52x128, .i32⟩
  | .hbm, ⟨15, _⟩ => ⟨S64x393216, .bf16⟩
  | .hbm, ⟨16, _⟩ => ⟨S64x6656, .bf16⟩
  | .local _ .vmem, ⟨0, _⟩ => ⟨S1024x128, .i32⟩
  | .local _ .vmem, ⟨1, _⟩ => ⟨S1024x128, .i32⟩
  | .local _ .vmem, ⟨2, _⟩ => ⟨S64x128, .f32⟩
  | .local _ .vmem, ⟨3, _⟩ => ⟨S64x128, .f32⟩
  | .local _ .vmem, ⟨4, _⟩ => ⟨S52x128, .i32⟩
  | .local _ .vmem, ⟨5, _⟩ => ⟨S52x128, .i32⟩
  | .local _ .vmem, ⟨6, _⟩ => ⟨S64x2048, .bf16⟩
  | .local _ .vmem, ⟨7, _⟩ => ⟨S64x2048, .bf16⟩
  | .local _ .vmem, ⟨8, _⟩ => ⟨S64x6656, .bf16⟩
  | .local _ .vmem, ⟨9, _⟩ => ⟨S64x2048, .f32⟩
  | .local _ .vmem, ⟨10, _⟩ => ⟨S52x64x128, .f32⟩
  | .local _ .smem, ⟨0, _⟩ => ⟨S52, .i32⟩
  | .local _ .smem, ⟨1, _⟩ => ⟨S1, .i32⟩
  | _, _ => ⟨S196608x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![192], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (v544 : BitVec 32) : Fin 2 → Nat :=
  let v545 : Index := Scalar.indexCast v544
  let c0_133 : Index := 0#32
  ![v545.toNat, 0]

def k0_off2 (v544 : BitVec 32) : Fin 3 → Nat :=
  let v560 : Index := Scalar.indexCast v544
  let c0_135 : Index := 0#32
  let c0_136 : Index := 0#32
  ![v560.toNat, 0, 0]

def k0_chk1 (v544 : BitVec 32) : Prop :=
  (∀ a, (k0_off1 v544) a + S1x128.size a ≤ S52x128.size a) ∧
  (∀ a, (k0_off2 v544) a + S1x64x128.size a ≤ S52x64x128.size a)
theorem k0_off1_inb : ∀ (v544 : BitVec 32) (k0_hw1 : k0_chk1 v544), ∀ a, (k0_off1 v544) a + S1x128.size a ≤ S52x128.size a := fun v544 k0_hw1 => k0_hw1.1
theorem k0_off2_inb : ∀ (v544 : BitVec 32) (k0_hw1 : k0_chk1 v544), ∀ a, (k0_off2 v544) a + S1x64x128.size a ≤ S52x64x128.size a := fun v544 k0_hw1 => k0_hw1.2

def k0_off3 (arg11 : BitVec 32) : Fin 1 → Nat :=
  let v578 : Index := Scalar.indexCast arg11
  ![v578.toNat]

def k0_chk2 (arg11 : BitVec 32) : Prop :=
  (∀ a, (k0_off3 arg11) a + S1.size a ≤ S52.size a)
theorem k0_off3_inb : ∀ (arg11 : BitVec 32) (k0_hw2 : k0_chk2 arg11), ∀ a, (k0_off3 arg11) a + S1.size a ≤ S52.size a := fun arg11 k0_hw2 => k0_hw2

def k0_off4 (arg11 : BitVec 32) : Fin 2 → Nat :=
  let c1_i32 : BitVec 32 := 1#32
  let v578 : BitVec 32 := Scalar.addi arg11 c1_i32
  let v579 : Index := Scalar.indexCast v578
  let c0_141 : Index := 0#32
  ![v579.toNat, 0]

def k0_off5 (arg11 : BitVec 32) : Fin 3 → Nat :=
  let c1_i32 : BitVec 32 := 1#32
  let v578 : BitVec 32 := Scalar.addi arg11 c1_i32
  let v594 : Index := Scalar.indexCast v578
  let c0_144 : Index := 0#32
  let c0_145 : Index := 0#32
  ![v594.toNat, 0, 0]

def k0_chk3 (arg11 : BitVec 32) : Prop :=
  (∀ a, (k0_off4 arg11) a + S1x128.size a ≤ S52x128.size a) ∧
  (∀ a, (k0_off5 arg11) a + S1x64x128.size a ≤ S52x64x128.size a)
theorem k0_off4_inb : ∀ (arg11 : BitVec 32) (k0_hw3 : k0_chk3 arg11), ∀ a, (k0_off4 arg11) a + S1x128.size a ≤ S52x128.size a := fun arg11 k0_hw3 => k0_hw3.1
theorem k0_off5_inb : ∀ (arg11 : BitVec 32) (k0_hw3 : k0_chk3 arg11), ∀ a, (k0_off5 arg11) a + S1x64x128.size a ≤ S52x64x128.size a := fun arg11 k0_hw3 => k0_hw3.2

def k0_cond2 (i : grid0.Coords) : BitVec 1 :=
  let arg0 : BitVec 32 := BitVec.ofNat 32 (i 0).val
  let c191_i32 : BitVec 32 := 191#32
  let v575 : BitVec 1 := Scalar.cmpi .eq arg0 c191_i32
  let v576 : BitVec 32 := Scalar.extui v575
  let c0_i32_140 : BitVec 32 := 0#32
  let v577 : BitVec 1 := Scalar.cmpi .ne v576 c0_i32_140
  v577

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S52x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S52x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x6656 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S196608x128 : Shape := ⟨2, ![196608, 128]⟩
abbrev S12288x128 : Shape := ⟨2, ![12288, 128]⟩
abbrev S6656 : Shape := ⟨1, ![6656]⟩
abbrev S1536x128x2x4x16 : Shape := ⟨5, ![1536, 128, 2, 4, 16]⟩
abbrev S4 : Shape := ⟨1, ![4]⟩
abbrev S_ : Shape := ⟨0, ![]⟩
abbrev S1536x128x2x4x16x1 : Shape := ⟨6, ![1536, 128, 2, 4, 16, 1]⟩
abbrev S1x1x1x1x1x4 : Shape := ⟨6, ![1, 1, 1, 1, 1, 4]⟩
abbrev S1536x128x2x4x16x4 : Shape := ⟨6, ![1536, 128, 2, 4, 16, 4]⟩
abbrev S1536x2x128x4x16x4 : Shape := ⟨6, ![1536, 2, 128, 4, 16, 4]⟩
abbrev S393216x4x64 : Shape := ⟨3, ![393216, 4, 64]⟩
abbrev S3072x4x128 : Shape := ⟨3, ![3072, 4, 128]⟩
abbrev S3072x128x4 : Shape := ⟨3, ![3072, 128, 4]⟩
abbrev S393216x4 : Shape := ⟨2, ![393216, 4]⟩
abbrev S393216x4x1 : Shape := ⟨3, ![393216, 4, 1]⟩
abbrev S393216x64 : Shape := ⟨2, ![393216, 64]⟩
abbrev S393216 : Shape := ⟨1, ![393216]⟩
abbrev S6655 : Shape := ⟨1, ![6655]⟩
abbrev S6655x1 : Shape := ⟨2, ![6655, 1]⟩
abbrev S6656x64 : Shape := ⟨2, ![6656, 64]⟩
abbrev S393216x1 : Shape := ⟨2, ![393216, 1]⟩
abbrev S64x393216 : Shape := ⟨2, ![64, 393216]⟩
abbrev S64x6656 : Shape := ⟨2, ![64, 6656]⟩

abbrev nBuf : Space → Nat
  | .hbm => 55
  | .vmem => 0
  | .smem => 0
  | _ => 0

abbrev bufTy : (tb : Table) → Fin (tcTables nBuf tb) → BufTy
  | .hbm, ⟨0, _⟩ => ⟨S196608x128, .i32⟩
  | .hbm, ⟨1, _⟩ => ⟨S12288x128, .f32⟩
  | .hbm, ⟨2, _⟩ => ⟨S6656, .i32⟩
  | .hbm, ⟨3, _⟩ => ⟨S1536x128x2x4x16, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S1536x128x2x4x16x1, .i32⟩
  | .hbm, ⟨12, _⟩ => ⟨S1x1x1x1x1x4, .i32⟩
  | .hbm, ⟨13, _⟩ => ⟨S1536x128x2x4x16x4, .i32⟩
  | .hbm, ⟨14, _⟩ => ⟨S1536x128x2x4x16x4, .i32⟩
  | .hbm, ⟨15, _⟩ => ⟨S1536x128x2x4x16x4, .i32⟩
  | .hbm, ⟨16, _⟩ => ⟨S_, .i32⟩
  | .hbm, ⟨17, _⟩ => ⟨S1536x128x2x4x16x4, .i32⟩
  | .hbm, ⟨18, _⟩ => ⟨S1536x128x2x4x16x4, .i32⟩
  | .hbm, ⟨19, _⟩ => ⟨S1536x2x128x4x16x4, .i32⟩
  | .hbm, ⟨20, _⟩ => ⟨S393216x4x64, .i32⟩
  | .hbm, ⟨21, _⟩ => ⟨S3072x4x128, .f32⟩
  | .hbm, ⟨22, _⟩ => ⟨S3072x128x4, .f32⟩
  | .hbm, ⟨23, _⟩ => ⟨S393216x4, .f32⟩
  | .hbm, ⟨24, _⟩ => ⟨S393216x4x64, .f32⟩
  | .hbm, ⟨25, _⟩ => ⟨S393216x4x1, .f32⟩
  | .hbm, ⟨26, _⟩ => ⟨S393216x4x64, .f32⟩
  | .hbm, ⟨27, _⟩ => ⟨S393216x4x64, .f32⟩
  | .hbm, ⟨28, _⟩ => ⟨S_, .f32⟩
  | .hbm, ⟨29, _⟩ => ⟨S393216x64, .f32⟩
  | .hbm, ⟨30, _⟩ => ⟨S_, .i32⟩
  | .hbm, ⟨31, _⟩ => ⟨S393216, .i32⟩
  | .hbm, ⟨32, _⟩ => ⟨S6655, .i32⟩
  | .hbm, ⟨33, _⟩ => ⟨S_, .i32⟩
  | .hbm, ⟨34, _⟩ => ⟨S6655, .i32⟩
  | .hbm, ⟨35, _⟩ => ⟨S6655, .i1⟩
  | .hbm, ⟨36, _⟩ => ⟨S_, .i32⟩
  | .hbm, ⟨37, _⟩ => ⟨S6655, .i32⟩
  | .hbm, ⟨38, _⟩ => ⟨S6655, .i32⟩
  | .hbm, ⟨39, _⟩ => ⟨S6655, .i32⟩
  | .hbm, ⟨40, _⟩ => ⟨S6655x1, .i32⟩
  | .hbm, ⟨41, _⟩ => ⟨S_, .i32⟩
  | .hbm, ⟨42, _⟩ => ⟨S6655, .i32⟩
  | .hbm, ⟨43, _⟩ => ⟨S393216, .i32⟩
  | .hbm, ⟨44, _⟩ => ⟨S_, .i32⟩
  | .hbm, ⟨45, _⟩ => ⟨S_, .i32⟩
  | .hbm, ⟨46, _⟩ => ⟨S393216, .i32⟩
  | .hbm, ⟨47, _⟩ => ⟨S_, .f32⟩
  | .hbm, ⟨48, _⟩ => ⟨S6656x64, .f32⟩
  | .hbm, ⟨49, _⟩ => ⟨S393216x1, .i32⟩
  | .hbm, ⟨50, _⟩ => ⟨S6656x64, .f32⟩
  | .hbm, ⟨51, _⟩ => ⟨S393216x64, .bf16⟩
  | .hbm, ⟨52, _⟩ => ⟨S64x393216, .bf16⟩
  | .hbm, ⟨53, _⟩ => ⟨S6656x64, .bf16⟩
  | .hbm, ⟨54, _⟩ => ⟨S64x6656, .bf16⟩
  | _, _ => ⟨S196608x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_call0_call0_c : Ref sig .tc := ⟨.hbm, 44, rfl⟩
abbrev main_call0_call0_v0 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Relayout.lean ====
abbrev S64x4194304 : Shape := ⟨2, ![64, 4194304]⟩
abbrev S524288x128 : Shape := ⟨2, ![524288, 128]⟩
abbrev S64x16384 : Shape := ⟨2, ![64, 16384]⟩
abbrev S2048x128 : Shape := ⟨2, ![2048, 128]⟩
abbrev S16x16384 : Shape := ⟨2, ![16, 16384]⟩
abbrev S16x128 : Shape := ⟨2, ![16, 128]⟩
abbrev S128x128 : Shape := ⟨2, ![128, 128]⟩

abbrev nBuf : Space → Nat
  | .hbm => 2
  | .vmem => 4
  | .smem => 0
  | _ => 0

abbrev bufTy : (tb : Table) → Fin (tcTables nBuf tb) → BufTy
  | .hbm, ⟨0, _⟩ => ⟨S64x4194304, .i8⟩
  | .hbm, ⟨1, _⟩ => ⟨S524288x128, .i32⟩
  | .local _ .vmem, ⟨0, _⟩ => ⟨S64x16384, .i8⟩
  | .local _ .vmem, ⟨1, _⟩ => ⟨S64x16384, .i8⟩
  | .local _ .vmem, ⟨2, _⟩ => ⟨S2048x128, .i32⟩
  | .local _ .vmem, ⟨3, _⟩ => ⟨S2048x128, .i32⟩
  | _, _ => ⟨S64x4194304, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== TableIdeal.lean ====
abbrev S64x4194304 : Shape := ⟨2, ![64, 4194304]⟩
abbrev S16x4x4194304 : Shape := ⟨3, ![16, 4, 4194304]⟩
abbrev S_ : Shape := ⟨0, ![]⟩
abbrev S4 : Shape := ⟨1, ![4]⟩
abbrev S4x1 : Shape := ⟨2, ![4, 1]⟩
abbrev S1x4x1 : Shape := ⟨3, ![1, 4, 1]⟩
abbrev S16x4194304 : Shape := ⟨2, ![16, 4194304]⟩
abbrev S16x4096x8x128 : Shape := ⟨4, ![16, 4096, 8, 128]⟩
abbrev S4096x128x8x16 : Shape := ⟨4, ![4096, 128, 8, 16]⟩
abbrev S524288x128 : Shape := ⟨2, ![524288, 128]⟩

abbrev nBuf : Space → Nat
  | .hbm => 22
  | .vmem => 0
  | .smem => 0
  | _ => 0

abbrev bufTy : (tb : Table) → Fin (tcTables nBuf tb) → BufTy
  | .hbm, ⟨0, _⟩ => ⟨S64x4194304, .i8⟩
  | .hbm, ⟨1, _⟩ => ⟨S64x4194304, .i32⟩
  | .hbm, ⟨2, _⟩ => ⟨S16x4x4194304, .i32⟩
  | .hbm, ⟨3, _⟩ => ⟨S_, .i32⟩
  | .hbm, ⟨4, _⟩ => ⟨S16x4x4194304, .i32⟩
  | .hbm, ⟨5, _⟩ => ⟨S16x4x4194304, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4x1, .i32⟩
  | .hbm, ⟨14, _⟩ => ⟨S1x4x1, .i32⟩
  | .hbm, ⟨15, _⟩ => ⟨S16x4x4194304, .i32⟩
  | .hbm, ⟨16, _⟩ => ⟨S16x4x4194304, .i32⟩
  | .hbm, ⟨17, _⟩ => ⟨S_, .i32⟩
  | .hbm, ⟨18, _⟩ => ⟨S16x4194304, .i32⟩
  | .hbm, ⟨19, _⟩ => ⟨S16x4096x8x128, .i32⟩
  | .hbm, ⟨20, _⟩ => ⟨S4096x128x8x16, .i32⟩
  | .hbm, ⟨21, _⟩ => ⟨S524288x128, .i32⟩
  | _, _ => ⟨S64x4194304, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.Lib.Own.lean ====
/-
  Loads and stores of an owned memref, stated by the values it holds. A load at a rectangle reads `View.ld` of those
  values there; an unmasked store at a unit-stride rectangle leaves the values with the payload put over the
  rectangle (`VecWindow.put`); a word load of scalar memory reads the one element its rectangle names.
-/
module

public import Idealize.ShloMosaic.Lib.VecWindow
public import Idealize.ShloMosaic.Lib.Pipeline.Value
public import Idealize.ShloMosaic.Lib.Tactic

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load at a rectangle of a memref owned at `X`: the program continues at `X` read there. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    owns c m q X
      ⊢ iprop((owns c m q X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  iapply (wp_load_rect 𝒱 c bd E (m := m) (r := r) (View.set_slice_subset _ _)) $$ H
  iintro H
  rw [show (m.access r).read Val f = View.ld X r from by subst hf; rfl]
  iapply Hk
  iexists f; isplitr; · ipureintro; exact hf
  iexact H

/-- A word load of scalar memory. -/
theorem wp_word_owns {m : Memref sig c.2.kind .smem s e} {r : Rect s} {hw : (m.access r).Loads} {x : r.shape.Idx}
    {k : Val e → Prog (TpuEff nD τ sig Val Λ c.2) α} {q : PosShare TreeShare} {X : s.Idx → Val e} :
    owns c m q X
      ⊢ iprop((owns c m q X -∗ wp frame (wpE defs 𝒱 c bd) E (k (View.ld X r x)) Q)
        -∗ wp frame (wpE defs 𝒱 c bd) E (smemLoadElt m r hw x k) Q) :=
  wp_load_owns 𝒱 c bd E (k := fun f => k (f x))

/-- An unmasked store at a unit-stride rectangle. -/
theorem wp_store_owns {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} {X : s.Idx → Val e} :
    owns c m fullShare X
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (wp_store 𝒱 c bd E (Q := Q) (w := w) (hx := hx) (hm := hm) (k := k) (Mk := Finset.univ) (f := f)
    (View.set_slice_subset _ _)) $$ H
  iintro H
  iapply Hk
  iexists ((m.access (Rect.unit off size inb)).write Val f w Finset.univ); isplitr
  · ipureintro
    have h := View.read_writes_cons_put m.view f inb w [] rfl
    rw [View.writes_nil, hf] at h
    exact h
  iexact H

/-- A load whose values are known. -/
theorem wp_load_to {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e}
    {v : r.shape.Idx → Val e} (h : View.ld X r = v) :
    owns c m q X
      ⊢ iprop((owns c m q X -∗ wp frame (wpE defs 𝒱 c bd) E (k v) Q)
        -∗ wp frame (wpE defs 𝒱 c bd) E (.op (.load m r.toLoadRect hl) k) Q) := by
  subst h; exact wp_load_owns 𝒱 c bd E

/-- A store whose result is known. -/
theorem wp_store_to {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} {X X' : s.Idx → Val e} (h : VecWindow.put X off size w = X') :
    owns c m fullShare X
      ⊢ iprop((owns c m fullShare X' -∗ wp frame (wpE defs 𝒱 c bd) E (k ⟨⟩) Q)
        -∗ wp frame (wpE defs 𝒱 c bd) E (.op (.store m (Rect.unit off size inb) w Finset.univ hx hm) k) Q) := by
  subst h; exact wp_store_owns 𝒱 c bd E

end Cert.Own

end
-- ==== Proof.K.Loop.lean ====
/-
  The kernel's `while` over the windows of the bag table. From window `w` with the accumulator `A`, as long as the
  window's last bag ends inside the step's tokens and `w < 51`, the next window is taken: its slab of the accumulator
  gains the window's product with the one-hot of its bags. `loopN` is that loop as a function of the number of trips
  still allowed, and `spec_le` says the loop's label meets the specification "from `w` and `A` the result is
  `loopN`'s", by induction on the trips left to window 51.
-/
module

public import proofs.«01_k».proof.Proof.Lib.Own
public import proofs.«01_k».proof.Proof.Gen.Kernel.Skeleton
public import proofs.«01_k».proof.Proof.Gen.Kernel.Launch
public import Idealize.ShloMosaic.Lib.Pipeline.Frame

@[expose] public section

noncomputable section

namespace Cert.Kernel.Hand

open Cert.Kernel Cert.Kernel.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The loops are met at variants counted by natural numbers. -/
abbrev 𝒱₀ : Variants := Variants.nat

/-! ## The window counter's side conditions and offsets -/

/-- A window number as the counter's word. -/
abbrev wd (w : ℕ) : BitVec 32 := BitVec.ofNat 32 w

/-- Row `w` lies in the tables of first and last tokens, and slab `w` in the scratch. -/
theorem chk1_of (w : ℕ) (h : w < 52) : k0_chk1 (wd w) :=
  (by decide : ∀ w : Fin 52, k0_chk1 (wd w.val)) ⟨w, h⟩
/-- Word `w` lies in the table of ends. -/
theorem chk2_of (w : ℕ) (h : w < 52) : k0_chk2 (wd w) :=
  (by decide : ∀ w : Fin 52, k0_chk2 (wd w.val)) ⟨w, h⟩
/-- The next window lies in the tables and the scratch. -/
theorem chk3_of (w : ℕ) (h : w < 51) : k0_chk3 (wd w) :=
  (by decide : ∀ w : Fin 51, k0_chk3 (wd w.val)) ⟨w, h⟩
/-- Where row `w` begins. -/
theorem off1_of (w : ℕ) (h : w < 52) : k0_off1 (wd w) = ![w, 0] :=
  (by decide : ∀ w : Fin 52, k0_off1 (wd w.val) = ![w.val, 0]) ⟨w, h⟩
/-- Where slab `w` begins. -/
theorem off2_of (w : ℕ) (h : w < 52) : k0_off2 (wd w) = ![w, 0, 0] :=
  (by decide : ∀ w : Fin 52, k0_off2 (wd w.val) = ![w.val, 0, 0]) ⟨w, h⟩
/-- Where word `w` is. -/
theorem off3_of (w : ℕ) (h : w < 52) : k0_off3 (wd w) = ![w] :=
  (by decide : ∀ w : Fin 52, k0_off3 (wd w.val) = ![w.val]) ⟨w, h⟩
/-- Where the next row begins. -/
theorem off4_of (w : ℕ) (h : w < 51) : k0_off4 (wd w) = ![w + 1, 0] :=
  (by decide : ∀ w : Fin 51, k0_off4 (wd w.val) = ![w.val + 1, 0]) ⟨w, h⟩
/-- Where the next slab begins. -/
theorem off5_of (w : ℕ) (h : w < 51) : k0_off5 (wd w) = ![w + 1, 0, 0] :=
  (by decide : ∀ w : Fin 51, k0_off5 (wd w.val) = ![w.val + 1, 0, 0]) ⟨w, h⟩
/-- Adding one to a window's number does not overflow. -/
theorem succ_of (w : ℕ) (h : w < 51) : Scalar.addi (wd w) 1#32 = wd (w + 1) :=
  (by decide : ∀ w : Fin 51, Scalar.addi (wd w.val) 1#32 = wd (w.val + 1)) ⟨w, h⟩
/-- The last window has no next one. -/
theorem stop_of : ¬Scalar.cmpi .slt (wd 51) 51#32 = 1#1 := by decide

/-! ## What a window's loads read -/

/-- The table's entry of window `w`: where its last bag ends. -/
def endAt (tbl : S52.Idx → BitVec 32) (w : ℕ) : BitVec 32 := tbl fun a => match a with
  | 0 => (⟨w % 52, Nat.mod_lt _ (by decide)⟩ : Fin 52)
/-- Row `w` of the bags' starts or ends. -/
def rowAt (X : Vec F S52x128 .i32) (w : ℕ) : Vec F S1x128 .i32 := fun y =>
  X (fun a => match a with
    | 0 => (⟨w % 52, Nat.mod_lt _ (by decide)⟩ : Fin 52)
    | 1 => (y 1 : Fin 128))
/-- Slab `w` of the accumulator. -/
def slabAt (A : Vec F S52x64x128 .f32) (w : ℕ) : Vec F S1x64x128 .f32 := fun y =>
  A (fun a => match a with
    | 0 => (⟨w % 52, Nat.mod_lt _ (by decide)⟩ : Fin 52)
    | 1 => (y 1 : Fin 64)
    | 2 => (y 2 : Fin 128))
/-- The accumulator with slab `w` replaced. -/
def setSlab (A : Vec F S52x64x128 .f32) (w : ℕ) (P : Vec F S1x64x128 .f32) : Vec F S52x64x128 .f32 :=
  VecWindow.put A ![w, 0, 0] S1x64x128.size P

/-- Loading a word of the table of ends. -/
theorem ld_end (tbl : S52.Idx → Elt F .i32) (w : ℕ) (h : w < 52) (off : Fin 1 → ℕ) (ho : off = ![w])
    (inb : ∀ a, off a + S1.size a ≤ S52.size a) (x : (Rect.unit (s := S52) off S1.size inb).shape.Idx) :
    View.ld tbl (Rect.unit (s := S52) off S1.size inb) x = endAt tbl w := by
  subst ho
  refine congrArg tbl (funext fun a => Fin.ext ?_)
  have hx : (x 0).val = 0 := by have := (x 0).isLt; exact Nat.lt_one_iff.mp this
  match a with
  | 0 => show w + 1 * (x 0).val = w % 52; rw [hx, Nat.mod_eq_of_lt h]; omega

/-- Loading a row of the first or last tokens. -/
theorem ld_row (X : Vec F S52x128 .i32) (w : ℕ) (h : w < 52) (off : Fin 2 → ℕ) (ho : off = ![w, 0])
    (inb : ∀ a, off a + S1x128.size a ≤ S52x128.size a) :
    View.ld X (Rect.unit (s := S52x128) off S1x128.size inb) = rowAt X w := by
  subst ho
  funext y
  refine congrArg X (funext fun a => Fin.ext ?_)
  have hy : (y 0).val = 0 := by have := (y 0).isLt; exact Nat.lt_one_iff.mp this
  match a with
  | 0 => show w + 1 * (y 0).val = w % 52; rw [hy, Nat.mod_eq_of_lt h]; omega
  | 1 => show 0 + 1 * (y 1).val = (y 1).val; omega

/-- Loading a slab of the scratch. -/
theorem ld_slab (A : Vec F S52x64x128 .f32) (w : ℕ) (h : w < 52) (off : Fin 3 → ℕ) (ho : off = ![w, 0, 0])
    (inb : ∀ a, off a + S1x64x128.size a ≤ S52x64x128.size a) :
    View.ld A (Rect.unit (s := S52x64x128) off S1x64x128.size inb) = slabAt A w := by
  subst ho
  funext y
  refine congrArg A (funext fun a => Fin.ext ?_)
  have hy : (y 0).val = 0 := by have := (y 0).isLt; exact Nat.lt_one_iff.mp this
  match a with
  | 0 => show w + 1 * (y 0).val = w % 52; rw [hy, Nat.mod_eq_of_lt h]; omega
  | 1 => show 0 + 1 * (y 1).val = (y 1).val; omega
  | 2 => show 0 + 1 * (y 2).val = (y 2).val; omega

/-! ## The loop as a function -/

/-- Whether the loop goes on from window `w`. -/
def more (i : grid0.Coords) (tbl : S52.Idx → BitVec 32) (w : ℕ) : Prop :=
  Scalar.andi (Scalar.cmpi .sle (endAt tbl w) (Scalar.addi (Scalar.muli (BitVec.ofNat 32 (i 0).val) 2048#32) 2048#32))
    (Scalar.cmpi .slt (wd w) 51#32) = 1#1

instance (i : grid0.Coords) (tbl : S52.Idx → BitVec 32) (w : ℕ) : Decidable (more i tbl w) := by
  unfold more; infer_instance

/-- After the last window there are no more. -/
theorem not_more_51 (i : grid0.Coords) (tbl : S52.Idx → BitVec 32) : ¬more i tbl 51 := by
  unfold more
  rw [show Scalar.cmpi .slt (wd 51) 51#32 = 0#1 from by decide]
  generalize Scalar.cmpi .sle _ _ = b
  revert b; decide

/-- One trip from window `w`: slab `w + 1` gains its window's product. -/
def trip (lo hi : Vec F S52x128 .i32) (v543 : IVec S2048x128 32) (v539 : FVec F S192x2048 .bf16) (w : ℕ)
    (A : Vec F S52x64x128 .f32) : Vec F S52x64x128 .f32 :=
  setSlab A (w + 1) (k0_pay1 v543 v539 (rowAt lo (w + 1)) (rowAt hi (w + 1)) (slabAt A (w + 1)))

/-- The loop with at most `k` trips. -/
def loopN (i : grid0.Coords) (tbl : S52.Idx → BitVec 32) (lo hi : Vec F S52x128 .i32) (v543 : IVec S2048x128 32)
    (v539 : FVec F S192x2048 .bf16) : ℕ → ℕ → Vec F S52x64x128 .f32 → ℕ × Vec F S52x64x128 .f32
  | 0, w, A => (w, A)
  | k + 1, w, A => if more i tbl w then loopN i tbl lo hi v543 v539 k (w + 1) (trip lo hi v543 v539 w A) else (w, A)

/-- The loop stops at a window up to 51. -/
theorem loopN_le (i : grid0.Coords) (tbl : S52.Idx → BitVec 32) (lo hi : Vec F S52x128 .i32) (v543 : IVec S2048x128 32)
    (v539 : FVec F S192x2048 .bf16) : ∀ k w A, w + k = 51 → (loopN i tbl lo hi v543 v539 k w A).1 ≤ 51
  | 0, w, A, h => by simp only [loopN]; omega
  | k + 1, w, A, h => by
    simp only [loopN]
    split
    · exact loopN_le i tbl lo hi v543 v539 k (w + 1) _ (by omega)
    · show w ≤ 51; omega

/-! ## The label's specification -/

section Label

variable (c : Dev nD) (q : PosShare TreeShare)
  (i : grid0.Coords) (v544 : BitVec 32) (k0_hw1 : k0_chk1 v544)
  (arg1 : Memref sig .tc .smem S52 .i32) (harg1 : arg1.IsWhole)
  (arg4 : Memref sig .tc .vmem S52x128 .i32) (harg4 : arg4.IsWhole)
  (arg5 : Memref sig .tc .vmem S52x128 .i32) (harg5 : arg5.IsWhole)
  (v543 : IVec S2048x128 32) (v539 : FVec F S192x2048 .bf16)
  (arg9 : Memref sig .tc .vmem S52x64x128 .f32) (harg9 : arg9.IsWhole)
  (tbl : S52.Idx → Elt F .i32) (lo hi : Vec F S52x128 .i32)

/-- What the loop holds: the table, the bags' starts and ends, and the accumulator at `A`. -/
def held (A : Vec F S52x64x128 .f32) : sProp 𝕄 :=
  iprop(owns (c : Thread nD τ) arg1 q tbl ∗ owns (c : Thread nD τ) arg4 fullShare lo
    ∗ owns (c : Thread nD τ) arg5 fullShare hi ∗ owns (c : Thread nD τ) arg9 fullShare A)

/-- From window `w` and accumulator `A`, with `k` trips to window 51. -/
def spec (k w : ℕ) (A : Vec F S52x64x128 .f32) : sWPT 𝕄 (BitVec 32) := do
  sWPT.consume (held c q arg1 arg4 arg5 arg9 tbl lo hi A)
  sWPT.produce (held c q arg1 arg4 arg5 arg9 tbl lo hi (loopN i tbl lo hi v543 v539 k w A).2)
  pure (wd (loopN i tbl lo hi v543 v539 k w A).1)

/-- The loop's specification, unfolded. -/
theorem spec_apply (k w : ℕ) (A : Vec F S52x64x128 .f32) (K : BitVec 32 → sProp 𝕄) :
    spec c q i arg1 arg4 arg5 v543 v539 arg9 tbl lo hi k w A K
      = iprop(held c q arg1 arg4 arg5 arg9 tbl lo hi A
          ∗ (held c q arg1 arg4 arg5 arg9 tbl lo hi (loopN i tbl lo hi v543 v539 k w A).2
            -∗ K (wd (loopN i tbl lo hi v543 v539 k w A).1))) := rfl

/-- The loop's body meets the specification. -/
theorem spec_le (E : Set ℕ) :
    ∀ k w, w + k = 51 → ∀ A K, spec c q i arg1 arg4 arg5 v543 v539 arg9 tbl lo hi k w A K
      ⊢ wp frame (wpE (defs₀ (F := F)) 𝒱₀ (c : Thread nD τ) (some k)) E
          (defs₀ (F := F) .tc 1 ⟨i, v544, k0_hw1, arg1, harg1, arg4, harg4, arg5, harg5, v543, v539, arg9, harg9, wd w⟩) K := by
  intro k
  induction k with
  | zero =>
    intro w hw A K
    rw [spec_apply]
    show _ ⊢ wp frame (wpE (defs₀ (F := F)) 𝒱₀ (c : Thread nD τ) (some 0)) E
      (cc0_while1 i v544 k0_hw1 arg1 harg1 arg4 harg4 arg5 harg5 v543 v539 arg9 harg9 (wd w)) K
    simp only [cc0_while1_eq_skeleton]; unfold cc0_while1_skel
    simp only [smemLoad, smemLoadElt, Prog.lift, Prog.bind_op, Prog.bind_ret, Prog.pure_eq_ret]
    unfold held
    iintro ⟨⟨H1, H4, H5, H9⟩, Hk⟩
    iapply (wp_assume 𝒱₀ (c : Thread nD τ) (some 0) E (chk2_of w (by omega)))
    iapply (wp_load_owns 𝒱₀ (c : Thread nD τ) (some 0) E) $$ H1; iintro H1
    rw [ld_end tbl w (by omega) _ (off3_of w (by omega))]
    obtain rfl : w = 51 := by omega
    have hm := not_more_51 i tbl
    unfold more at hm
    rw [if_neg hm]
    rw [wp_ret]; imodintro
    simp only [loopN]
    iapply Hk
    isplitl [H1]; · iexact H1
    isplitl [H4]; · iexact H4
    isplitl [H5]; · iexact H5
    iexact H9
  | succ k ih =>
    intro w hw A K
    rw [spec_apply]
    show _ ⊢ wp frame (wpE (defs₀ (F := F)) 𝒱₀ (c : Thread nD τ) (some (k + 1))) E
      (cc0_while1 i v544 k0_hw1 arg1 harg1 arg4 harg4 arg5 harg5 v543 v539 arg9 harg9 (wd w)) K
    simp only [cc0_while1_eq_skeleton]; unfold cc0_while1_skel
    simp only [smemLoad, smemLoadElt, Prog.lift, Prog.bind_op, Prog.bind_ret, Prog.pure_eq_ret]
    unfold held
    iintro ⟨⟨H1, H4, H5, H9⟩, Hk⟩
    iapply (wp_assume 𝒱₀ (c : Thread nD τ) (some (k + 1)) E (chk2_of w (by omega)))
    iapply (wp_load_owns 𝒱₀ (c : Thread nD τ) (some (k + 1)) E) $$ H1; iintro H1
    rw [ld_end tbl w (by omega) _ (off3_of w (by omega))]
    by_cases hm : more i tbl w
    · have hm' := hm
      unfold more at hm'
      rw [if_pos hm']
      simp only [Prog.lift, Prog.bind_op, Prog.bind_ret, Prog.pure_eq_ret]
      iapply (wp_assume 𝒱₀ (c : Thread nD τ) (some (k + 1)) E (chk3_of w (by omega)))
      iapply (wp_load_owns 𝒱₀ (c : Thread nD τ) (some (k + 1)) E) $$ H4; iintro H4
      iapply (wp_load_owns 𝒱₀ (c : Thread nD τ) (some (k + 1)) E) $$ H5; iintro H5
      iapply (wp_load_owns 𝒱₀ (c : Thread nD τ) (some (k + 1)) E) $$ H9; iintro H9
      iapply (wp_load_owns 𝒱₀ (c : Thread nD τ) (some (k + 1)) E) $$ H9; iintro H9
      iapply (wp_store_owns 𝒱₀ (c : Thread nD τ) (some (k + 1)) E) $$ H9; iintro H9
      rw [ld_row lo (w + 1) (by omega) _ (off4_of w (by omega)), ld_row hi (w + 1) (by omega) _ (off4_of w (by omega)),
        ld_slab A (w + 1) (by omega) _ (off5_of w (by omega)), off5_of w (by omega), succ_of w (by omega)]
      iapply (wp_call_spec 𝒱₀ (c : Thread nD τ) (some (k + 1)) E
        (spec c q i arg1 arg4 arg5 v543 v539 arg9 tbl lo hi k (w + 1) (trip lo hi v543 v539 w A)) k
        (fun u hu => by cases hu; exact Nat.lt_succ_self k)
        (ih (w + 1) (by omega) (trip lo hi v543 v539 w A)))
      rw [spec_apply]; unfold held
      isplitl [H1 H4 H5 H9]
      · isplitl [H1]; · iexact H1
        isplitl [H4]; · iexact H4
        isplitl [H5]; · iexact H5
        iexact H9
      iintro H
      rw [wp_ret]; imodintro
      simp only [loopN, if_pos hm]
      iapply Hk
      iexact H
    · have hm' := hm
      unfold more at hm'
      rw [if_neg hm']
      rw [wp_ret]; imodintro
      simp only [loopN, if_neg hm]
      iapply Hk
      isplitl [H1]; · iexact H1
      isplitl [H4]; · iexact H4
      isplitl [H5]; · iexact H5
      iexact H9

end Label

end Cert.Kernel.Hand

end
-- ==== Proof.K.Tiles.lean ====
/-
  The blocks one grid step writes. A step's 2048 tokens are sixteen blocks of 128 columns, block `j` computed from rows
  `128 (j / 2) …` of the gathered rows and rows `4 j …` of the weights; the e tile and its f32 copy are filled block by
  block, and at the last step the pooled tile is filled from the accumulator's 52 slabs, again 128 columns at a time.
-/
module

public import proofs.«01_k».proof.Proof.K.Loop

@[expose] public section

noncomputable section

namespace Cert.Kernel.Hand

open Cert.Kernel Cert.Kernel.Gen Cert.Own
open Idealize.ShloMosaic Idealize.ShloMosaic.TcCoe Idealize.ShloMosaic.Tactic

variable {F : FTy → Type} [FloatOps F]

/-! ## Loads -/

/-- Rows `128 g …` of the step's gathered rows. -/
def rowsAt (x0 : Vec F S1024x128 .i32) (g : ℕ) : Vec F S128x128 .i32 := fun y =>
  x0 (fun a => match a with
    | 0 => (⟨(128 * g + (y 0).val) % 1024, Nat.mod_lt _ (by decide)⟩ : Fin 1024)
    | 1 => (y 1 : Fin 128))
/-- Row `k` of the step's weights. -/
def wRow (x1 : Vec F S64x128 .f32) (k : ℕ) : Vec F S1x128 .f32 := fun y =>
  x1 (fun a => match a with
    | 0 => (⟨k % 64, Nat.mod_lt _ (by decide)⟩ : Fin 64)
    | 1 => (y 1 : Fin 128))

/-- Loading a group of 128 rows. -/
theorem ld_rows (x0 : Vec F S1024x128 .i32) (g n : ℕ) (hn : n = 128 * g) (h : g < 8)
    (inb : ∀ a, (![n, 0] : Fin 2 → ℕ) a + S128x128.size a ≤ S1024x128.size a) :
    View.ld x0 (Rect.unit (s := S1024x128) ![n, 0] S128x128.size inb) = rowsAt x0 g := by
  subst hn
  funext y
  refine congrArg x0 (funext fun a => Fin.ext ?_)
  have hy : (y 0).val < 128 := (y 0).isLt
  match a with
  | 0 => show 128 * g + 1 * (y 0).val = (128 * g + (y 0).val) % 1024; omega
  | 1 => show 0 + 1 * (y 1).val = (y 1).val; omega

/-- Loading a row of weights. -/
theorem ld_wrow (x1 : Vec F S64x128 .f32) (k : ℕ) (h : k < 64)
    (inb : ∀ a, (![k, 0] : Fin 2 → ℕ) a + S1x128.size a ≤ S64x128.size a) :
    View.ld x1 (Rect.unit (s := S64x128) ![k, 0] S1x128.size inb) = wRow x1 k := by
  funext y
  refine congrArg x1 (funext fun a => Fin.ext ?_)
  have hy : (y 0).val = 0 := by have := (y 0).isLt; exact Nat.lt_one_iff.mp this
  match a with
  | 0 => show k + 1 * (y 0).val = k % 64; rw [hy, Nat.mod_eq_of_lt h]; omega
  | 1 => show 0 + 1 * (y 1).val = (y 1).val; omega

/-! ## Filling a tile block by block -/

/-- The entry of a block of 128 columns that holds an entry of the tile. -/
abbrev inBlk {N : ℕ} (y : (⟨2, ![64, N]⟩ : Shape).Idx) : S64x128.Idx := fun a => match a with
  | 0 => (y 0 : Fin 64)
  | 1 => (⟨(y 1).val % 128, Nat.mod_lt _ (by decide)⟩ : Fin 128)

/-- The tile `X` with its first `n` blocks replaced by `B`'s. -/
def fillTo {α : Type} {N : ℕ} (n : ℕ) (X : (⟨2, ![64, N]⟩ : Shape).Idx → α) (B : ℕ → S64x128.Idx → α) :
    (⟨2, ![64, N]⟩ : Shape).Idx → α := fun y =>
  if (y 1).val < 128 * n then B ((y 1).val / 128) (inBlk y) else X y

/-- The tile all of whose blocks are `B`'s. -/
def filled {α : Type} {N : ℕ} (B : ℕ → S64x128.Idx → α) : (⟨2, ![64, N]⟩ : Shape).Idx → α := fun y =>
  B ((y 1).val / 128) (inBlk y)

/-- With no runs written the tile is as it was. -/
theorem fillTo_zero {α : Type} {N : ℕ} (X : (⟨2, ![64, N]⟩ : Shape).Idx → α) (B : ℕ → S64x128.Idx → α) :
    fillTo 0 X B = X := by funext y; unfold fillTo; rw [if_neg (by omega)]

/-- With every run written nothing is left of what the tile was. -/
theorem fillTo_all {α : Type} {N : ℕ} (n : ℕ) (h : N = 128 * n) (X : (⟨2, ![64, N]⟩ : Shape).Idx → α)
    (B : ℕ → S64x128.Idx → α) : fillTo n X B = filled B := by
  funext y; unfold fillTo filled
  have hy : (y 1).val < N := (y 1).isLt
  rw [if_pos (by omega)]

/-- Storing block `n` over a tile filled up to it fills one block more. -/
theorem fill_step {α : Type} {N : ℕ} (n o : ℕ) (ho : o = 128 * n) (X : (⟨2, ![64, N]⟩ : Shape).Idx → α)
    (B : ℕ → S64x128.Idx → α) (P : S64x128.Idx → α) (hP : P = B n) :
    VecWindow.put (s := ⟨2, ![64, N]⟩) (fillTo n X B) ![0, o] S64x128.size P = fillTo (n + 1) X B := by
  subst ho hP
  funext y
  unfold VecWindow.put
  have hy0 : (y 0).val < 64 := (y 0).isLt
  by_cases h : 128 * n ≤ (y 1).val ∧ (y 1).val < 128 * n + 128
  · have hh : ∀ a : Fin 2, (![0, 128 * n] : Fin 2 → ℕ) a ≤ (y a).val
        ∧ (y a).val < (![0, 128 * n] : Fin 2 → ℕ) a + S64x128.size a := fun a => match a with
      | 0 => ⟨Nat.zero_le _, by show (y 0).val < 0 + 64; omega⟩
      | 1 => h
    rw [dif_pos hh]
    unfold fillTo
    rw [if_pos (by omega), show (y 1).val / 128 = n by omega]
    refine congrArg (B n) (funext fun a => Fin.ext ?_)
    match a with
    | 0 => show (y 0).val - 0 = (y 0).val; omega
    | 1 => show (y 1).val - 128 * n = (y 1).val % 128; omega
  · rw [dif_neg fun hh => h (hh 1)]
    unfold fillTo
    by_cases hlt : (y 1).val < 128 * n
    · rw [if_pos hlt, if_pos (by omega)]
    · rw [if_neg hlt, if_neg (by omega)]

/-- A payload the size of the whole memref replaces it. -/
theorem put_all {α : Type} {s : Shape} (X : s.Idx → α) (off : Fin s.rank → ℕ) (ho : off = fun _ => 0) (P : s.Idx → α) :
    VecWindow.put X off s.size P = P := by
  subst ho
  funext y
  unfold VecWindow.put
  rw [dif_pos fun a => ⟨Nat.zero_le _, by have := (y a).isLt; omega⟩]
  refine congrArg P (funext fun a => Fin.ext ?_)
  show (y a).val - 0 = (y a).val; omega

/-! ## The step's blocks -/

/-- Block `j` of the embeddings, as stored in f32. -/
def eB32 (x0 : Vec F S1024x128 .i32) (x1 : Vec F S64x128 .f32) (j : ℕ) : S64x128.Idx → Elt F .f32 :=
  if j % 2 = 0 then k0_pay53 (rowsAt x0 (j / 2)) (wRow x1 (4 * j)) (wRow x1 (4 * j + 1)) (wRow x1 (4 * j + 2)) (wRow x1 (4 * j + 3))
  else k0_pay57 (k0_pay51 (rowsAt x0 (j / 2))) (k0_pay55 (rowsAt x0 (j / 2))) (wRow x1 (4 * j)) (wRow x1 (4 * j + 1))
    (wRow x1 (4 * j + 2)) (wRow x1 (4 * j + 3))

/-- Block `j` of the embeddings, as stored in bf16. -/
def eB16 (x0 : Vec F S1024x128 .i32) (x1 : Vec F S64x128 .f32) (j : ℕ) : S64x128.Idx → Elt F .bf16 :=
  if j % 2 = 0 then k0_pay54 (rowsAt x0 (j / 2)) (wRow x1 (4 * j)) (wRow x1 (4 * j + 1)) (wRow x1 (4 * j + 2)) (wRow x1 (4 * j + 3))
  else k0_pay58 (k0_pay51 (rowsAt x0 (j / 2))) (k0_pay55 (rowsAt x0 (j / 2))) (wRow x1 (4 * j)) (wRow x1 (4 * j + 1))
    (wRow x1 (4 * j + 2)) (wRow x1 (4 * j + 3))

/-- The step's embeddings in f32. -/
def eTile32 (x0 : Vec F S1024x128 .i32) (x1 : Vec F S64x128 .f32) : Vec F S64x2048 .f32 := filled (N := 2048) (eB32 x0 x1)
/-- The step's embeddings in bf16: its block of the second result. -/
def eTile16 (x0 : Vec F S1024x128 .i32) (x1 : Vec F S64x128 .f32) : Vec F S64x2048 .bf16 := filled (N := 2048) (eB16 x0 x1)

/-- Block `w` of the pooled result, from an accumulator. -/
def pB (A : Vec F S52x64x128 .f32) (w : ℕ) : S64x128.Idx → Elt F .bf16 := k0_pay2 (slabAt A w)
/-- The pooled result from an accumulator. -/
def pTile (A : Vec F S52x64x128 .f32) : Vec F S64x6656 .bf16 := filled (N := 6656) (pB A)

/-! ## The step as a function -/

/-- The step is the first of the launch. -/
def first (i : grid0.Coords) : Prop :=
  Scalar.cmpi .ne (Scalar.extui (Scalar.cmpi .eq (BitVec.ofNat 32 (i 0).val) 0#32) : BitVec 32) 0#32 = 1#1

instance (i : grid0.Coords) : Decidable (first i) := by unfold first; infer_instance

/-- The accumulator a step starts from: zero at the first. -/
def acc0 (i : grid0.Coords) (A : Vec F S52x64x128 .f32) : Vec F S52x64x128 .f32 := if first i then k0_pay50 else A
/-- The window a step starts from: window 0 at the first. -/
def win0 (i : grid0.Coords) (w : ℕ) : ℕ := if first i then 0 else w

/-- A step's embeddings split in three bf16 parts. -/
def split3 (E : Vec F S64x2048 .f32) : FVec F S192x2048 .bf16 := k0_pay125 E (k0_pay123 E) (k0_pay124 E)
/-- The step's token numbers. -/
def toks (i : grid0.Coords) : IVec S2048x128 32 := k0_pay126 (BitVec.ofNat 32 (i 0).val)

/-- The accumulator once the step's first window gained its product. -/
def acc1 (i : grid0.Coords) (lo hi : Vec F S52x128 .i32) (E : Vec F S64x2048 .f32) (w : ℕ) (A : Vec F S52x64x128 .f32) :
    Vec F S52x64x128 .f32 :=
  setSlab A w (k0_pay127 (BitVec.ofNat 32 (i 0).val) E (k0_pay123 E) (k0_pay124 E) (rowAt lo w) (rowAt hi w) (slabAt A w))

/-- A step's window and accumulator, from those it starts with. -/
def stepOf (i : grid0.Coords) (tbl : S52.Idx → BitVec 32) (x0 : Vec F S1024x128 .i32) (x1 : Vec F S64x128 .f32)
    (lo hi : Vec F S52x128 .i32) (s : ℕ × Vec F S52x64x128 .f32) : ℕ × Vec F S52x64x128 .f32 :=
  loopN i tbl lo hi (toks i) (split3 (eTile32 x0 x1)) (51 - win0 i s.1) (win0 i s.1)
    (acc1 i lo hi (eTile32 x0 x1) (win0 i s.1) (acc0 i s.2))

/-- The window a step starts at is one of the 52. -/
theorem win0_le (i : grid0.Coords) (w : ℕ) (h : w ≤ 51) : win0 i w ≤ 51 := by
  unfold win0; split <;> omega

/-- The window a step ends at is one of the 52. -/
theorem stepOf_le (i : grid0.Coords) (tbl : S52.Idx → BitVec 32) (x0 : Vec F S1024x128 .i32) (x1 : Vec F S64x128 .f32)
    (lo hi : Vec F S52x128 .i32) (s : ℕ × Vec F S52x64x128 .f32) (h : s.1 ≤ 51) :
    (stepOf i tbl x0 x1 lo hi s).1 ≤ 51 :=
  loopN_le i tbl lo hi _ _ _ _ _ (by have := win0_le i s.1 h; omega)

end Cert.Kernel.Hand

end
-- ==== Proof.K.Flush.lean ====
/-
  The last step's copy of the accumulator into the pooled tile.
-/
module

public import proofs.«01_k».proof.Proof.K.Tiles

@[expose] public section

set_option maxRecDepth 65536

noncomputable section

namespace Cert.Kernel.Hand

open Cert.Kernel Cert.Kernel.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

set_option maxHeartbeats 8000000 in
/-- The last step's copy of the accumulator's 52 slabs into the pooled tile. -/
theorem flush_run (c : Dev nD) (i : grid0.Coords) (arg1 : Memref sig .tc .smem S52 .i32) (harg1 : arg1.IsWhole) (arg2 : Memref sig .tc .vmem S1024x128 .i32) (harg2 : arg2.IsWhole) (arg3 : Memref sig .tc .vmem S64x128 .f32) (harg3 : arg3.IsWhole) (arg4 : Memref sig .tc .vmem S52x128 .i32) (harg4 : arg4.IsWhole) (arg5 : Memref sig .tc .vmem S52x128 .i32) (harg5 : arg5.IsWhole) (arg6 : Memref sig .tc .vmem S64x2048 .bf16) (harg6 : arg6.IsWhole) (arg7 : Memref sig .tc .vmem S64x6656 .bf16) (harg7 : arg7.IsWhole) (arg8 : Memref sig .tc .vmem S64x2048 .f32) (harg8 : arg8.IsWhole) (arg9 : Memref sig .tc .vmem S52x64x128 .f32) (harg9 : arg9.IsWhole) (arg10 : Memref sig .tc .smem S1 .i32) (harg10 : arg10.IsWhole) (X7 : Vec F S64x6656 .bf16) (A : Vec F S52x64x128 .f32)
    (K : PUnit → sProp 𝕄) {rest : PUnit → Prog (TpuEff nD τ sig (Elt F) (Λ₀ F) .tc) PUnit} :
    iprop(owns (c : Thread nD τ) arg7 fullShare X7 ∗ owns (c : Thread nD τ) arg9 fullShare A
      ∗ (owns (c : Thread nD τ) arg7 fullShare (pTile A) ∗ owns (c : Thread nD τ) arg9 fullShare A -∗ wp frame (wpE (defs₀ (F := F)) 𝒱₀ (c : Thread nD τ) none) Set.univ (rest ⟨⟩) K))
    ⊢ wp frame (wpE (defs₀ (F := F)) 𝒱₀ (c : Thread nD τ) none) Set.univ ((do
        k0_part1 i arg1 harg1 arg2 harg2 arg3 harg3 arg4 harg4 arg5 harg5 arg6 harg6 arg7 harg7 arg8 harg8 arg9 harg9 arg10 harg10
        k0_part2 i arg1 harg1 arg2 harg2 arg3 harg3 arg4 harg4 arg5 harg5 arg6 harg6 arg7 harg7 arg8 harg8 arg9 harg9 arg10 harg10
        k0_part3 i arg1 harg1 arg2 harg2 arg3 harg3 arg4 harg4 arg5 harg5 arg6 harg6 arg7 harg7 arg8 harg8 arg9 harg9 arg10 harg10
        k0_part4 i arg1 harg1 arg2 harg2 arg3 harg3 arg4 harg4 arg5 harg5 arg6 harg6 arg7 harg7 arg8 harg8 arg9 harg9 arg10 harg10
        k0_part5 i arg1 harg1 arg2 harg2 arg3 harg3 arg4 harg4 arg5 harg5 arg6 harg6 arg7 harg7 arg8 harg8 arg9 harg9 arg10 harg10
        k0_part6 i arg1 harg1 arg2 harg2 arg3 harg3 arg4 harg4 arg5 harg5 arg6 harg6 arg7 harg7 arg8 harg8 arg9 harg9 arg10 harg10
        k0_part7 i arg1 harg1 arg2 harg2 arg3 harg3 arg4 harg4 arg5 harg5 arg6 harg6 arg7 harg7 arg8 harg8 arg9 harg9 arg10 harg10
        k0_part8 i arg1 harg1 arg2 harg2 arg3 harg3 arg4 harg4 arg5 harg5 arg6 harg6 arg7 harg7 arg8 harg8 arg9 harg9 arg10 harg10
        let v770 : Vec F S1x64x128 .f32 ← Prog.lift (.load arg9 (Rect.unit (s := S52x64x128) ![48, 0, 0] S1x64x128.size inb_S52x64x128_S1x64x128_48_0_0).toLoadRect (View.loadsAt_vmem h_S1x64x128))
        let v773 : Vec F S64x128 .bf16 ← Prog.lift (.load arg7 (Rect.unit (s := S64x6656) ![0, 6144] S64x128.size inb_S64x6656_S64x128_0_6144).toLoadRect (View.loadsAt_vmem h_S64x128))
        Prog.lift (.store arg7 (Rect.unit (s := S64x6656) ![0, 6144] S64x128.size inb_S64x6656_S64x128_0_6144) (k0_pay128 v770) Finset.univ (View.stores_vmem h_S64x128 (harg7.storeExact_slice rfl _ packedbf16_S64x6656_S64x128_0_6144) (fun _ => rfl)) (.inl rfl))
        let v774 : Vec F S1x64x128 .f32 ← Prog.lift (.load arg9 (Rect.unit (s := S52x64x128) ![49, 0, 0] S1x64x128.size inb_S52x64x128_S1x64x128_49_0_0).toLoadRect (View.loadsAt_vmem h_S1x64x128))
        let v777 : Vec F S64x128 .bf16 ← Prog.lift (.load arg7 (Rect.unit (s := S64x6656) ![0, 6272] S64x128.size inb_S64x6656_S64x128_0_6272).toLoadRect (View.loadsAt_vmem h_S64x128))
        Prog.lift (.store arg7 (Rect.unit (s := S64x6656) ![0, 6272] S64x128.size inb_S64x6656_S64x128_0_6272) (k0_pay129 v774) Finset.univ (View.stores_vmem h_S64x128 (harg7.storeExact_slice rfl _ packedbf16_S64x6656_S64x128_0_6272) (fun _ => rfl)) (.inl rfl))
        let v778 : Vec F S1x64x128 .f32 ← Prog.lift (.load arg9 (Rect.unit (s := S52x64x128) ![50, 0, 0] S1x64x128.size inb_S52x64x128_S1x64x128_50_0_0).toLoadRect (View.loadsAt_vmem h_S1x64x128))
        let v781 : Vec F S64x128 .bf16 ← Prog.lift (.load arg7 (Rect.unit (s := S64x6656) ![0, 6400] S64x128.size inb_S64x6656_S64x128_0_6400).toLoadRect (View.loadsAt_vmem h_S64x128))
        Prog.lift (.store arg7 (Rect.unit (s := S64x6656) ![0, 6400] S64x128.size inb_S64x6656_S64x128_0_6400) (k0_pay130 v778) Finset.univ (View.stores_vmem h_S64x128 (harg7.storeExact_slice rfl _ packedbf16_S64x6656_S64x128_0_6400) (fun _ => rfl)) (.inl rfl))
        let v782 : Vec F S1x64x128 .f32 ← Prog.lift (.load arg9 (Rect.unit (s := S52x64x128) ![51, 0, 0] S1x64x128.size inb_S52x64x128_S1x64x128_51_0_0).toLoadRect (View.loadsAt_vmem h_S1x64x128))
        let v785 : Vec F S64x128 .bf16 ← Prog.lift (.load arg7 (Rect.unit (s := S64x6656) ![0, 6528] S64x128.size inb_S64x6656_S64x128_0_6528).toLoadRect (View.loadsAt_vmem h_S64x128))
        Prog.lift (.store arg7 (Rect.unit (s := S64x6656) ![0, 6528] S64x128.size inb_S64x6656_S64x128_0_6528) (k0_pay131 v782) Finset.univ (View.stores_vmem h_S64x128 (harg7.storeExact_slice rfl _ packedbf16_S64x6656_S64x128_0_6528) (fun _ => rfl)) (.inl rfl))
        pure ⟨⟩) >>= rest) K := by
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [smemLoad, smemLoadElt, Prog.lift, Prog.bind_op, Prog.bind_ret, Prog.pure_eq_ret]
  rw [← fillTo_zero (N := 6656) X7 (pB A)]
  iintro ⟨H7, H9, Hk⟩
  iapply (wp_load_to 𝒱₀ (c : Thread nD τ) none Set.univ (ld_slab A 0 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 0 0 rfl _ (pB A) _ rfl)) $$ H7; iintro H7
  iapply (wp_load_to 𝒱₀ (c : Thread nD τ) none Set.univ (ld_slab A 1 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 1 128 rfl _ (pB A) _ rfl)) $$ H7; iintro H7
  iapply (wp_load_to 𝒱₀ (c : Thread nD τ) none Set.univ (ld_slab A 2 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 2 256 rfl _ (pB A) _ rfl)) $$ H7; iintro H7
  iapply (wp_load_to 𝒱₀ (c : Thread nD τ) none Set.univ (ld_slab A 3 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 3 384 rfl _ (pB A) _ rfl)) $$ H7; iintro H7
  iapply (wp_load_to 𝒱₀ (c : Thread nD τ) none Set.univ (ld_slab A 4 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 4 512 rfl _ (pB A) _ rfl)) $$ H7; iintro H7
  iapply (wp_load_to 𝒱₀ (c : Thread nD τ) none Set.univ (ld_slab A 5 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 5 640 rfl _ (pB A) _ rfl)) $$ H7; iintro H7
  iapply (wp_load_to 𝒱₀ (c : Thread nD τ) none Set.univ (ld_slab A 6 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 6 768 rfl _ (pB A) _ rfl)) $$ H7; iintro H7
  iapply (wp_load_to 𝒱₀ (c : Thread nD τ) none Set.univ (ld_slab A 7 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 7 896 rfl _ (pB A) _ rfl)) $$ H7; iintro H7
  iapply (wp_load_to 𝒱₀ (c : Thread nD τ) none Set.univ (ld_slab A 8 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 8 1024 rfl _ (pB A) _ rfl)) $$ H7; iintro H7
  iapply (wp_load_to 𝒱₀ (c : Thread nD τ) none Set.univ (ld_slab A 9 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 9 1152 rfl _ (pB A) _ rfl)) $$ H7; iintro H7
  iapply (wp_load_to 𝒱₀ (c : Thread nD τ) none Set.univ (ld_slab A 10 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 10 1280 rfl _ (pB A) _ rfl)) $$ H7; iintro H7
  iapply (wp_load_to 𝒱₀ (c : Thread nD τ) none Set.univ (ld_slab A 11 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 11 1408 rfl _ (pB A) _ rfl)) $$ H7; iintro H7
  iapply (wp_load_to 𝒱₀ (c : Thread nD τ) none Set.univ (ld_slab A 12 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 12 1536 rfl _ (pB A) _ rfl)) $$ H7; iintro H7
  iapply (wp_load_to 𝒱₀ (c : Thread nD τ) none Set.univ (ld_slab A 13 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 13 1664 rfl _ (pB A) _ rfl)) $$ H7; iintro H7
  iapply (wp_load_to 𝒱₀ (c : Thread nD τ) none Set.univ (ld_slab A 14 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 14 1792 rfl _ (pB A) _ rfl)) $$ H7; iintro H7
  iapply (wp_load_to 𝒱₀ (c : Thread nD τ) none Set.univ (ld_slab A 15 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 15 1920 rfl _ (pB A) _ rfl)) $$ H7; iintro H7
  iapply (wp_load_to 𝒱₀ (c : Thread nD τ) none Set.univ (ld_slab A 16 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 16 2048 rfl _ (pB A) _ rfl)) $$ H7; iintro H7
  iapply (wp_load_to 𝒱₀ (c : Thread nD τ) none Set.univ (ld_slab A 17 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 17 2176 rfl _ (pB A) _ rfl)) $$ H7; iintro H7
  iapply (wp_load_to 𝒱₀ (c : Thread nD τ) none Set.univ (ld_slab A 18 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 18 2304 rfl _ (pB A) _ rfl)) $$ H7; iintro H7
  iapply (wp_load_to 𝒱₀ (c : Thread nD τ) none Set.univ (ld_slab A 19 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 19 2432 rfl _ (pB A) _ rfl)) $$ H7; iintro H7
  iapply (wp_load_to 𝒱₀ (c : Thread nD τ) none Set.univ (ld_slab A 20 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 20 2560 rfl _ (pB A) _ rfl)) $$ H7; iintro H7
  iapply (wp_load_to 𝒱₀ (c : Thread nD τ) none Set.univ (ld_slab A 21 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 21 2688 rfl _ (pB A) _ rfl)) $$ H7; iintro H7
  iapply (wp_load_to 𝒱₀ (c : Thread nD τ) none Set.univ (ld_slab A 22 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 22 2816 rfl _ (pB A) _ rfl)) $$ H7; iintro H7
  iapply (wp_load_to 𝒱₀ (c : Thread nD τ) none Set.univ (ld_slab A 23 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 23 2944 rfl _ (pB A) _ rfl)) $$ H7; iintro H7
  iapply (wp_load_to 𝒱₀ (c : Thread nD τ) none Set.univ (ld_slab A 24 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 24 3072 rfl _ (pB A) _ rfl)) $$ H7; iintro H7
  iapply (wp_load_to 𝒱₀ (c : Thread nD τ) none Set.univ (ld_slab A 25 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 25 3200 rfl _ (pB A) _ rfl)) $$ H7; iintro H7
  iapply (wp_load_to 𝒱₀ (c : Thread nD τ) none Set.univ (ld_slab A 26 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 26 3328 rfl _ (pB A) _ rfl)) $$ H7; iintro H7
  iapply (wp_load_to 𝒱₀ (c : Thread nD τ) none Set.univ (ld_slab A 27 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 27 3456 rfl _ (pB A) _ rfl)) $$ H7; iintro H7
  iapply (wp_load_to 𝒱₀ (c : Thread nD τ) none Set.univ (ld_slab A 28 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 28 3584 rfl _ (pB A) _ rfl)) $$ H7; iintro H7
  iapply (wp_load_to 𝒱₀ (c : Thread nD τ) none Set.univ (ld_slab A 29 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 29 3712 rfl _ (pB A) _ rfl)) $$ H7; iintro H7
  iapply (wp_load_to 𝒱₀ (c : Thread nD τ) none Set.univ (ld_slab A 30 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 30 3840 rfl _ (pB A) _ rfl)) $$ H7; iintro H7
  iapply (wp_load_to 𝒱₀ (c : Thread nD τ) none Set.univ (ld_slab A 31 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 31 3968 rfl _ (pB A) _ rfl)) $$ H7; iintro H7
  iapply (wp_load_to 𝒱₀ (c : Thread nD τ) none Set.univ (ld_slab A 32 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 32 4096 rfl _ (pB A) _ rfl)) $$ H7; iintro H7
  iapply (wp_load_to 𝒱₀ (c : Thread nD τ) none Set.univ (ld_slab A 33 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 33 4224 rfl _ (pB A) _ rfl)) $$ H7; iintro H7
  iapply (wp_load_to 𝒱₀ (c : Thread nD τ) none Set.univ (ld_slab A 34 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 34 4352 rfl _ (pB A) _ rfl)) $$ H7; iintro H7
  iapply (wp_load_to 𝒱₀ (c : Thread nD τ) none Set.univ (ld_slab A 35 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 35 4480 rfl _ (pB A) _ rfl)) $$ H7; iintro H7
  iapply (wp_load_to 𝒱₀ (c : Thread nD τ) none Set.univ (ld_slab A 36 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 36 4608 rfl _ (pB A) _ rfl)) $$ H7; iintro H7
  iapply (wp_load_to 𝒱₀ (c : Thread nD τ) none Set.univ (ld_slab A 37 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 37 4736 rfl _ (pB A) _ rfl)) $$ H7; iintro H7
  iapply (wp_load_to 𝒱₀ (c : Thread nD τ) none Set.univ (ld_slab A 38 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 38 4864 rfl _ (pB A) _ rfl)) $$ H7; iintro H7
  iapply (wp_load_to 𝒱₀ (c : Thread nD τ) none Set.univ (ld_slab A 39 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 39 4992 rfl _ (pB A) _ rfl)) $$ H7; iintro H7
  iapply (wp_load_to 𝒱₀ (c : Thread nD τ) none Set.univ (ld_slab A 40 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 40 5120 rfl _ (pB A) _ rfl)) $$ H7; iintro H7
  iapply (wp_load_to 𝒱₀ (c : Thread nD τ) none Set.univ (ld_slab A 41 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 41 5248 rfl _ (pB A) _ rfl)) $$ H7; iintro H7
  iapply (wp_load_to 𝒱₀ (c : Thread nD τ) none Set.univ (ld_slab A 42 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 42 5376 rfl _ (pB A) _ rfl)) $$ H7; iintro H7
  iapply (wp_load_to 𝒱₀ (c : Thread nD τ) none Set.univ (ld_slab A 43 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 43 5504 rfl _ (pB A) _ rfl)) $$ H7; iintro H7
  iapply (wp_load_to 𝒱₀ (c : Thread nD τ) none Set.univ (ld_slab A 44 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 44 5632 rfl _ (pB A) _ rfl)) $$ H7; iintro H7
  iapply (wp_load_to 𝒱₀ (c : Thread nD τ) none Set.univ (ld_slab A 45 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 45 5760 rfl _ (pB A) _ rfl)) $$ H7; iintro H7
  iapply (wp_load_to 𝒱₀ (c : Thread nD τ) none Set.univ (ld_slab A 46 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 46 5888 rfl _ (pB A) _ rfl)) $$ H7; iintro H7
  iapply (wp_load_to 𝒱₀ (c : Thread nD τ) none Set.univ (ld_slab A 47 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 47 6016 rfl _ (pB A) _ rfl)) $$ H7; iintro H7
  iapply (wp_load_to 𝒱₀ (c : Thread nD τ) none Set.univ (ld_slab A 48 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 48 6144 rfl _ (pB A) _ rfl)) $$ H7; iintro H7
  iapply (wp_load_to 𝒱₀ (c : Thread nD τ) none Set.univ (ld_slab A 49 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 49 6272 rfl _ (pB A) _ rfl)) $$ H7; iintro H7
  iapply (wp_load_to 𝒱₀ (c : Thread nD τ) none Set.univ (ld_slab A 50 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 50 6400 rfl _ (pB A) _ rfl)) $$ H7; iintro H7
  iapply (wp_load_to 𝒱₀ (c : Thread nD τ) none Set.univ (ld_slab A 51 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 51 6528 rfl _ (pB A) _ rfl)) $$ H7; iintro H7
  rw [fillTo_all (N := 6656) 52 rfl _ (pB A)]
  iapply Hk
  isplitl [H7]; · iexact H7
  iexact H9

end Cert.Kernel.Hand

end
-- ==== Proof.K.Tail.lean ====
/-
  The last part of a step's program: from the step's embeddings the accumulation into the windows they meet, and at
  the launch's last step the pooled tile from the accumulator.
-/
module

public import proofs.«01_k».proof.Proof.K.Flush

@[expose] public section

set_option maxRecDepth 65536

noncomputable section

namespace Cert.Kernel.Hand

open Cert.Kernel Cert.Kernel.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- What the tail of a step holds, with the accumulator, the window's word and the pooled tile at given values. -/
def tailHeld (c : Dev nD) (q : PosShare TreeShare) (arg1 : Memref sig .tc .smem S52 .i32) (arg4 arg5 : Memref sig .tc .vmem S52x128 .i32)
    (arg7 : Memref sig .tc .vmem S64x6656 .bf16) (arg9 : Memref sig .tc .vmem S52x64x128 .f32) (arg10 : Memref sig .tc .smem S1 .i32)
    (tbl : S52.Idx → Elt F .i32) (lo hi : Vec F S52x128 .i32) (X7 : Vec F S64x6656 .bf16) (s : ℕ × Vec F S52x64x128 .f32) : sProp 𝕄 :=
  iprop(owns (c : Thread nD τ) arg1 q tbl ∗ owns (c : Thread nD τ) arg4 fullShare lo ∗ owns (c : Thread nD τ) arg5 fullShare hi ∗ owns (c : Thread nD τ) arg7 fullShare X7
    ∗ owns (c : Thread nD τ) arg9 fullShare s.2 ∗ owns (Val := Elt F) (c : Thread nD τ) arg10 fullShare (fun _ => wd s.1))

set_option maxHeartbeats 8000000 in
/-- The tail of a step, from window `w` and accumulator `A`. -/
theorem tail_run (c : Dev nD) (q : PosShare TreeShare) (i : grid0.Coords) (arg1 : Memref sig .tc .smem S52 .i32) (harg1 : arg1.IsWhole) (arg2 : Memref sig .tc .vmem S1024x128 .i32) (harg2 : arg2.IsWhole) (arg3 : Memref sig .tc .vmem S64x128 .f32) (harg3 : arg3.IsWhole) (arg4 : Memref sig .tc .vmem S52x128 .i32) (harg4 : arg4.IsWhole) (arg5 : Memref sig .tc .vmem S52x128 .i32) (harg5 : arg5.IsWhole) (arg6 : Memref sig .tc .vmem S64x2048 .bf16) (harg6 : arg6.IsWhole) (arg7 : Memref sig .tc .vmem S64x6656 .bf16) (harg7 : arg7.IsWhole) (arg8 : Memref sig .tc .vmem S64x2048 .f32) (harg8 : arg8.IsWhole) (arg9 : Memref sig .tc .vmem S52x64x128 .f32) (harg9 : arg9.IsWhole) (arg10 : Memref sig .tc .smem S1 .i32) (harg10 : arg10.IsWhole)
    (tbl : S52.Idx → Elt F .i32) (lo hi : Vec F S52x128 .i32) (X7 : Vec F S64x6656 .bf16) (E : Vec F S64x2048 .f32)
    (w : ℕ) (hw : w ≤ 51) (A : Vec F S52x64x128 .f32) (K : PUnit → sProp 𝕄) :
    iprop(tailHeld c q arg1 arg4 arg5 arg7 arg9 arg10 tbl lo hi X7 (w, A)
      ∗ (∀ s, ⌜s = loopN i tbl lo hi (toks i) (split3 E) (51 - w) w (acc1 i lo hi E w A)⌝
        -∗ tailHeld c q arg1 arg4 arg5 arg7 arg9 arg10 tbl lo hi (if k0_cond2 i = 1#1 then pTile s.2 else X7) s -∗ K ⟨⟩))
    ⊢ wp frame (wpE (defs₀ (F := F)) 𝒱₀ (c : Thread nD τ) none) Set.univ
      (k0_part22 i arg1 harg1 arg2 harg2 arg3 harg3 arg4 harg4 arg5 harg5 arg6 harg6 arg7 harg7 arg8 harg8 arg9 harg9 arg10 harg10 (BitVec.ofNat 32 (i 0).val) E (k0_pay123 E) (k0_pay124 E)) K := by
  simp only [k0_part22_eq_skeleton]; unfold k0_part22_skel
  simp only [smemLoad, smemLoadElt, Prog.lift, Prog.bind_op, Prog.bind_ret, Prog.pure_eq_ret]
  unfold tailHeld
  iintro ⟨⟨H1, H4, H5, H7, H9, H10⟩, Hk⟩
  iapply (wp_load_to 𝒱₀ (c : Thread nD τ) none Set.univ (v := fun _ => wd w) rfl) $$ H10; iintro H10
  iapply (wp_assume 𝒱₀ (c : Thread nD τ) none Set.univ (chk1_of w (by omega)))
  iapply (wp_load_to 𝒱₀ (c : Thread nD τ) none Set.univ (ld_row lo w (by omega) _ (off1_of w (by omega)) _)) $$ H4; iintro H4
  iapply (wp_load_to 𝒱₀ (c : Thread nD τ) none Set.univ (ld_row hi w (by omega) _ (off1_of w (by omega)) _)) $$ H5; iintro H5
  iapply (wp_load_to 𝒱₀ (c : Thread nD τ) none Set.univ (ld_slab A w (by omega) _ (off2_of w (by omega)) _)) $$ H9; iintro H9
  iapply (wp_load_owns 𝒱₀ (c : Thread nD τ) none Set.univ) $$ H9; iintro H9
  iapply (wp_store_owns 𝒱₀ (c : Thread nD τ) none Set.univ) $$ H9; iintro H9
  rw [off2_of w (by omega)]
  iapply (wp_call_spec 𝒱₀ (c : Thread nD τ) none Set.univ
    (spec c q i arg1 arg4 arg5 (toks i) (split3 E) arg9 tbl lo hi (51 - w) w (acc1 i lo hi E w A)) (51 - w)
    (fun u hu => nomatch hu)
    (spec_le c q i (wd w) (chk1_of w (by omega)) arg1 harg1 arg4 harg4 arg5 harg5 (toks i) (split3 E) arg9 harg9 tbl lo hi
      Set.univ (51 - w) w (by omega) (acc1 i lo hi E w A)))
  rw [spec_apply]; unfold held
  isplitl [H1 H4 H5 H9]
  · isplitl [H1]; · iexact H1
    isplitl [H4]; · iexact H4
    isplitl [H5]; · iexact H5
    iexact H9
  iintro ⟨H1, H4, H5, H9⟩
  generalize hs : loopN i tbl lo hi (toks i) (split3 E) (51 - w) w (acc1 i lo hi E w A) = s
  obtain ⟨w', A'⟩ := s
  ispecialize Hk $$ %((w', A') : ℕ × Vec F S52x64x128 .f32) %rfl
  iapply (wp_load_owns 𝒱₀ (c : Thread nD τ) none Set.univ) $$ H10; iintro H10
  iapply (wp_store_to 𝒱₀ (c : Thread nD τ) none Set.univ (put_all (s := S1) _ _ (funext fun a => match a with | 0 => rfl) _)) $$ H10; iintro H10
  by_cases hc : k0_cond2 i = 1#1
  · rw [dif_pos hc]
    iapply (flush_run c i arg1 harg1 arg2 harg2 arg3 harg3 arg4 harg4 arg5 harg5 arg6 harg6 arg7 harg7 arg8 harg8 arg9 harg9 arg10 harg10 X7 A')
    isplitl [H7]; · iexact H7
    isplitl [H9]; · iexact H9
    iintro ⟨H7, H9⟩
    rw [wp_ret]; imodintro
    rw [if_pos hc]
    iapply Hk
    isplitl [H1]; · iexact H1
    isplitl [H4]; · iexact H4
    isplitl [H5]; · iexact H5
    isplitl [H7]; · iexact H7
    isplitl [H9]; · iexact H9
    iexact H10
  · rw [dif_neg hc]
    simp only [Prog.bind_ret]
    rw [wp_ret]; imodintro
    rw [if_neg hc]
    iapply Hk
    isplitl [H1]; · iexact H1
    isplitl [H4]; · iexact H4
    isplitl [H5]; · iexact H5
    isplitl [H7]; · iexact H7
    isplitl [H9]; · iexact H9
    iexact H10

end Cert.Kernel.Hand

end
-- ==== Proof.K.Run.lean ====
/-
  The first part of a step's program: at the launch's first step the accumulator and the window are reset, and the
  step's sixteen blocks of embeddings are computed and stored.
-/
module

public import proofs.«01_k».proof.Proof.K.Tail

@[expose] public section

set_option maxRecDepth 65536

noncomputable section

namespace Cert.Kernel.Hand

open Cert.Kernel Cert.Kernel.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- What a step holds. -/
def stepHeld (c : Dev nD) (q : PosShare TreeShare) (arg1 : Memref sig .tc .smem S52 .i32) (arg2 : Memref sig .tc .vmem S1024x128 .i32) (arg3 : Memref sig .tc .vmem S64x128 .f32) (arg4 : Memref sig .tc .vmem S52x128 .i32) (arg5 : Memref sig .tc .vmem S52x128 .i32) (arg6 : Memref sig .tc .vmem S64x2048 .bf16) (arg7 : Memref sig .tc .vmem S64x6656 .bf16) (arg8 : Memref sig .tc .vmem S64x2048 .f32) (arg9 : Memref sig .tc .vmem S52x64x128 .f32) (arg10 : Memref sig .tc .smem S1 .i32)
    (tbl : S52.Idx → Elt F .i32) (x0 : Vec F S1024x128 .i32) (x1 : Vec F S64x128 .f32) (lo hi : Vec F S52x128 .i32)
    (X6 : Vec F S64x2048 .bf16) (X7 : Vec F S64x6656 .bf16) (X8 : Vec F S64x2048 .f32) (A : Vec F S52x64x128 .f32)
    (X10 : S1.Idx → Elt F .i32) : sProp 𝕄 :=
  iprop(owns (c : Thread nD τ) arg1 q tbl ∗ owns (c : Thread nD τ) arg2 fullShare x0 ∗ owns (c : Thread nD τ) arg3 fullShare x1
    ∗ owns (c : Thread nD τ) arg4 fullShare lo ∗ owns (c : Thread nD τ) arg5 fullShare hi ∗ owns (c : Thread nD τ) arg6 fullShare X6
    ∗ owns (c : Thread nD τ) arg7 fullShare X7 ∗ owns (c : Thread nD τ) arg8 fullShare X8
    ∗ owns (c : Thread nD τ) arg9 fullShare A ∗ owns (Val := Elt F) (c : Thread nD τ) arg10 fullShare X10)

/-- The reset at the first step. -/
theorem init_run (c : Dev nD) (i : grid0.Coords) (arg9 : Memref sig .tc .vmem S52x64x128 .f32) (arg10 : Memref sig .tc .smem S1 .i32)
    (A : Vec F S52x64x128 .f32) (X10 : S1.Idx → Elt F .i32) (w : ℕ) (h10 : ¬first i → X10 = fun _ => wd w) {β : Type} {R : Prog (TpuEff nD τ sig (Elt F) (Λ₀ F) .tc) β} (K : β → sProp 𝕄) :
    iprop(owns (c : Thread nD τ) arg9 fullShare A ∗ owns (Val := Elt F) (c : Thread nD τ) arg10 fullShare X10
      ∗ (owns (c : Thread nD τ) arg9 fullShare (acc0 i A) ∗ owns (Val := Elt F) (c : Thread nD τ) arg10 fullShare (fun _ => wd (win0 i w)) -∗ wp frame (wpE (defs₀ (F := F)) 𝒱₀ (c : Thread nD τ) none) Set.univ R K))
    ⊢ wp frame (wpE (defs₀ (F := F)) 𝒱₀ (c : Thread nD τ) none) Set.univ (show Prog (TpuEff nD τ sig (Elt F) (Λ₀ F) .tc) β from
      if k0_h1 : first i then do
          let v579 : Vec F S52x64x128 .f32 ← Prog.lift (.load arg9 (Rect.unit (s := S52x64x128) ![0, 0, 0] S52x64x128.size inb_S52x64x128_S52x64x128_0_0_0).toLoadRect (View.loadsAt_vmem h_S52x64x128))
          Prog.lift (.store arg9 (Rect.unit (s := S52x64x128) ![0, 0, 0] S52x64x128.size inb_S52x64x128_S52x64x128_0_0_0) (k0_pay50 (F := F)) Finset.univ (View.stores_vmem_bits_univ h_S52x64x128 rfl) (.inl rfl))
          let v582 : Elt F .i32 ← smemLoad arg10 (Rect.unit (s := S1) ![0] S1.size inb_S1_S1_0) numel1_S1 rfl
          Prog.lift (.store arg10 (Rect.unit (s := S1) ![0] S1.size inb_S1_S1_0) (fun _ => 0#32) Finset.univ (View.stores_smem_one rfl numel1_S1) (.inl rfl))
          R
        else do
          R) K := by
  iintro ⟨H9, H10, Hk⟩
  by_cases h : first i
  · rw [dif_pos h]
    simp only [smemLoad, smemLoadElt, Prog.lift, Prog.bind_op, Prog.bind_ret, Prog.pure_eq_ret]
    iapply (wp_load_owns 𝒱₀ (c : Thread nD τ) none Set.univ) $$ H9; iintro H9
    iapply (wp_store_to 𝒱₀ (c : Thread nD τ) none Set.univ (put_all (s := S52x64x128) _ _ (funext fun a => match a with | 0 => rfl | 1 => rfl | 2 => rfl) _)) $$ H9; iintro H9
    iapply (wp_load_owns 𝒱₀ (c : Thread nD τ) none Set.univ) $$ H10; iintro H10
    iapply (wp_store_to 𝒱₀ (c : Thread nD τ) none Set.univ (put_all (s := S1) _ _ (funext fun a => match a with | 0 => rfl) _)) $$ H10; iintro H10
    unfold acc0 win0
    rw [if_pos h, if_pos h]
    iapply Hk
    isplitl [H9]; · iexact H9
    iexact H10
  · rw [dif_neg h]
    obtain rfl := h10 h
    unfold acc0 win0
    rw [if_neg h, if_neg h]
    iapply Hk
    isplitl [H9]; · iexact H9
    iexact H10

set_option maxHeartbeats 16000000 in
/-- A step, from window `w` and accumulator `A` (anything at the first step). -/
theorem body_run (c : Dev nD) (q : PosShare TreeShare) (i : grid0.Coords) (arg1 : Memref sig .tc .smem S52 .i32) (harg1 : arg1.IsWhole) (arg2 : Memref sig .tc .vmem S1024x128 .i32) (harg2 : arg2.IsWhole) (arg3 : Memref sig .tc .vmem S64x128 .f32) (harg3 : arg3.IsWhole) (arg4 : Memref sig .tc .vmem S52x128 .i32) (harg4 : arg4.IsWhole) (arg5 : Memref sig .tc .vmem S52x128 .i32) (harg5 : arg5.IsWhole) (arg6 : Memref sig .tc .vmem S64x2048 .bf16) (harg6 : arg6.IsWhole) (arg7 : Memref sig .tc .vmem S64x6656 .bf16) (harg7 : arg7.IsWhole) (arg8 : Memref sig .tc .vmem S64x2048 .f32) (harg8 : arg8.IsWhole) (arg9 : Memref sig .tc .vmem S52x64x128 .f32) (harg9 : arg9.IsWhole) (arg10 : Memref sig .tc .smem S1 .i32) (harg10 : arg10.IsWhole)
    (tbl : S52.Idx → Elt F .i32) (x0 : Vec F S1024x128 .i32) (x1 : Vec F S64x128 .f32) (lo hi : Vec F S52x128 .i32)
    (X6 : Vec F S64x2048 .bf16) (X7 : Vec F S64x6656 .bf16) (X8 : Vec F S64x2048 .f32) (A : Vec F S52x64x128 .f32)
    (X10 : S1.Idx → Elt F .i32) (w : ℕ) (hw : w ≤ 51) (h10 : ¬first i → X10 = fun _ => wd w) (K : PUnit → sProp 𝕄) :
    iprop(stepHeld c q arg1 arg2 arg3 arg4 arg5 arg6 arg7 arg8 arg9 arg10 tbl x0 x1 lo hi X6 X7 X8 A X10
      ∗ (∀ s, ⌜s = stepOf i tbl x0 x1 lo hi (w, A)⌝
        -∗ stepHeld c q arg1 arg2 arg3 arg4 arg5 arg6 arg7 arg8 arg9 arg10 tbl x0 x1 lo hi (eTile16 x0 x1)
            (if k0_cond2 i = 1#1 then pTile s.2 else X7) (eTile32 x0 x1) s.2 (fun _ => wd s.1) -∗ K ⟨⟩))
    ⊢ wp frame (wpE (defs₀ (F := F)) 𝒱₀ (c : Thread nD τ) none) Set.univ (cc0_mix_pool i arg1 harg1 arg2 harg2 arg3 harg3 arg4 harg4 arg5 harg5 arg6 harg6 arg7 harg7 arg8 harg8 arg9 harg9 arg10 harg10) K := by
  simp only [cc0_mix_pool_eq_skeleton]; unfold cc0_mix_pool_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part9_skel k0_part10_skel k0_part11_skel k0_part12_skel k0_part13_skel k0_part14_skel k0_part15_skel k0_part16_skel k0_part17_skel k0_part18_skel k0_part19_skel k0_part20_skel k0_part21_skel
  simp only [smemLoad, smemLoadElt, Prog.lift, Prog.bind_op, Prog.bind_ret, Prog.pure_eq_ret]
  unfold stepHeld
  iintro ⟨⟨H1, H2, H3, H4, H5, H6, H7, H8, H9, H10⟩, Hk⟩
  rw [wp_bind]
  iapply (init_run c i arg9 arg10 A X10 w h10)
  isplitl [H9]; · iexact H9
  isplitl [H10]; · iexact H10
  iintro ⟨H9, H10⟩
  rw [← fillTo_zero (N := 2048) X6 (eB16 x0 x1), ← fillTo_zero (N := 2048) X8 (eB32 x0 x1)]
  iapply (wp_load_to 𝒱₀ (c : Thread nD τ) none Set.univ (ld_rows x0 0 0 rfl (by decide) _)) $$ H2; iintro H2
  iapply (wp_load_to 𝒱₀ (c : Thread nD τ) none Set.univ (ld_wrow x1 0 (by decide) _)) $$ H3; iintro H3
  iapply (wp_load_to 𝒱₀ (c : Thread nD τ) none Set.univ (ld_wrow x1 1 (by decide) _)) $$ H3; iintro H3
  iapply (wp_load_to 𝒱₀ (c : Thread nD τ) none Set.univ (ld_wrow x1 2 (by decide) _)) $$ H3; iintro H3
  iapply (wp_load_to 𝒱₀ (c : Thread nD τ) none Set.univ (ld_wrow x1 3 (by decide) _)) $$ H3; iintro H3
  iapply (wp_load_owns 𝒱₀ (c : Thread nD τ) none Set.univ) $$ H8; iintro H8
  iapply (wp_store_to 𝒱₀ (c : Thread nD τ) none Set.univ (fill_step (N := 2048) 0 0 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 0 0 rfl _ (eB16 x0 x1) _ rfl)) $$ H6; iintro H6
  rw [wp_ret]; imodintro
  dsimp only
  iapply (wp_load_to 𝒱₀ (c : Thread nD τ) none Set.univ (ld_wrow x1 4 (by decide) _)) $$ H3; iintro H3
  iapply (wp_load_to 𝒱₀ (c : Thread nD τ) none Set.univ (ld_wrow x1 5 (by decide) _)) $$ H3; iintro H3
  iapply (wp_load_to 𝒱₀ (c : Thread nD τ) none Set.univ (ld_wrow x1 6 (by decide) _)) $$ H3; iintro H3
  iapply (wp_load_to 𝒱₀ (c : Thread nD τ) none Set.univ (ld_wrow x1 7 (by decide) _)) $$ H3; iintro H3
  iapply (wp_load_owns 𝒱₀ (c : Thread nD τ) none Set.univ) $$ H8; iintro H8
  iapply (wp_store_to 𝒱₀ (c : Thread nD τ) none Set.univ (fill_step (N := 2048) 1 128 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 1 128 rfl _ (eB16 x0 x1) _ rfl)) $$ H6; iintro H6
  iapply (wp_load_to 𝒱₀ (c : Thread nD τ) none Set.univ (ld_rows x0 1 128 rfl (by decide) _)) $$ H2; iintro H2
  iapply (wp_load_to 𝒱₀ (c : Thread nD τ) none Set.univ (ld_wrow x1 8 (by decide) _)) $$ H3; iintro H3
  iapply (wp_load_to 𝒱₀ (c : Thread nD τ) none Set.univ (ld_wrow x1 9 (by decide) _)) $$ H3; iintro H3
  iapply (wp_load_to 𝒱₀ (c : Thread nD τ) none Set.univ (ld_wrow x1 10 (by decide) _)) $$ H3; iintro H3
  iapply (wp_load_to 𝒱₀ (c : Thread nD τ) none Set.univ (ld_wrow x1 11 (by decide) _)) $$ H3; iintro H3
  iapply (wp_load_owns 𝒱₀ (c : Thread nD τ) none Set.univ) $$ H8; iintro H8
  iapply (wp_store_to 𝒱₀ (c : Thread nD τ) none Set.univ (fill_step (N := 2048) 2 256 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 2 256 rfl _ (eB16 x0 x1) _ rfl)) $$ H6; iintro H6
  iapply (wp_load_to 𝒱₀ (c : Thread nD τ) none Set.univ (ld_wrow x1 12 (by decide) _)) $$ H3; iintro H3
  iapply (wp_load_to 𝒱₀ (c : Thread nD τ) none Set.univ (ld_wrow x1 13 (by decide) _)) $$ H3; iintro H3
  iapply (wp_load_to 𝒱₀ (c : Thread nD τ) none Set.univ (ld_wrow x1 14 (by decide) _)) $$ H3; iintro H3
  iapply (wp_load_to 𝒱₀ (c : Thread nD τ) none Set.univ (ld_wrow x1 15 (by decide) _)) $$ H3; iintro H3
  iapply (wp_load_owns 𝒱₀ (c : Thread nD τ) none Set.univ) $$ H8; iintro H8
  iapply (wp_store_to 𝒱₀ (c : Thread nD τ) none Set.univ (fill_step (N := 2048) 3 384 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 3 384 rfl _ (eB16 x0 x1) _ rfl)) $$ H6; iintro H6
  iapply (wp_load_to 𝒱₀ (c : Thread nD τ) none Set.univ (ld_rows x0 2 256 rfl (by decide) _)) $$ H2; iintro H2
  iapply (wp_load_to 𝒱₀ (c : Thread nD τ) none Set.univ (ld_wrow x1 16 (by decide) _)) $$ H3; iintro H3
  iapply (wp_load_to 𝒱₀ (c : Thread nD τ) none Set.univ (ld_wrow x1 17 (by decide) _)) $$ H3; iintro H3
  iapply (wp_load_to 𝒱₀ (c : Thread nD τ) none Set.univ (ld_wrow x1 18 (by decide) _)) $$ H3; iintro H3
  iapply (wp_load_to 𝒱₀ (c : Thread nD τ) none Set.univ (ld_wrow x1 19 (by decide) _)) $$ H3; iintro H3
  iapply (wp_load_owns 𝒱₀ (c : Thread nD τ) none Set.univ) $$ H8; iintro H8
  iapply (wp_store_to 𝒱₀ (c : Thread nD τ) none Set.univ (fill_step (N := 2048) 4 512 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 4 512 rfl _ (eB16 x0 x1) _ rfl)) $$ H6; iintro H6
  iapply (wp_load_to 𝒱₀ (c : Thread nD τ) none Set.univ (ld_wrow x1 20 (by decide) _)) $$ H3; iintro H3
  iapply (wp_load_to 𝒱₀ (c : Thread nD τ) none Set.univ (ld_wrow x1 21 (by decide) _)) $$ H3; iintro H3
  iapply (wp_load_to 𝒱₀ (c : Thread nD τ) none Set.univ (ld_wrow x1 22 (by decide) _)) $$ H3; iintro H3
  iapply (wp_load_to 𝒱₀ (c : Thread nD τ) none Set.univ (ld_wrow x1 23 (by decide) _)) $$ H3; iintro H3
  iapply (wp_load_owns 𝒱₀ (c : Thread nD τ) none Set.univ) $$ H8; iintro H8
  iapply (wp_store_to 𝒱₀ (c : Thread nD τ) none Set.univ (fill_step (N := 2048) 5 640 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 5 640 rfl _ (eB16 x0 x1) _ rfl)) $$ H6; iintro H6
  iapply (wp_load_to 𝒱₀ (c : Thread nD τ) none Set.univ (ld_rows x0 3 384 rfl (by decide) _)) $$ H2; iintro H2
  iapply (wp_load_to 𝒱₀ (c : Thread nD τ) none Set.univ (ld_wrow x1 24 (by decide) _)) $$ H3; iintro H3
  iapply (wp_load_to 𝒱₀ (c : Thread nD τ) none Set.univ (ld_wrow x1 25 (by decide) _)) $$ H3; iintro H3
  iapply (wp_load_to 𝒱₀ (c : Thread nD τ) none Set.univ (ld_wrow x1 26 (by decide) _)) $$ H3; iintro H3
  iapply (wp_load_to 𝒱₀ (c : Thread nD τ) none Set.univ (ld_wrow x1 27 (by decide) _)) $$ H3; iintro H3
  iapply (wp_load_owns 𝒱₀ (c : Thread nD τ) none Set.univ) $$ H8; iintro H8
  iapply (wp_store_to 𝒱₀ (c : Thread nD τ) none Set.univ (fill_step (N := 2048) 6 768 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 6 768 rfl _ (eB16 x0 x1) _ rfl)) $$ H6; iintro H6
  iapply (wp_load_to 𝒱₀ (c : Thread nD τ) none Set.univ (ld_wrow x1 28 (by decide) _)) $$ H3; iintro H3
  iapply (wp_load_to 𝒱₀ (c : Thread nD τ) none Set.univ (ld_wrow x1 29 (by decide) _)) $$ H3; iintro H3
  iapply (wp_load_to 𝒱₀ (c : Thread nD τ) none Set.univ (ld_wrow x1 30 (by decide) _)) $$ H3; iintro H3
  iapply (wp_load_to 𝒱₀ (c : Thread nD τ) none Set.univ (ld_wrow x1 31 (by decide) _)) $$ H3; iintro H3
  iapply (wp_load_owns 𝒱₀ (c : Thread nD τ) none Set.univ) $$ H8; iintro H8
  iapply (wp_store_to 𝒱₀ (c : Thread nD τ) none Set.univ (fill_step (N := 2048) 7 896 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 7 896 rfl _ (eB16 x0 x1) _ rfl)) $$ H6; iintro H6
  iapply (wp_load_to 𝒱₀ (c : Thread nD τ) none Set.univ (ld_rows x0 4 512 rfl (by decide) _)) $$ H2; iintro H2
  iapply (wp_load_to 𝒱₀ (c : Thread nD τ) none Set.univ (ld_wrow x1 32 (by decide) _)) $$ H3; iintro H3
  iapply (wp_load_to 𝒱₀ (c : Thread nD τ) none Set.univ (ld_wrow x1 33 (by decide) _)) $$ H3; iintro H3
  iapply (wp_load_to 𝒱₀ (c : Thread nD τ) none Set.univ (ld_wrow x1 34 (by decide) _)) $$ H3; iintro H3
  iapply (wp_load_to 𝒱₀ (c : Thread nD τ) none Set.univ (ld_wrow x1 35 (by decide) _)) $$ H3; iintro H3
  iapply (wp_load_owns 𝒱₀ (c : Thread nD τ) none Set.univ) $$ H8; iintro H8
  iapply (wp_store_to 𝒱₀ (c : Thread nD τ) none Set.univ (fill_step (N := 2048) 8 1024 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 8 1024 rfl _ (eB16 x0 x1) _ rfl)) $$ H6; iintro H6
  iapply (wp_load_to 𝒱₀ (c : Thread nD τ) none Set.univ (ld_wrow x1 36 (by decide) _)) $$ H3; iintro H3
  iapply (wp_load_to 𝒱₀ (c : Thread nD τ) none Set.univ (ld_wrow x1 37 (by decide) _)) $$ H3; iintro H3
  iapply (wp_load_to 𝒱₀ (c : Thread nD τ) none Set.univ (ld_wrow x1 38 (by decide) _)) $$ H3; iintro H3
  iapply (wp_load_to 𝒱₀ (c : Thread nD τ) none Set.univ (ld_wrow x1 39 (by decide) _)) $$ H3; iintro H3
  iapply (wp_load_owns 𝒱₀ (c : Thread nD τ) none Set.univ) $$ H8; iintro H8
  iapply (wp_store_to 𝒱₀ (c : Thread nD τ) none Set.univ (fill_step (N := 2048) 9 1152 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 9 1152 rfl _ (eB16 x0 x1) _ rfl)) $$ H6; iintro H6
  iapply (wp_load_to 𝒱₀ (c : Thread nD τ) none Set.univ (ld_rows x0 5 640 rfl (by decide) _)) $$ H2; iintro H2
  iapply (wp_load_to 𝒱₀ (c : Thread nD τ) none Set.univ (ld_wrow x1 40 (by decide) _)) $$ H3; iintro H3
  iapply (wp_load_to 𝒱₀ (c : Thread nD τ) none Set.univ (ld_wrow x1 41 (by decide) _)) $$ H3; iintro H3
  iapply (wp_load_to 𝒱₀ (c : Thread nD τ) none Set.univ (ld_wrow x1 42 (by decide) _)) $$ H3; iintro H3
  iapply (wp_load_to 𝒱₀ (c : Thread nD τ) none Set.univ (ld_wrow x1 43 (by decide) _)) $$ H3; iintro H3
  iapply (wp_load_owns 𝒱₀ (c : Thread nD τ) none Set.univ) $$ H8; iintro H8
  iapply (wp_store_to 𝒱₀ (c : Thread nD τ) none Set.univ (fill_step (N := 2048) 10 1280 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 10 1280 rfl _ (eB16 x0 x1) _ rfl)) $$ H6; iintro H6
  iapply (wp_load_to 𝒱₀ (c : Thread nD τ) none Set.univ (ld_wrow x1 44 (by decide) _)) $$ H3; iintro H3
  iapply (wp_load_to 𝒱₀ (c : Thread nD τ) none Set.univ (ld_wrow x1 45 (by decide) _)) $$ H3; iintro H3
  iapply (wp_load_to 𝒱₀ (c : Thread nD τ) none Set.univ (ld_wrow x1 46 (by decide) _)) $$ H3; iintro H3
  iapply (wp_load_to 𝒱₀ (c : Thread nD τ) none Set.univ (ld_wrow x1 47 (by decide) _)) $$ H3; iintro H3
  iapply (wp_load_owns 𝒱₀ (c : Thread nD τ) none Set.univ) $$ H8; iintro H8
  iapply (wp_store_to 𝒱₀ (c : Thread nD τ) none Set.univ (fill_step (N := 2048) 11 1408 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 11 1408 rfl _ (eB16 x0 x1) _ rfl)) $$ H6; iintro H6
  iapply (wp_load_to 𝒱₀ (c : Thread nD τ) none Set.univ (ld_rows x0 6 768 rfl (by decide) _)) $$ H2; iintro H2
  iapply (wp_load_to 𝒱₀ (c : Thread nD τ) none Set.univ (ld_wrow x1 48 (by decide) _)) $$ H3; iintro H3
  iapply (wp_load_to 𝒱₀ (c : Thread nD τ) none Set.univ (ld_wrow x1 49 (by decide) _)) $$ H3; iintro H3
  iapply (wp_load_to 𝒱₀ (c : Thread nD τ) none Set.univ (ld_wrow x1 50 (by decide) _)) $$ H3; iintro H3
  iapply (wp_load_to 𝒱₀ (c : Thread nD τ) none Set.univ (ld_wrow x1 51 (by decide) _)) $$ H3; iintro H3
  iapply (wp_load_owns 𝒱₀ (c : Thread nD τ) none Set.univ) $$ H8; iintro H8
  iapply (wp_store_to 𝒱₀ (c : Thread nD τ) none Set.univ (fill_step (N := 2048) 12 1536 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 12 1536 rfl _ (eB16 x0 x1) _ rfl)) $$ H6; iintro H6
  iapply (wp_load_to 𝒱₀ (c : Thread nD τ) none Set.univ (ld_wrow x1 52 (by decide) _)) $$ H3; iintro H3
  iapply (wp_load_to 𝒱₀ (c : Thread nD τ) none Set.univ (ld_wrow x1 53 (by decide) _)) $$ H3; iintro H3
  iapply (wp_load_to 𝒱₀ (c : Thread nD τ) none Set.univ (ld_wrow x1 54 (by decide) _)) $$ H3; iintro H3
  iapply (wp_load_to 𝒱₀ (c : Thread nD τ) none Set.univ (ld_wrow x1 55 (by decide) _)) $$ H3; iintro H3
  iapply (wp_load_owns 𝒱₀ (c : Thread nD τ) none Set.univ) $$ H8; iintro H8
  iapply (wp_store_to 𝒱₀ (c : Thread nD τ) none Set.univ (fill_step (N := 2048) 13 1664 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 13 1664 rfl _ (eB16 x0 x1) _ rfl)) $$ H6; iintro H6
  iapply (wp_load_to 𝒱₀ (c : Thread nD τ) none Set.univ (ld_rows x0 7 896 rfl (by decide) _)) $$ H2; iintro H2
  iapply (wp_load_to 𝒱₀ (c : Thread nD τ) none Set.univ (ld_wrow x1 56 (by decide) _)) $$ H3; iintro H3
  iapply (wp_load_to 𝒱₀ (c : Thread nD τ) none Set.univ (ld_wrow x1 57 (by decide) _)) $$ H3; iintro H3
  iapply (wp_load_to 𝒱₀ (c : Thread nD τ) none Set.univ (ld_wrow x1 58 (by decide) _)) $$ H3; iintro H3
  iapply (wp_load_to 𝒱₀ (c : Thread nD τ) none Set.univ (ld_wrow x1 59 (by decide) _)) $$ H3; iintro H3
  iapply (wp_load_owns 𝒱₀ (c : Thread nD τ) none Set.univ) $$ H8; iintro H8
  iapply (wp_store_to 𝒱₀ (c : Thread nD τ) none Set.univ (fill_step (N := 2048) 14 1792 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 14 1792 rfl _ (eB16 x0 x1) _ rfl)) $$ H6; iintro H6
  iapply (wp_load_to 𝒱₀ (c : Thread nD τ) none Set.univ (ld_wrow x1 60 (by decide) _)) $$ H3; iintro H3
  iapply (wp_load_to 𝒱₀ (c : Thread nD τ) none Set.univ (ld_wrow x1 61 (by decide) _)) $$ H3; iintro H3
  iapply (wp_load_to 𝒱₀ (c : Thread nD τ) none Set.univ (ld_wrow x1 62 (by decide) _)) $$ H3; iintro H3
  iapply (wp_load_to 𝒱₀ (c : Thread nD τ) none Set.univ (ld_wrow x1 63 (by decide) _)) $$ H3; iintro H3
  iapply (wp_load_owns 𝒱₀ (c : Thread nD τ) none Set.univ) $$ H8; iintro H8
  iapply (wp_store_to 𝒱₀ (c : Thread nD τ) none Set.univ (fill_step (N := 2048) 15 1920 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 15 1920 rfl _ (eB16 x0 x1) _ rfl)) $$ H6; iintro H6
  iapply (wp_load_to 𝒱₀ (c : Thread nD τ) none Set.univ (v := eTile32 x0 x1) ((View.ld_unit_zero (S := S64x2048) (funext fun a => match a with | 0 => rfl | 1 => rfl) _ _).trans
    (fillTo_all (N := 2048) 16 rfl _ (eB32 x0 x1)))) $$ H8; iintro H8
  rw [fillTo_all (N := 2048) 16 rfl _ (eB32 x0 x1), fillTo_all (N := 2048) 16 rfl _ (eB16 x0 x1)]
  rw [wp_bind]
  iapply (tail_run c q i arg1 harg1 arg2 harg2 arg3 harg3 arg4 harg4 arg5 harg5 arg6 harg6 arg7 harg7 arg8 harg8 arg9 harg9 arg10 harg10 tbl lo hi X7 (eTile32 x0 x1) (win0 i w) (win0_le i w hw) (acc0 i A))
  unfold tailHeld
  isplitl [H1 H4 H5 H7 H9 H10]
  · isplitl [H1]; · iexact H1
    isplitl [H4]; · iexact H4
    isplitl [H5]; · iexact H5
    isplitl [H7]; · iexact H7
    isplitl [H9]; · iexact H9
    iexact H10
  iintro %s %hs ⟨H1, H4, H5, H7, H9, H10⟩
  rw [wp_ret]; imodintro
  iapply Hk $$ %s %hs
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Kernel.Hand

end
-- ==== Proof.K.Data.lean ====
/-
  What the pipeline holds at each step: the arrays as the kernel finds them, what each step leaves in its outputs and in
  the scratch it carries to the next.
-/
module

public import proofs.«01_k».proof.Proof.K.Run
public import proofs.«01_k».proof.Proof.Gen.Kernel.Launch
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- Core `c`'s buffers when the kernel is entered: the host operations done. -/
def V (c : Dev nD) (b : Ref sig .tc) : Buf (Elt F) ((c.tc : Thread nD τ).loc b) :=
  StableHlo.after hostOps0 (fun b => m (c, b)) b

/-- The table the kernel prefetches: where each window of bags ends. -/
def adm : (p : Fin 1) → (pcfgs (F := F) p).Adm := fun _ =>
  ⟨fun | ⟨0, _⟩ => V m (0 : Dev nD) main_v8 | ⟨_ + 1, h⟩ => absurd h (by simp), trivial⟩

/-- The pipeline at that table. -/
abbrev cfg : Pipeline.Cfg sig (Λ₀ F) := cfg0 (F := F) (adm m 0)

/-- Window `w`'s block at step `t`, read off its array. -/
def iblk (c : Dev nD) (w : Fin 6) (t : Fin (cfg m).N) : (((cfg m).win w).xblock ((cfg m).grid.coords t)).Idx → Elt F ((cfg m).win w).elt :=
  (((cfg m).win w).blk t).view.read (Elt F) (V m c (Pipeline.arrRef spec0 w))

/-- The table's contents. -/
def tbl (c : Dev nD) : S52.Idx → Elt F .i32 := V m c main_v8

/-- The first step is the one with number 0. -/
theorem first_iff (t : Fin (cfg m).N) : first ((cfg m).grid.coords t) ↔ t.val % 192 = 0 :=
  (fun t => by
    have ht : t.val < 192 := Nat.lt_of_lt_of_eq t.isLt N_0
    have e0 : (grid0.coords t 0).val = t.val / 1 % 192 := Pipeline.Grid.coords_val t 0 (by decide) rfl
    simp only [first, e0]
    word_cmp
   : ∀ t : Fin grid0.N, first (grid0.coords t) ↔ t.val % 192 = 0) t

/-- The last step is the one with number 191. -/
theorem last_iff (t : Fin (cfg m).N) : k0_cond2 ((cfg m).grid.coords t) = 1#1 ↔ t.val % 192 = 191 :=
  (fun t => by
    have ht : t.val < 192 := Nat.lt_of_lt_of_eq t.isLt N_0
    have e0 : (grid0.coords t 0).val = t.val / 1 % 192 := Pipeline.Grid.coords_val t 0 (by decide) rfl
    simp only [k0_cond2, e0]
    word_cmp
   : ∀ t : Fin grid0.N, k0_cond2 (grid0.coords t) = 1#1 ↔ t.val % 192 = 191) t

/-- Step `t`'s effect on the window and the accumulator. -/
def stepAt (c : Dev nD) (t : Fin (cfg m).N) (s : ℕ × Vec F S52x64x128 .f32) : ℕ × Vec F S52x64x128 .f32 :=
  stepOf ((cfg m).grid.coords t) (tbl m c) (iblk m c 0 t) (iblk m c 1 t) (iblk m c 2 t) (iblk m c 3 t) s

/-- The window and the accumulator after step `n`. -/
def st (c : Dev nD) : (n : ℕ) → n < (cfg m).N → ℕ × Vec F S52x64x128 .f32
  | 0, h => stepAt m c ⟨0, h⟩ (0, k0_pay50)
  | n + 1, h => stepAt m c ⟨n + 1, h⟩ (st c n (Nat.lt_of_succ_lt h))

/-- The window reached after any step is one of the 52. -/
theorem st_le (c : Dev nD) : ∀ (n : ℕ) (h : n < (cfg m).N), (st m c n h).1 ≤ 51
  | 0, h => stepOf_le _ _ _ _ _ _ _ (Nat.zero_le _)
  | n + 1, h => stepOf_le _ _ _ _ _ _ _ (st_le c n _)

/-- The state after a step depends on the step's number alone. -/
theorem st_congr (c : Dev nD) (n n' : ℕ) (e : n = n') (h : n < (cfg m).N) (h' : n' < (cfg m).N) : st m c n h = st m c n' h' := by
  subst e; rfl

/-- The first step takes no notice of what it is given. -/
theorem stepAt_first (c : Dev nD) (t : Fin (cfg m).N) (h : first ((cfg m).grid.coords t)) (s s' : ℕ × Vec F S52x64x128 .f32) :
    stepAt m c t s = stepAt m c t s' := by
  unfold stepAt stepOf acc0 win0
  simp only [if_pos h]

/-- The scratch, whole. -/
abbrev scE : Memref sig .tc .vmem S64x2048 .f32 := Memref.whole cc0_scratch0
/-- The scratch holding the windows' sums. -/
abbrev scA : Memref sig .tc .vmem S52x64x128 .f32 := Memref.whole cc0_scratch1
/-- The scratch holding the window reached. -/
abbrev scW : Memref sig .tc .smem S1 .i32 := Memref.whole cc0_scratch2
/-- The table, whole. -/
abbrev tabM : Memref sig .tc .smem S52 .i32 := Memref.whole main_v8

/-- What is owned between the launch and the first step, spelled out: the three scratch buffers. -/
theorem PhiA_eq (c : Dev nD) :
    (Pipeline.ΦA spec0 c : sProp 𝕄)
      = iprop(iprop((∃ d, owns (c : Thread nD τ) scE fullShare d) ∗ (∃ d, owns (c : Thread nD τ) scA fullShare d)
          ∗ (∃ d, owns (Val := Elt F) (c : Thread nD τ) scW fullShare d)) ∗ (∃ r, prngReg c r)) := by
  unfold Pipeline.ΦA
  rw [scopedRest0_eq]
  simp only [scE, scA, scW, owns_whole]
  try rfl

/-- What is owned of the prefetched table, spelled out. -/
theorem PhiT_eq (c : Dev nD) :
    (Pipeline.ΦT (Val := Elt F) (U := UR sig nD τ) (τ := τ) pre0 (adm m 0).1 c : sProp 𝕄)
      = owns (Val := Elt F) (c : Thread nD τ) tabM fullShare.right (tbl m 0) := by
  rw [owns_whole]
  unfold Pipeline.ΦT Pipeline.prefHeld
  rw [show (Finset.univ : Finset (Fin pre0.K)) = {0} from rfl, bigSep_singleton]
  rfl

/-- What is held before step `n`: before the first the scratch at anything; afterwards the window and the accumulator as
    the step before left them. The table is held throughout. -/
def PhiS (c : Dev nD) : (n : ℕ) → n ≤ (cfg m).N → sProp 𝕄
  | 0, _ => iprop(Pipeline.ΦA spec0 c ∗ owns (Val := Elt F) (c : Thread nD τ) tabM fullShare.right (tbl m 0))
  | n + 1, hn => iprop(iprop(iprop((∃ d, owns (c : Thread nD τ) scE fullShare d) ∗ owns (c : Thread nD τ) scA fullShare (st m c n hn).2
          ∗ owns (Val := Elt F) (c : Thread nD τ) scW fullShare (fun _ => wd (st m c n hn).1)) ∗ (∃ r, prngReg c r))
        ∗ owns (Val := Elt F) (c : Thread nD τ) tabM fullShare.right (tbl m 0))

/-- Before the first step the invariant is what the launch hands over. -/
theorem PhiS_zero (c : Dev nD) (n : ℕ) (h : n ≤ (cfg m).N) (hz : n = 0) :
    PhiS m c n h = iprop(Pipeline.ΦA spec0 c ∗ owns (Val := Elt F) (c : Thread nD τ) tabM fullShare.right (tbl m 0)) := by
  subst hz; rfl

/-- After a step the invariant holds the scratch buffers at that step's state. -/
theorem PhiS_succ (c : Dev nD) (n : ℕ) (hn : n < (cfg m).N) :
    PhiS m c (n + 1) hn = iprop(iprop(iprop((∃ d, owns (c : Thread nD τ) scE fullShare d) ∗ owns (c : Thread nD τ) scA fullShare (st m c n hn).2
          ∗ owns (Val := Elt F) (c : Thread nD τ) scW fullShare (fun _ => wd (st m c n hn).1)) ∗ (∃ r, prngReg c r))
        ∗ owns (Val := Elt F) (c : Thread nD τ) tabM fullShare.right (tbl m 0)) := rfl

/-- Before any later step the invariant holds the scratch buffers at the state of the step before. -/
theorem PhiS_pos (c : Dev nD) (n : ℕ) (h : n ≤ (cfg m).N) (hz : n ≠ 0) :
    PhiS m c n h = iprop(iprop(iprop((∃ d, owns (c : Thread nD τ) scE fullShare d) ∗ owns (c : Thread nD τ) scA fullShare (st m c (n - 1) (by omega)).2
          ∗ owns (Val := Elt F) (c : Thread nD τ) scW fullShare (fun _ => wd (st m c (n - 1) (by omega)).1)) ∗ (∃ r, prngReg c r))
        ∗ owns (Val := Elt F) (c : Thread nD τ) tabM fullShare.right (tbl m 0)) := by
  cases n with
  | zero => exact absurd rfl hz
  | succ n => rfl

/-- The proof data: the inputs' blocks stay; a step leaves its embeddings, the last the pooled sums. -/
def dats (_ : Fin 1) (c : Dev nD) : Dat τ (Elt F) Unit ℕ (UR sig nD τ) ℕ (cfg m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (eTile16 (iblk m c 0 t) (iblk m c 1 t) : Vec F S64x2048 .bf16)
    | ⟨5, _⟩ => (pTile (st m c t.val t.isLt).2 : Vec F S64x6656 .bf16)
  Φ t := PhiS m c t.val (Nat.le_of_lt_succ t.isLt)
  q _ := fullShare
  owed _ := 0

/-- Each window's array starts as the launch left it. -/
theorem A_eq (c : Dev nD) (w : Fin 6) : (dats m 0 c).A w = V m c (Pipeline.arrRef spec0 w) := by
  dsimp only [dats]

/-- The invariant before a step, at the step's number. -/
theorem PhiS_castSucc (c : Dev nD) (t : Fin (cfg m).N) :
    (dats m 0 c).Φ t.castSucc = PhiS m c t.val (Nat.le_of_lt t.isLt) := by
  dsimp only [dats]; exact Pipeline.Dat.Φ_castSucc (PhiS m c) t

/-- The step leaves the block of rows as it was. -/
theorem after_0 (c : Dev nD) (t : Fin (cfg m).N) : (dats m 0 c).after 0 t = iblk m c 0 t := by dsimp only [dats]; rfl
/-- The step leaves the block of weights as it was. -/
theorem after_1 (c : Dev nD) (t : Fin (cfg m).N) : (dats m 0 c).after 1 t = iblk m c 1 t := by dsimp only [dats]; rfl
/-- The step leaves the bags' first tokens as they were. -/
theorem after_2 (c : Dev nD) (t : Fin (cfg m).N) : (dats m 0 c).after 2 t = iblk m c 2 t := by dsimp only [dats]; rfl
/-- The step leaves the bags' last tokens as they were. -/
theorem after_3 (c : Dev nD) (t : Fin (cfg m).N) : (dats m 0 c).after 3 t = iblk m c 3 t := by dsimp only [dats]; rfl
/-- The step leaves its tile of embeddings in the first result's block. -/
theorem after_4 (c : Dev nD) (t : Fin (cfg m).N) :
    (dats m 0 c).after 4 t = (eTile16 (iblk m c 0 t) (iblk m c 1 t) : Vec F S64x2048 .bf16) := by dsimp only [dats]; rfl
/-- What the step leaves in the second result's block. -/
theorem after_5 (c : Dev nD) (t : Fin (cfg m).N) :
    (dats m 0 c).after 5 t = (pTile (st m c t.val t.isLt).2 : Vec F S64x6656 .bf16) := by dsimp only [dats]; rfl

/-- The step finds its block of rows. -/
theorem before_0 (c : Dev nD) (t : Fin (cfg m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The step finds its block of weights. -/
theorem before_1 (c : Dev nD) (t : Fin (cfg m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The step finds the bags' first tokens. -/
theorem before_2 (c : Dev nD) (t : Fin (cfg m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- The step finds the bags' last tokens. -/
theorem before_3 (c : Dev nD) (t : Fin (cfg m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

end Cert.Kernel.Hand

end
-- ==== Proof.K.Launch.lean ====
/-
  The kernel's run: the step's triple at every point of the grid, and the launch.
-/
module

public import proofs.«01_k».proof.Proof.K.Data
public import Idealize.ShloMosaic.Lib.Claim

@[expose] public section

set_option maxRecDepth 16384

noncomputable section

namespace Cert.Kernel.Hand

open Cert.Kernel Cert.Kernel.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging memrefs at step `t`. -/
abbrev ms0 (t : Fin (cfg m).N) : Memref sig .tc .vmem S1024x128 .i32 := spec0_0.stage ((cfg m).slots t 0)
/-- The staging buffer of operand 0 is a whole buffer. -/
abbrev hs0 (t : Fin (cfg m).N) : (ms0 m t).IsWhole := hstage0_0 (((cfg m).slots t 0).cast nbuf0_0)
/-- The staging buffer of operand 1 at a step. -/
abbrev ms1 (t : Fin (cfg m).N) : Memref sig .tc .vmem S64x128 .f32 := spec0_1.stage ((cfg m).slots t 1)
/-- The staging buffer of operand 1 is a whole buffer. -/
abbrev hs1 (t : Fin (cfg m).N) : (ms1 m t).IsWhole := hstage0_1 (((cfg m).slots t 1).cast nbuf0_1)
/-- The staging buffer of operand 2 at a step. -/
abbrev ms2 (t : Fin (cfg m).N) : Memref sig .tc .vmem S52x128 .i32 := spec0_2.stage ((cfg m).slots t 2)
/-- The staging buffer of operand 2 is a whole buffer. -/
abbrev hs2 (t : Fin (cfg m).N) : (ms2 m t).IsWhole := hstage0_2 (((cfg m).slots t 2).cast nbuf0_2)
/-- The staging buffer of operand 3 at a step. -/
abbrev ms3 (t : Fin (cfg m).N) : Memref sig .tc .vmem S52x128 .i32 := spec0_3.stage ((cfg m).slots t 3)
/-- The staging buffer of operand 3 is a whole buffer. -/
abbrev hs3 (t : Fin (cfg m).N) : (ms3 m t).IsWhole := hstage0_3 (((cfg m).slots t 3).cast nbuf0_3)
/-- The staging buffer of operand 4 at a step. -/
abbrev ms4 (t : Fin (cfg m).N) : Memref sig .tc .vmem S64x2048 .bf16 := spec0_4.stage ((cfg m).slots t 4)
/-- The staging buffer of operand 4 is a whole buffer. -/
abbrev hs4 (t : Fin (cfg m).N) : (ms4 m t).IsWhole := hstage0_4 (((cfg m).slots t 4).cast nbuf0_4)
/-- The staging buffer of operand 5 at a step. -/
abbrev ms5 (t : Fin (cfg m).N) : Memref sig .tc .vmem S64x6656 .bf16 := spec0_5.stage ((cfg m).slots t 5)
/-- The staging buffer of operand 5 is a whole buffer. -/
abbrev hs5 (t : Fin (cfg m).N) : (ms5 m t).IsWhole := hstage0_5 (((cfg m).slots t 5).cast nbuf0_5)

/-- The step's program at step `t`. -/
abbrev bodyAt (t : Fin (cfg m).N) : Prog (TpuEff nD τ sig (Elt F) (Λ₀ F) .tc) PUnit :=
  cc0_mix_pool ((cfg m).grid.coords t) tabM (Memref.isWhole_whole _) (ms0 m t) (hs0 m t) (ms1 m t) (hs1 m t) (ms2 m t) (hs2 m t) (ms3 m t) (hs3 m t)
    (ms4 m t) (hs4 m t) (ms5 m t) (hs5 m t) scE (Memref.isWhole_whole _) scA (Memref.isWhole_whole _) scW (Memref.isWhole_whole _)

/-- The kernel body at a step, with its operands in place. -/
theorem defs₀_row (t : Fin (cfg m).N) : defs₀ (F := F) .tc (cfg m).body ((cfg m).bodyArgs t ((cfg m).slots t)) = bodyAt m t := by
  unfold defs₀; rw [Defs.onTc_tc]

/-- Operand 0 is in use at every step. -/
theorem live_0 (t : Fin (cfg m).N) : (cfg m).idle 0 ((cfg m).grid.coords t) = false := rfl
/-- Operand 1 is in use at every step. -/
theorem live_1 (t : Fin (cfg m).N) : (cfg m).idle 1 ((cfg m).grid.coords t) = false := rfl
/-- Operand 2 is in use at every step. -/
theorem live_2 (t : Fin (cfg m).N) : (cfg m).idle 2 ((cfg m).grid.coords t) = false := rfl
/-- Operand 3 is in use at every step. -/
theorem live_3 (t : Fin (cfg m).N) : (cfg m).idle 3 ((cfg m).grid.coords t) = false := rfl
/-- Operand 4 is in use at every step. -/
theorem live_4 (t : Fin (cfg m).N) : (cfg m).idle 4 ((cfg m).grid.coords t) = false := rfl
/-- The second result is in use at the last step. -/
theorem live_5 (t : Fin (cfg m).N) (h : k0_cond2 ((cfg m).grid.coords t) = 1#1) : (cfg m).idle 5 ((cfg m).grid.coords t) = false := by
  show (!(k0_cond2 ((cfg m).grid.coords t) == 1#1)) = false
  rw [h]; rfl
/-- The second result is not in use before the last step. -/
theorem idle_5 (t : Fin (cfg m).N) (h : ¬k0_cond2 ((cfg m).grid.coords t) = 1#1) : (cfg m).idle 5 ((cfg m).grid.coords t) = true := by
  show (!(k0_cond2 ((cfg m).grid.coords t) == 1#1)) = true
  rw [Bool.not_eq_true', beq_eq_false_iff_ne]; exact h

/-- The pooled sums are written back after the last step only. -/
theorem flush_5 (t : Fin (cfg m).N) : ((cfg m).win 5).flush t = true ↔ t.val % 192 = 191 :=
  Pipeline.Window.flush_const ((cfg m).win 5) rfl (fun _ _ => rfl) (n := 192) (by exact N_0) rfl t

/-- What the step is given, -/
def bodyPre (c : Dev nD) (t : Fin (cfg m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))

/-- and what it leaves. -/
def bodyPost (c : Dev nD) (t : Fin (cfg m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- What a step leaves in the pooled sums' buffer: the sums at the last step, and elsewhere whatever was there. -/
theorem leaves_5 (c : Dev nD) (t : Fin (cfg m).N) (d) (s) (hs : s = (st m c t.val t.isLt).2) :
    owns (c : Thread nD τ) (ms5 m t) fullShare
        (if k0_cond2 ((cfg m).grid.coords t) = 1#1 then pTile s else (dats m 0 c).before 5 t d)
      ⊢ ((dats m 0 c).leavesExact 5 t : sProp 𝕄) := by
  subst hs
  by_cases h : k0_cond2 ((cfg m).grid.coords t) = 1#1
  · have e : (dats m 0 c).leavesExact 5 t = owns (c : Thread nD τ) (ms5 m t) fullShare (pTile (st m c t.val t.isLt).2) := by
      unfold Dat.leavesExact; rw [live_5 m t h]; rfl
    rw [e]
    exact (congrArg (fun z => owns (c : Thread nD τ) (ms5 m t) fullShare z) (if_pos h)).le
  · have hf : ((cfg m).win 5).flush t = false := by
      rw [Bool.eq_false_iff]; intro h'; exact h ((last_iff m t).mpr ((flush_5 m t).mp h'))
    rw [Dat.leavesExact_idle _ 5 t (idle_5 m t h) hf]
    have e : (if k0_cond2 ((cfg m).grid.coords t) = 1#1 then pTile (st m c t.val t.isLt).2
        else ((dats m 0 c).before 5 t d : Vec F S64x6656 .bf16)) = (dats m 0 c).before 5 t d := if_neg h
    refine (congrArg (fun z => (owns (c : Thread nD τ) (ms5 m t) fullShare z : sProp 𝕄)) e).le.trans ?_
    show (owns (c : Thread nD τ) (ms5 m t) fullShare ((dats m 0 c).before 5 t d) : sProp 𝕄)
      ⊢ iprop(∃ d, owns (c : Thread nD τ) (ms5 m t) fullShare ((dats m 0 c).before 5 t d))
    iintro H; iexists d; iexact H

/-- The step's triple at any point of the grid. -/
theorem sound_body (c : Dev nD) (t : Fin (cfg m).N) :
    bodyPre m c t ⊢ wp frame (wpE (defs₀ (F := F)) 𝒱₀ (c : Thread nD τ) none) Set.univ (bodyAt m t) (fun _ => bodyPost m c t) := by
  unfold bodyPre bodyPost bodyAt
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 m t) fullShare ((dats m 0 c).after 0 t) from by
    unfold Dat.leavesExact; rw [live_0 m t]; rfl, after_0]
  rw [show (dats m 0 c).leavesExact 1 t = owns (c : Thread nD τ) (ms1 m t) fullShare ((dats m 0 c).after 1 t) from by
    unfold Dat.leavesExact; rw [live_1 m t]; rfl, after_1]
  rw [show (dats m 0 c).leavesExact 2 t = owns (c : Thread nD τ) (ms2 m t) fullShare ((dats m 0 c).after 2 t) from by
    unfold Dat.leavesExact; rw [live_2 m t]; rfl, after_2]
  rw [show (dats m 0 c).leavesExact 3 t = owns (c : Thread nD τ) (ms3 m t) fullShare ((dats m 0 c).after 3 t) from by
    unfold Dat.leavesExact; rw [live_3 m t]; rfl, after_3]
  rw [show (dats m 0 c).leavesExact 4 t = owns (c : Thread nD τ) (ms4 m t) fullShare ((dats m 0 c).after 4 t) from by
    unfold Dat.leavesExact; rw [live_4 m t]; rfl, after_4]
  have hc : c = 0 := Subsingleton.elim _ _
  subst hc
  have hN : t.val < 192 := lt_of_lt_of_eq t.isLt (show (cfg m).N = 192 from N_0)
  by_cases hz : t.val = 0
  · rw [PhiS_castSucc m _ t, PhiS_zero m _ _ _ hz, PhiA_eq]
    iintro ⟨⟨⟨⟨⟨%e0, HS0⟩, ⟨%A, HS1⟩, ⟨%X10, HS2⟩⟩, Hg⟩, HT⟩, Ho, ⟨%d0, H0⟩, ⟨%d1, H1⟩, ⟨%d2, H2⟩, ⟨%d3, H3⟩, ⟨%d4, H4⟩, ⟨%d5, H5⟩⟩
    iapply (body_run (0 : Dev nD) fullShare.right ((cfg m).grid.coords t) tabM (Memref.isWhole_whole _) (ms0 m t) (hs0 m t) (ms1 m t) (hs1 m t) (ms2 m t) (hs2 m t) (ms3 m t) (hs3 m t)
      (ms4 m t) (hs4 m t) (ms5 m t) (hs5 m t) scE (Memref.isWhole_whole _) scA (Memref.isWhole_whole _) scW (Memref.isWhole_whole _)
      (tbl m 0) (iblk m 0 0 t) (iblk m 0 1 t) (iblk m 0 2 t) (iblk m 0 3 t) ((dats m 0 0).before 4 t d4) ((dats m 0 0).before 5 t d5) e0 A X10 0 (Nat.zero_le _)
      (fun h => absurd ((first_iff m t).mpr (by omega)) h) _)
    unfold stepHeld
    isplitl [HT H0 H1 H2 H3 H4 H5 HS0 HS1 HS2]
    · isplitl [HT]; · iexact HT
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iexact HS2
    iintro %s %hs ⟨HT, H0, H1, H2, H3, H4, H5, HS0, HS1, HS2⟩
    have hs' : s = st m 0 t.val t.isLt := by
      rw [hs]
      obtain ⟨n, hn⟩ := t
      subst hz
      exact stepAt_first m 0 ⟨0, hn⟩ ((first_iff m _).mpr rfl) (0, A) (0, k0_pay50)
    subst hs'
    isplitl [HS0 HS1 HS2 Hg HT]
    · isplitr [HT]
      · isplitr [Hg]
        · isplitl [HS0]; · iexists _; iexact HS0
          isplitl [HS1]; · iexact HS1
          iexact HS2
        iexact Hg
      iexact HT
    isplitl [Ho]; · iexact Ho
    isplitl [H0]; · iexact H0
    isplitl [H1]; · iexact H1
    isplitl [H2]; · iexact H2
    isplitl [H3]; · iexact H3
    isplitl [H4]; · iexact H4
    iapply (leaves_5 m 0 t d5 _ rfl)
    iexact H5
  · rw [PhiS_castSucc m _ t, PhiS_pos m _ _ _ hz]
    iintro ⟨⟨⟨⟨⟨%e0, HS0⟩, HS1, HS2⟩, Hg⟩, HT⟩, Ho, ⟨%d0, H0⟩, ⟨%d1, H1⟩, ⟨%d2, H2⟩, ⟨%d3, H3⟩, ⟨%d4, H4⟩, ⟨%d5, H5⟩⟩
    iapply (body_run (0 : Dev nD) fullShare.right ((cfg m).grid.coords t) tabM (Memref.isWhole_whole _) (ms0 m t) (hs0 m t) (ms1 m t) (hs1 m t) (ms2 m t) (hs2 m t) (ms3 m t) (hs3 m t)
      (ms4 m t) (hs4 m t) (ms5 m t) (hs5 m t) scE (Memref.isWhole_whole _) scA (Memref.isWhole_whole _) scW (Memref.isWhole_whole _)
      (tbl m 0) (iblk m 0 0 t) (iblk m 0 1 t) (iblk m 0 2 t) (iblk m 0 3 t) ((dats m 0 0).before 4 t d4) ((dats m 0 0).before 5 t d5) e0
      (st m 0 (t.val - 1) (by omega)).2 (fun _ => wd (st m 0 (t.val - 1) (by omega)).1) (st m 0 (t.val - 1) (by omega)).1 (st_le m 0 _ _)
      (fun _ => rfl) _)
    unfold stepHeld
    isplitl [HT H0 H1 H2 H3 H4 H5 HS0 HS1 HS2]
    · isplitl [HT]; · iexact HT
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iexact HS2
    iintro %s %hs ⟨HT, H0, H1, H2, H3, H4, H5, HS0, HS1, HS2⟩
    have hs' : s = st m 0 t.val t.isLt := by
      rw [hs]
      obtain ⟨n, hn⟩ := t
      cases n with
      | zero => exact absurd rfl hz
      | succ n => rfl
    subst hs'
    isplitl [HS0 HS1 HS2 Hg HT]
    · isplitr [HT]
      · isplitr [Hg]
        · isplitl [HS0]; · iexists _; iexact HS0
          isplitl [HS1]; · iexact HS1
          iexact HS2
        iexact Hg
      iexact HT
    isplitl [Ho]; · iexact Ho
    isplitl [H0]; · iexact H0
    isplitl [H1]; · iexact H1
    isplitl [H2]; · iexact H2
    isplitl [H3]; · iexact H3
    isplitl [H4]; · iexact H4
    iapply (leaves_5 m 0 t d5 _ rfl)
    iexact H5

/-- The pipeline's obligation on the step's program. -/
theorem body_obligation (c : Dev nD) :
    BodyObligation (dats (F := F) m 0 c) (defs₀ (F := F)) 𝒱₀ () Set.univ := fun t => by
  rw [bigSep_W0, bigSep_W0, defs₀_row]
  exact triple_restated (sound_body m c t) rfl .rfl fun _ => .rfl

/-- The host operations, then the kernel. -/
theorem hmain : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub
    (by simp only [List.Forall]; exact ⟨rfl, rfl, rfl, rfl, rfl, rfl, rfl, rfl, rfl, rfl, rfl, rfl, rfl⟩) (fun c => main_chain c)

/-- What the launch hands over is the invariant before the first step. -/
theorem hin (c : Dev nD) : iprop(Pipeline.ΦA spec0 c ∗ Pipeline.ΦT pre0 (adm m 0).1 c) ⊢ ((dats m 0 c).Φ 0 : sProp 𝕄) := by
  rw [PhiT_eq]
  exact .rfl

/-- The invariant after the last step gives back what the launch handed over. -/
theorem hout (c : Dev nD) : ((dats m 0 c).Φ (Fin.last (cfg m).N) : sProp 𝕄) ⊢ Pipeline.ΦA spec0 c := by
  have hN : (cfg m).N = 192 := N_0
  rw [show (dats m 0 c).Φ (Fin.last (cfg m).N) = PhiS m c (cfg m).N le_rfl from rfl, PhiS_pos m c _ _ (by omega), PhiA_eq]
  iintro ⟨⟨⟨⟨%e0, HS0⟩, HS1, HS2⟩, Hg⟩, HT⟩
  isplitr [Hg]
  · isplitl [HS0]; · iexists _; iexact HS0
    isplitl [HS1]; · iexists _; iexact HS1
    iexists _; iexact HS2
  iexact Hg

set_option backward.isDefEq.respectTransparency.types false in
/-- Every run of the kernel ends, with each output array as the steps left it and every semaphore counter at zero. -/
theorem run_main :
    θ_run defs (onTc (τ := τ) (main (F := F))) (s₀ m ρ)
      (fun r => Pipeline.FramePost (Pipeline.pin pcfgs (adm m)) (dats m) (0 : Fin 1) (V m) r ∧ r.2.sem = fun _ => 0) :=
  Pipeline.θ_run_frameP_track (Q' := _) pcfgs (adm m) (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m)
    (hpf := fun c k => by
      have hc : c = 0 := Subsingleton.elim _ _
      subst hc
      match k with
      | ⟨0, _⟩ => rfl
      | ⟨_ + 1, h⟩ => exact absurd h (by simp))
    (hin := hin m) (hout := hout m)

end Cert.Kernel.Hand

end
-- ==== Proof.K.Frame.lean ====
/-
  The kernel terminates and leaves its arguments unchanged.
-/
module

public import proofs.«01_k».proof.Proof.K.Launch
public import Idealize.ShloMosaic.Lib.StableHlo.RunRead

@[expose] public section

set_option maxRecDepth 16384

noncomputable section

namespace Cert.Kernel.Hand

open Cert.Kernel Cert.Kernel.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The references the host operations write, in order. -/
def hostWrites : List (Ref sig .tc) :=
  [main_c, main_v0, main_c_0, main_v1, main_v2, main_v3, main_v4, main_v5, main_v6, main_v7, main_v8, main_v9, main_v10]

/-- Which buffers the operations before the launch write. -/
theorem host_writes : (hostOps0 (F := F)).map HloOp.writes = hostWrites.map fun w => {Proc.devRef (τ := τ) .tc w} := rfl

/-- The host operations leave the arguments as they were. -/
theorem V_arg0 (c : Dev nD) : V m c main_arg0 = m ((c.tc : Thread nD τ).loc main_arg0) :=
  StableHlo.after_unwritten hostWrites host_writes (by decide) _
/-- They leave the weights alone. -/
theorem V_arg1 (c : Dev nD) : V m c main_arg1 = m ((c.tc : Thread nD τ).loc main_arg1) :=
  StableHlo.after_unwritten hostWrites host_writes (by decide) _
/-- They leave the offsets alone. -/
theorem V_arg2 (c : Dev nD) : V m c main_arg2 = m ((c.tc : Thread nD τ).loc main_arg2) :=
  StableHlo.after_unwritten hostWrites host_writes (by decide) _

/-- No window stages the bag offsets. -/
theorem arg2_rest : main_arg2 ∈ Pipeline.restRefs sig spec0 := Pipeline.mem_restRefs_of main_arg2 (by decide) (by decide)

/-- Every run of the kernel ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨((h.1 c).1 0).trans (((dats m 0 c).arrAt_in 0 rfl _).trans ((A_eq m c 0).trans (V_arg0 m c))),
       ((h.1 c).1 1).trans (((dats m 0 c).arrAt_in 1 rfl _).trans ((A_eq m c 1).trans (V_arg1 m c))),
       ((h.1 c).2 main_arg2 arg2_rest).trans (V_arg2 m c)⟩, h.2⟩)
    (run_main m ρ)

end Cert.Kernel.Hand

end
-- ==== Proof.KI.Loop.lean ====
/-
  The kernel's `while` over the windows of the bag table. From window `w` with the accumulator `A`, as long as the
  window's last bag ends inside the step's tokens and `w < 51`, the next window is taken: its slab of the accumulator
  gains the window's product with the one-hot of its bags. `loopN` is that loop as a function of the number of trips
  still allowed, and `spec_le` says the loop's label meets the specification "from `w` and `A` the result is
  `loopN`'s", by induction on the trips left to window 51.
-/
module

public import proofs.«01_k».proof.Proof.Lib.Own
public import proofs.«01_k».proof.Proof.Gen.KernelIdeal.Skeleton
public import proofs.«01_k».proof.Proof.Gen.KernelIdeal.Launch
public import Idealize.ShloMosaic.Lib.Pipeline.Frame

@[expose] public section

noncomputable section

namespace Cert.KernelIdeal.Hand

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The loops are met at variants counted by natural numbers. -/
abbrev 𝒱₀ : Variants := Variants.nat

/-! ## The window counter's side conditions and offsets -/

/-- A window number as the counter's word. -/
abbrev wd (w : ℕ) : BitVec 32 := BitVec.ofNat 32 w

/-- Row `w` lies in the tables of first and last tokens, and slab `w` in the scratch. -/
theorem chk1_of (w : ℕ) (h : w < 52) : k0_chk1 (wd w) :=
  (by decide : ∀ w : Fin 52, k0_chk1 (wd w.val)) ⟨w, h⟩
/-- Word `w` lies in the table of ends. -/
theorem chk2_of (w : ℕ) (h : w < 52) : k0_chk2 (wd w) :=
  (by decide : ∀ w : Fin 52, k0_chk2 (wd w.val)) ⟨w, h⟩
/-- The next window lies in the tables and the scratch. -/
theorem chk3_of (w : ℕ) (h : w < 51) : k0_chk3 (wd w) :=
  (by decide : ∀ w : Fin 51, k0_chk3 (wd w.val)) ⟨w, h⟩
/-- Where row `w` begins. -/
theorem off1_of (w : ℕ) (h : w < 52) : k0_off1 (wd w) = ![w, 0] :=
  (by decide : ∀ w : Fin 52, k0_off1 (wd w.val) = ![w.val, 0]) ⟨w, h⟩
/-- Where slab `w` begins. -/
theorem off2_of (w : ℕ) (h : w < 52) : k0_off2 (wd w) = ![w, 0, 0] :=
  (by decide : ∀ w : Fin 52, k0_off2 (wd w.val) = ![w.val, 0, 0]) ⟨w, h⟩
/-- Where word `w` is. -/
theorem off3_of (w : ℕ) (h : w < 52) : k0_off3 (wd w) = ![w] :=
  (by decide : ∀ w : Fin 52, k0_off3 (wd w.val) = ![w.val]) ⟨w, h⟩
/-- Where the next row begins. -/
theorem off4_of (w : ℕ) (h : w < 51) : k0_off4 (wd w) = ![w + 1, 0] :=
  (by decide : ∀ w : Fin 51, k0_off4 (wd w.val) = ![w.val + 1, 0]) ⟨w, h⟩
/-- Where the next slab begins. -/
theorem off5_of (w : ℕ) (h : w < 51) : k0_off5 (wd w) = ![w + 1, 0, 0] :=
  (by decide : ∀ w : Fin 51, k0_off5 (wd w.val) = ![w.val + 1, 0, 0]) ⟨w, h⟩
/-- Adding one to a window's number does not overflow. -/
theorem succ_of (w : ℕ) (h : w < 51) : Scalar.addi (wd w) 1#32 = wd (w + 1) :=
  (by decide : ∀ w : Fin 51, Scalar.addi (wd w.val) 1#32 = wd (w.val + 1)) ⟨w, h⟩
/-- The last window has no next one. -/
theorem stop_of : ¬Scalar.cmpi .slt (wd 51) 51#32 = 1#1 := by decide

/-! ## What a window's loads read -/

/-- The table's entry of window `w`: where its last bag ends. -/
def endAt (tbl : S52.Idx → BitVec 32) (w : ℕ) : BitVec 32 := tbl fun a => match a with
  | 0 => (⟨w % 52, Nat.mod_lt _ (by decide)⟩ : Fin 52)
/-- Row `w` of the bags' starts or ends. -/
def rowAt (X : Vec F S52x128 .i32) (w : ℕ) : Vec F S1x128 .i32 := fun y =>
  X (fun a => match a with
    | 0 => (⟨w % 52, Nat.mod_lt _ (by decide)⟩ : Fin 52)
    | 1 => (y 1 : Fin 128))
/-- Slab `w` of the accumulator. -/
def slabAt (A : Vec F S52x64x128 .f32) (w : ℕ) : Vec F S1x64x128 .f32 := fun y =>
  A (fun a => match a with
    | 0 => (⟨w % 52, Nat.mod_lt _ (by decide)⟩ : Fin 52)
    | 1 => (y 1 : Fin 64)
    | 2 => (y 2 : Fin 128))
/-- The accumulator with slab `w` replaced. -/
def setSlab (A : Vec F S52x64x128 .f32) (w : ℕ) (P : Vec F S1x64x128 .f32) : Vec F S52x64x128 .f32 :=
  VecWindow.put A ![w, 0, 0] S1x64x128.size P

/-- Loading a word of the table of ends. -/
theorem ld_end (tbl : S52.Idx → Elt F .i32) (w : ℕ) (h : w < 52) (off : Fin 1 → ℕ) (ho : off = ![w])
    (inb : ∀ a, off a + S1.size a ≤ S52.size a) (x : (Rect.unit (s := S52) off S1.size inb).shape.Idx) :
    View.ld tbl (Rect.unit (s := S52) off S1.size inb) x = endAt tbl w := by
  subst ho
  refine congrArg tbl (funext fun a => Fin.ext ?_)
  have hx : (x 0).val = 0 := by have := (x 0).isLt; exact Nat.lt_one_iff.mp this
  match a with
  | 0 => show w + 1 * (x 0).val = w % 52; rw [hx, Nat.mod_eq_of_lt h]; omega

/-- Loading a row of the first or last tokens. -/
theorem ld_row (X : Vec F S52x128 .i32) (w : ℕ) (h : w < 52) (off : Fin 2 → ℕ) (ho : off = ![w, 0])
    (inb : ∀ a, off a + S1x128.size a ≤ S52x128.size a) :
    View.ld X (Rect.unit (s := S52x128) off S1x128.size inb) = rowAt X w := by
  subst ho
  funext y
  refine congrArg X (funext fun a => Fin.ext ?_)
  have hy : (y 0).val = 0 := by have := (y 0).isLt; exact Nat.lt_one_iff.mp this
  match a with
  | 0 => show w + 1 * (y 0).val = w % 52; rw [hy, Nat.mod_eq_of_lt h]; omega
  | 1 => show 0 + 1 * (y 1).val = (y 1).val; omega

/-- Loading a slab of the scratch. -/
theorem ld_slab (A : Vec F S52x64x128 .f32) (w : ℕ) (h : w < 52) (off : Fin 3 → ℕ) (ho : off = ![w, 0, 0])
    (inb : ∀ a, off a + S1x64x128.size a ≤ S52x64x128.size a) :
    View.ld A (Rect.unit (s := S52x64x128) off S1x64x128.size inb) = slabAt A w := by
  subst ho
  funext y
  refine congrArg A (funext fun a => Fin.ext ?_)
  have hy : (y 0).val = 0 := by have := (y 0).isLt; exact Nat.lt_one_iff.mp this
  match a with
  | 0 => show w + 1 * (y 0).val = w % 52; rw [hy, Nat.mod_eq_of_lt h]; omega
  | 1 => show 0 + 1 * (y 1).val = (y 1).val; omega
  | 2 => show 0 + 1 * (y 2).val = (y 2).val; omega

/-! ## The loop as a function -/

/-- Whether the loop goes on from window `w`. -/
def more (i : grid0.Coords) (tbl : S52.Idx → BitVec 32) (w : ℕ) : Prop :=
  Scalar.andi (Scalar.cmpi .sle (endAt tbl w) (Scalar.addi (Scalar.muli (BitVec.ofNat 32 (i 0).val) 2048#32) 2048#32))
    (Scalar.cmpi .slt (wd w) 51#32) = 1#1

instance (i : grid0.Coords) (tbl : S52.Idx → BitVec 32) (w : ℕ) : Decidable (more i tbl w) := by
  unfold more; infer_instance

/-- After the last window there are no more. -/
theorem not_more_51 (i : grid0.Coords) (tbl : S52.Idx → BitVec 32) : ¬more i tbl 51 := by
  unfold more
  rw [show Scalar.cmpi .slt (wd 51) 51#32 = 0#1 from by decide]
  generalize Scalar.cmpi .sle _ _ = b
  revert b; decide

/-- One trip from window `w`: slab `w + 1` gains its window's product. -/
def trip (lo hi : Vec F S52x128 .i32) (v543 : IVec S2048x128 32) (v539 : FVec F S192x2048 .bf16) (w : ℕ)
    (A : Vec F S52x64x128 .f32) : Vec F S52x64x128 .f32 :=
  setSlab A (w + 1) (k0_pay1 v543 v539 (rowAt lo (w + 1)) (rowAt hi (w + 1)) (slabAt A (w + 1)))

/-- The loop with at most `k` trips. -/
def loopN (i : grid0.Coords) (tbl : S52.Idx → BitVec 32) (lo hi : Vec F S52x128 .i32) (v543 : IVec S2048x128 32)
    (v539 : FVec F S192x2048 .bf16) : ℕ → ℕ → Vec F S52x64x128 .f32 → ℕ × Vec F S52x64x128 .f32
  | 0, w, A => (w, A)
  | k + 1, w, A => if more i tbl w then loopN i tbl lo hi v543 v539 k (w + 1) (trip lo hi v543 v539 w A) else (w, A)

/-- The loop stops at a window up to 51. -/
theorem loopN_le (i : grid0.Coords) (tbl : S52.Idx → BitVec 32) (lo hi : Vec F S52x128 .i32) (v543 : IVec S2048x128 32)
    (v539 : FVec F S192x2048 .bf16) : ∀ k w A, w + k = 51 → (loopN i tbl lo hi v543 v539 k w A).1 ≤ 51
  | 0, w, A, h => by simp only [loopN]; omega
  | k + 1, w, A, h => by
    simp only [loopN]
    split
    · exact loopN_le i tbl lo hi v543 v539 k (w + 1) _ (by omega)
    · show w ≤ 51; omega

/-! ## The label's specification -/

section Label

variable (c : Dev nD) (q : PosShare TreeShare)
  (i : grid0.Coords) (v544 : BitVec 32) (k0_hw1 : k0_chk1 v544)
  (arg1 : Memref sig .tc .smem S52 .i32) (harg1 : arg1.IsWhole)
  (arg4 : Memref sig .tc .vmem S52x128 .i32) (harg4 : arg4.IsWhole)
  (arg5 : Memref sig .tc .vmem S52x128 .i32) (harg5 : arg5.IsWhole)
  (v543 : IVec S2048x128 32) (v539 : FVec F S192x2048 .bf16)
  (arg9 : Memref sig .tc .vmem S52x64x128 .f32) (harg9 : arg9.IsWhole)
  (tbl : S52.Idx → Elt F .i32) (lo hi : Vec F S52x128 .i32)

/-- What the loop holds: the table, the bags' starts and ends, and the accumulator at `A`. -/
def held (A : Vec F S52x64x128 .f32) : sProp 𝕄 :=
  iprop(owns (c : Thread nD τ) arg1 q tbl ∗ owns (c : Thread nD τ) arg4 fullShare lo
    ∗ owns (c : Thread nD τ) arg5 fullShare hi ∗ owns (c : Thread nD τ) arg9 fullShare A)

/-- From window `w` and accumulator `A`, with `k` trips to window 51. -/
def spec (k w : ℕ) (A : Vec F S52x64x128 .f32) : sWPT 𝕄 (BitVec 32) := do
  sWPT.consume (held c q arg1 arg4 arg5 arg9 tbl lo hi A)
  sWPT.produce (held c q arg1 arg4 arg5 arg9 tbl lo hi (loopN i tbl lo hi v543 v539 k w A).2)
  pure (wd (loopN i tbl lo hi v543 v539 k w A).1)

/-- The loop's specification, unfolded. -/
theorem spec_apply (k w : ℕ) (A : Vec F S52x64x128 .f32) (K : BitVec 32 → sProp 𝕄) :
    spec c q i arg1 arg4 arg5 v543 v539 arg9 tbl lo hi k w A K
      = iprop(held c q arg1 arg4 arg5 arg9 tbl lo hi A
          ∗ (held c q arg1 arg4 arg5 arg9 tbl lo hi (loopN i tbl lo hi v543 v539 k w A).2
            -∗ K (wd (loopN i tbl lo hi v543 v539 k w A).1))) := rfl

/-- The loop's body meets the specification. -/
theorem spec_le (E : Set ℕ) :
    ∀ k w, w + k = 51 → ∀ A K, spec c q i arg1 arg4 arg5 v543 v539 arg9 tbl lo hi k w A K
      ⊢ wp frame (wpE (defs₀ (F := F)) 𝒱₀ (c : Thread nD τ) (some k)) E
          (defs₀ (F := F) .tc 1 ⟨i, v544, k0_hw1, arg1, harg1, arg4, harg4, arg5, harg5, v543, v539, arg9, harg9, wd w⟩) K := by
  intro k
  induction k with
  | zero =>
    intro w hw A K
    rw [spec_apply]
    show _ ⊢ wp frame (wpE (defs₀ (F := F)) 𝒱₀ (c : Thread nD τ) (some 0)) E
      (cc0_while1 i v544 k0_hw1 arg1 harg1 arg4 harg4 arg5 harg5 v543 v539 arg9 harg9 (wd w)) K
    simp only [cc0_while1_eq_skeleton]; unfold cc0_while1_skel
    simp only [smemLoad, smemLoadElt, Prog.lift, Prog.bind_op, Prog.bind_ret, Prog.pure_eq_ret]
    unfold held
    iintro ⟨⟨H1, H4, H5, H9⟩, Hk⟩
    iapply (wp_assume 𝒱₀ (c : Thread nD τ) (some 0) E (chk2_of w (by omega)))
    iapply (wp_load_owns 𝒱₀ (c : Thread nD τ) (some 0) E) $$ H1; iintro H1
    rw [ld_end tbl w (by omega) _ (off3_of w (by omega))]
    obtain rfl : w = 51 := by omega
    have hm := not_more_51 i tbl
    unfold more at hm
    rw [if_neg hm]
    rw [wp_ret]; imodintro
    simp only [loopN]
    iapply Hk
    isplitl [H1]; · iexact H1
    isplitl [H4]; · iexact H4
    isplitl [H5]; · iexact H5
    iexact H9
  | succ k ih =>
    intro w hw A K
    rw [spec_apply]
    show _ ⊢ wp frame (wpE (defs₀ (F := F)) 𝒱₀ (c : Thread nD τ) (some (k + 1))) E
      (cc0_while1 i v544 k0_hw1 arg1 harg1 arg4 harg4 arg5 harg5 v543 v539 arg9 harg9 (wd w)) K
    simp only [cc0_while1_eq_skeleton]; unfold cc0_while1_skel
    simp only [smemLoad, smemLoadElt, Prog.lift, Prog.bind_op, Prog.bind_ret, Prog.pure_eq_ret]
    unfold held
    iintro ⟨⟨H1, H4, H5, H9⟩, Hk⟩
    iapply (wp_assume 𝒱₀ (c : Thread nD τ) (some (k + 1)) E (chk2_of w (by omega)))
    iapply (wp_load_owns 𝒱₀ (c : Thread nD τ) (some (k + 1)) E) $$ H1; iintro H1
    rw [ld_end tbl w (by omega) _ (off3_of w (by omega))]
    by_cases hm : more i tbl w
    · have hm' := hm
      unfold more at hm'
      rw [if_pos hm']
      simp only [Prog.lift, Prog.bind_op, Prog.bind_ret, Prog.pure_eq_ret]
      iapply (wp_assume 𝒱₀ (c : Thread nD τ) (some (k + 1)) E (chk3_of w (by omega)))
      iapply (wp_load_owns 𝒱₀ (c : Thread nD τ) (some (k + 1)) E) $$ H4; iintro H4
      iapply (wp_load_owns 𝒱₀ (c : Thread nD τ) (some (k + 1)) E) $$ H5; iintro H5
      iapply (wp_load_owns 𝒱₀ (c : Thread nD τ) (some (k + 1)) E) $$ H9; iintro H9
      iapply (wp_load_owns 𝒱₀ (c : Thread nD τ) (some (k + 1)) E) $$ H9; iintro H9
      iapply (wp_store_owns 𝒱₀ (c : Thread nD τ) (some (k + 1)) E) $$ H9; iintro H9
      rw [ld_row lo (w + 1) (by omega) _ (off4_of w (by omega)), ld_row hi (w + 1) (by omega) _ (off4_of w (by omega)),
        ld_slab A (w + 1) (by omega) _ (off5_of w (by omega)), off5_of w (by omega), succ_of w (by omega)]
      iapply (wp_call_spec 𝒱₀ (c : Thread nD τ) (some (k + 1)) E
        (spec c q i arg1 arg4 arg5 v543 v539 arg9 tbl lo hi k (w + 1) (trip lo hi v543 v539 w A)) k
        (fun u hu => by cases hu; exact Nat.lt_succ_self k)
        (ih (w + 1) (by omega) (trip lo hi v543 v539 w A)))
      rw [spec_apply]; unfold held
      isplitl [H1 H4 H5 H9]
      · isplitl [H1]; · iexact H1
        isplitl [H4]; · iexact H4
        isplitl [H5]; · iexact H5
        iexact H9
      iintro H
      rw [wp_ret]; imodintro
      simp only [loopN, if_pos hm]
      iapply Hk
      iexact H
    · have hm' := hm
      unfold more at hm'
      rw [if_neg hm']
      rw [wp_ret]; imodintro
      simp only [loopN, if_neg hm]
      iapply Hk
      isplitl [H1]; · iexact H1
      isplitl [H4]; · iexact H4
      isplitl [H5]; · iexact H5
      iexact H9

end Label

end Cert.KernelIdeal.Hand

end
-- ==== Proof.KI.Tiles.lean ====
/-
  The blocks one grid step writes. A step's 2048 tokens are sixteen blocks of 128 columns, block `j` computed from rows
  `128 (j / 2) …` of the gathered rows and rows `4 j …` of the weights; the e tile and its f32 copy are filled block by
  block, and at the last step the pooled tile is filled from the accumulator's 52 slabs, again 128 columns at a time.
-/
module

public import proofs.«01_k».proof.Proof.KI.Loop

@[expose] public section

noncomputable section

namespace Cert.KernelIdeal.Hand

open Cert.KernelIdeal Cert.KernelIdeal.Gen Cert.Own
open Idealize.ShloMosaic Idealize.ShloMosaic.TcCoe Idealize.ShloMosaic.Tactic

variable {F : FTy → Type} [FloatOps F]

/-! ## Loads -/

/-- Rows `128 g …` of the step's gathered rows. -/
def rowsAt (x0 : Vec F S1024x128 .i32) (g : ℕ) : Vec F S128x128 .i32 := fun y =>
  x0 (fun a => match a with
    | 0 => (⟨(128 * g + (y 0).val) % 1024, Nat.mod_lt _ (by decide)⟩ : Fin 1024)
    | 1 => (y 1 : Fin 128))
/-- Row `k` of the step's weights. -/
def wRow (x1 : Vec F S64x128 .f32) (k : ℕ) : Vec F S1x128 .f32 := fun y =>
  x1 (fun a => match a with
    | 0 => (⟨k % 64, Nat.mod_lt _ (by decide)⟩ : Fin 64)
    | 1 => (y 1 : Fin 128))

/-- Loading a group of 128 rows. -/
theorem ld_rows (x0 : Vec F S1024x128 .i32) (g n : ℕ) (hn : n = 128 * g) (h : g < 8)
    (inb : ∀ a, (![n, 0] : Fin 2 → ℕ) a + S128x128.size a ≤ S1024x128.size a) :
    View.ld x0 (Rect.unit (s := S1024x128) ![n, 0] S128x128.size inb) = rowsAt x0 g := by
  subst hn
  funext y
  refine congrArg x0 (funext fun a => Fin.ext ?_)
  have hy : (y 0).val < 128 := (y 0).isLt
  match a with
  | 0 => show 128 * g + 1 * (y 0).val = (128 * g + (y 0).val) % 1024; omega
  | 1 => show 0 + 1 * (y 1).val = (y 1).val; omega

/-- Loading a row of weights. -/
theorem ld_wrow (x1 : Vec F S64x128 .f32) (k : ℕ) (h : k < 64)
    (inb : ∀ a, (![k, 0] : Fin 2 → ℕ) a + S1x128.size a ≤ S64x128.size a) :
    View.ld x1 (Rect.unit (s := S64x128) ![k, 0] S1x128.size inb) = wRow x1 k := by
  funext y
  refine congrArg x1 (funext fun a => Fin.ext ?_)
  have hy : (y 0).val = 0 := by have := (y 0).isLt; exact Nat.lt_one_iff.mp this
  match a with
  | 0 => show k + 1 * (y 0).val = k % 64; rw [hy, Nat.mod_eq_of_lt h]; omega
  | 1 => show 0 + 1 * (y 1).val = (y 1).val; omega

/-! ## Filling a tile block by block -/

/-- The entry of a block of 128 columns that holds an entry of the tile. -/
abbrev inBlk {N : ℕ} (y : (⟨2, ![64, N]⟩ : Shape).Idx) : S64x128.Idx := fun a => match a with
  | 0 => (y 0 : Fin 64)
  | 1 => (⟨(y 1).val % 128, Nat.mod_lt _ (by decide)⟩ : Fin 128)

/-- The tile `X` with its first `n` blocks replaced by `B`'s. -/
def fillTo {α : Type} {N : ℕ} (n : ℕ) (X : (⟨2, ![64, N]⟩ : Shape).Idx → α) (B : ℕ → S64x128.Idx → α) :
    (⟨2, ![64, N]⟩ : Shape).Idx → α := fun y =>
  if (y 1).val < 128 * n then B ((y 1).val / 128) (inBlk y) else X y

/-- The tile all of whose blocks are `B`'s. -/
def filled {α : Type} {N : ℕ} (B : ℕ → S64x128.Idx → α) : (⟨2, ![64, N]⟩ : Shape).Idx → α := fun y =>
  B ((y 1).val / 128) (inBlk y)

/-- With no runs written the tile is as it was. -/
theorem fillTo_zero {α : Type} {N : ℕ} (X : (⟨2, ![64, N]⟩ : Shape).Idx → α) (B : ℕ → S64x128.Idx → α) :
    fillTo 0 X B = X := by funext y; unfold fillTo; rw [if_neg (by omega)]

/-- With every run written nothing is left of what the tile was. -/
theorem fillTo_all {α : Type} {N : ℕ} (n : ℕ) (h : N = 128 * n) (X : (⟨2, ![64, N]⟩ : Shape).Idx → α)
    (B : ℕ → S64x128.Idx → α) : fillTo n X B = filled B := by
  funext y; unfold fillTo filled
  have hy : (y 1).val < N := (y 1).isLt
  rw [if_pos (by omega)]

/-- Storing block `n` over a tile filled up to it fills one block more. -/
theorem fill_step {α : Type} {N : ℕ} (n o : ℕ) (ho : o = 128 * n) (X : (⟨2, ![64, N]⟩ : Shape).Idx → α)
    (B : ℕ → S64x128.Idx → α) (P : S64x128.Idx → α) (hP : P = B n) :
    VecWindow.put (s := ⟨2, ![64, N]⟩) (fillTo n X B) ![0, o] S64x128.size P = fillTo (n + 1) X B := by
  subst ho hP
  funext y
  unfold VecWindow.put
  have hy0 : (y 0).val < 64 := (y 0).isLt
  by_cases h : 128 * n ≤ (y 1).val ∧ (y 1).val < 128 * n + 128
  · have hh : ∀ a : Fin 2, (![0, 128 * n] : Fin 2 → ℕ) a ≤ (y a).val
        ∧ (y a).val < (![0, 128 * n] : Fin 2 → ℕ) a + S64x128.size a := fun a => match a with
      | 0 => ⟨Nat.zero_le _, by show (y 0).val < 0 + 64; omega⟩
      | 1 => h
    rw [dif_pos hh]
    unfold fillTo
    rw [if_pos (by omega), show (y 1).val / 128 = n by omega]
    refine congrArg (B n) (funext fun a => Fin.ext ?_)
    match a with
    | 0 => show (y 0).val - 0 = (y 0).val; omega
    | 1 => show (y 1).val - 128 * n = (y 1).val % 128; omega
  · rw [dif_neg fun hh => h (hh 1)]
    unfold fillTo
    by_cases hlt : (y 1).val < 128 * n
    · rw [if_pos hlt, if_pos (by omega)]
    · rw [if_neg hlt, if_neg (by omega)]

/-- A payload the size of the whole memref replaces it. -/
theorem put_all {α : Type} {s : Shape} (X : s.Idx → α) (off : Fin s.rank → ℕ) (ho : off = fun _ => 0) (P : s.Idx → α) :
    VecWindow.put X off s.size P = P := by
  subst ho
  funext y
  unfold VecWindow.put
  rw [dif_pos fun a => ⟨Nat.zero_le _, by have := (y a).isLt; omega⟩]
  refine congrArg P (funext fun a => Fin.ext ?_)
  show (y a).val - 0 = (y a).val; omega

/-! ## The step's blocks -/

/-- Block `j` of the embeddings, as stored in f32. -/
def eB32 (x0 : Vec F S1024x128 .i32) (x1 : Vec F S64x128 .f32) (j : ℕ) : S64x128.Idx → Elt F .f32 :=
  if j % 2 = 0 then k0_pay53 (rowsAt x0 (j / 2)) (wRow x1 (4 * j)) (wRow x1 (4 * j + 1)) (wRow x1 (4 * j + 2)) (wRow x1 (4 * j + 3))
  else k0_pay57 (k0_pay51 (rowsAt x0 (j / 2))) (k0_pay55 (rowsAt x0 (j / 2))) (wRow x1 (4 * j)) (wRow x1 (4 * j + 1))
    (wRow x1 (4 * j + 2)) (wRow x1 (4 * j + 3))

/-- Block `j` of the embeddings, as stored in bf16. -/
def eB16 (x0 : Vec F S1024x128 .i32) (x1 : Vec F S64x128 .f32) (j : ℕ) : S64x128.Idx → Elt F .bf16 :=
  if j % 2 = 0 then k0_pay54 (rowsAt x0 (j / 2)) (wRow x1 (4 * j)) (wRow x1 (4 * j + 1)) (wRow x1 (4 * j + 2)) (wRow x1 (4 * j + 3))
  else k0_pay58 (k0_pay51 (rowsAt x0 (j / 2))) (k0_pay55 (rowsAt x0 (j / 2))) (wRow x1 (4 * j)) (wRow x1 (4 * j + 1))
    (wRow x1 (4 * j + 2)) (wRow x1 (4 * j + 3))

/-- The step's embeddings in f32. -/
def eTile32 (x0 : Vec F S1024x128 .i32) (x1 : Vec F S64x128 .f32) : Vec F S64x2048 .f32 := filled (N := 2048) (eB32 x0 x1)
/-- The step's embeddings in bf16: its block of the second result. -/
def eTile16 (x0 : Vec F S1024x128 .i32) (x1 : Vec F S64x128 .f32) : Vec F S64x2048 .bf16 := filled (N := 2048) (eB16 x0 x1)

/-- Block `w` of the pooled result, from an accumulator. -/
def pB (A : Vec F S52x64x128 .f32) (w : ℕ) : S64x128.Idx → Elt F .bf16 := k0_pay2 (slabAt A w)
/-- The pooled result from an accumulator. -/
def pTile (A : Vec F S52x64x128 .f32) : Vec F S64x6656 .bf16 := filled (N := 6656) (pB A)

/-! ## The step as a function -/

/-- The step is the first of the launch. -/
def first (i : grid0.Coords) : Prop :=
  Scalar.cmpi .ne (Scalar.extui (Scalar.cmpi .eq (BitVec.ofNat 32 (i 0).val) 0#32) : BitVec 32) 0#32 = 1#1

instance (i : grid0.Coords) : Decidable (first i) := by unfold first; infer_instance

/-- The accumulator a step starts from: zero at the first. -/
def acc0 (i : grid0.Coords) (A : Vec F S52x64x128 .f32) : Vec F S52x64x128 .f32 := if first i then k0_pay50 else A
/-- The window a step starts from: window 0 at the first. -/
def win0 (i : grid0.Coords) (w : ℕ) : ℕ := if first i then 0 else w

/-- A step's embeddings split in three bf16 parts. -/
def split3 (E : Vec F S64x2048 .f32) : FVec F S192x2048 .bf16 := k0_pay125 E (k0_pay123 E) (k0_pay124 E)
/-- The step's token numbers. -/
def toks (i : grid0.Coords) : IVec S2048x128 32 := k0_pay126 (BitVec.ofNat 32 (i 0).val)

/-- The accumulator once the step's first window gained its product. -/
def acc1 (i : grid0.Coords) (lo hi : Vec F S52x128 .i32) (E : Vec F S64x2048 .f32) (w : ℕ) (A : Vec F S52x64x128 .f32) :
    Vec F S52x64x128 .f32 :=
  setSlab A w (k0_pay127 (BitVec.ofNat 32 (i 0).val) E (k0_pay123 E) (k0_pay124 E) (rowAt lo w) (rowAt hi w) (slabAt A w))

/-- A step's window and accumulator, from those it starts with. -/
def stepOf (i : grid0.Coords) (tbl : S52.Idx → BitVec 32) (x0 : Vec F S1024x128 .i32) (x1 : Vec F S64x128 .f32)
    (lo hi : Vec F S52x128 .i32) (s : ℕ × Vec F S52x64x128 .f32) : ℕ × Vec F S52x64x128 .f32 :=
  loopN i tbl lo hi (toks i) (split3 (eTile32 x0 x1)) (51 - win0 i s.1) (win0 i s.1)
    (acc1 i lo hi (eTile32 x0 x1) (win0 i s.1) (acc0 i s.2))

/-- The window a step starts at is one of the 52. -/
theorem win0_le (i : grid0.Coords) (w : ℕ) (h : w ≤ 51) : win0 i w ≤ 51 := by
  unfold win0; split <;> omega

/-- The window a step ends at is one of the 52. -/
theorem stepOf_le (i : grid0.Coords) (tbl : S52.Idx → BitVec 32) (x0 : Vec F S1024x128 .i32) (x1 : Vec F S64x128 .f32)
    (lo hi : Vec F S52x128 .i32) (s : ℕ × Vec F S52x64x128 .f32) (h : s.1 ≤ 51) :
    (stepOf i tbl x0 x1 lo hi s).1 ≤ 51 :=
  loopN_le i tbl lo hi _ _ _ _ _ (by have := win0_le i s.1 h; omega)

end Cert.KernelIdeal.Hand

end
-- ==== Proof.KI.Flush.lean ====
/-
  The last step's copy of the accumulator into the pooled tile.
-/
module

public import proofs.«01_k».proof.Proof.KI.Tiles

@[expose] public section

set_option maxRecDepth 65536

noncomputable section

namespace Cert.KernelIdeal.Hand

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

set_option maxHeartbeats 8000000 in
/-- The last step's copy of the accumulator's 52 slabs into the pooled tile. -/
theorem flush_run (c : Dev nD) (i : grid0.Coords) (arg1 : Memref sig .tc .smem S52 .i32) (harg1 : arg1.IsWhole) (arg2 : Memref sig .tc .vmem S1024x128 .i32) (harg2 : arg2.IsWhole) (arg3 : Memref sig .tc .vmem S64x128 .f32) (harg3 : arg3.IsWhole) (arg4 : Memref sig .tc .vmem S52x128 .i32) (harg4 : arg4.IsWhole) (arg5 : Memref sig .tc .vmem S52x128 .i32) (harg5 : arg5.IsWhole) (arg6 : Memref sig .tc .vmem S64x2048 .bf16) (harg6 : arg6.IsWhole) (arg7 : Memref sig .tc .vmem S64x6656 .bf16) (harg7 : arg7.IsWhole) (arg8 : Memref sig .tc .vmem S64x2048 .f32) (harg8 : arg8.IsWhole) (arg9 : Memref sig .tc .vmem S52x64x128 .f32) (harg9 : arg9.IsWhole) (arg10 : Memref sig .tc .smem S1 .i32) (harg10 : arg10.IsWhole) (X7 : Vec F S64x6656 .bf16) (A : Vec F S52x64x128 .f32)
    (K : PUnit → sProp 𝕄) {rest : PUnit → Prog (TpuEff nD τ sig (Elt F) (Λ₀ F) .tc) PUnit} :
    iprop(owns (c : Thread nD τ) arg7 fullShare X7 ∗ owns (c : Thread nD τ) arg9 fullShare A
      ∗ (owns (c : Thread nD τ) arg7 fullShare (pTile A) ∗ owns (c : Thread nD τ) arg9 fullShare A -∗ wp frame (wpE (defs₀ (F := F)) 𝒱₀ (c : Thread nD τ) none) Set.univ (rest ⟨⟩) K))
    ⊢ wp frame (wpE (defs₀ (F := F)) 𝒱₀ (c : Thread nD τ) none) Set.univ ((do
        k0_part1 i arg1 harg1 arg2 harg2 arg3 harg3 arg4 harg4 arg5 harg5 arg6 harg6 arg7 harg7 arg8 harg8 arg9 harg9 arg10 harg10
        k0_part2 i arg1 harg1 arg2 harg2 arg3 harg3 arg4 harg4 arg5 harg5 arg6 harg6 arg7 harg7 arg8 harg8 arg9 harg9 arg10 harg10
        k0_part3 i arg1 harg1 arg2 harg2 arg3 harg3 arg4 harg4 arg5 harg5 arg6 harg6 arg7 harg7 arg8 harg8 arg9 harg9 arg10 harg10
        k0_part4 i arg1 harg1 arg2 harg2 arg3 harg3 arg4 harg4 arg5 harg5 arg6 harg6 arg7 harg7 arg8 harg8 arg9 harg9 arg10 harg10
        k0_part5 i arg1 harg1 arg2 harg2 arg3 harg3 arg4 harg4 arg5 harg5 arg6 harg6 arg7 harg7 arg8 harg8 arg9 harg9 arg10 harg10
        k0_part6 i arg1 harg1 arg2 harg2 arg3 harg3 arg4 harg4 arg5 harg5 arg6 harg6 arg7 harg7 arg8 harg8 arg9 harg9 arg10 harg10
        k0_part7 i arg1 harg1 arg2 harg2 arg3 harg3 arg4 harg4 arg5 harg5 arg6 harg6 arg7 harg7 arg8 harg8 arg9 harg9 arg10 harg10
        k0_part8 i arg1 harg1 arg2 harg2 arg3 harg3 arg4 harg4 arg5 harg5 arg6 harg6 arg7 harg7 arg8 harg8 arg9 harg9 arg10 harg10
        let v770 : Vec F S1x64x128 .f32 ← Prog.lift (.load arg9 (Rect.unit (s := S52x64x128) ![48, 0, 0] S1x64x128.size inb_S52x64x128_S1x64x128_48_0_0).toLoadRect (View.loadsAt_vmem h_S1x64x128))
        let v773 : Vec F S64x128 .bf16 ← Prog.lift (.load arg7 (Rect.unit (s := S64x6656) ![0, 6144] S64x128.size inb_S64x6656_S64x128_0_6144).toLoadRect (View.loadsAt_vmem h_S64x128))
        Prog.lift (.store arg7 (Rect.unit (s := S64x6656) ![0, 6144] S64x128.size inb_S64x6656_S64x128_0_6144) (k0_pay128 v770) Finset.univ (View.stores_vmem h_S64x128 (harg7.storeExact_slice rfl _ packedbf16_S64x6656_S64x128_0_6144) (fun _ => rfl)) (.inl rfl))
        let v774 : Vec F S1x64x128 .f32 ← Prog.lift (.load arg9 (Rect.unit (s := S52x64x128) ![49, 0, 0] S1x64x128.size inb_S52x64x128_S1x64x128_49_0_0).toLoadRect (View.loadsAt_vmem h_S1x64x128))
        let v777 : Vec F S64x128 .bf16 ← Prog.lift (.load arg7 (Rect.unit (s := S64x6656) ![0, 6272] S64x128.size inb_S64x6656_S64x128_0_6272).toLoadRect (View.loadsAt_vmem h_S64x128))
        Prog.lift (.store arg7 (Rect.unit (s := S64x6656) ![0, 6272] S64x128.size inb_S64x6656_S64x128_0_6272) (k0_pay129 v774) Finset.univ (View.stores_vmem h_S64x128 (harg7.storeExact_slice rfl _ packedbf16_S64x6656_S64x128_0_6272) (fun _ => rfl)) (.inl rfl))
        let v778 : Vec F S1x64x128 .f32 ← Prog.lift (.load arg9 (Rect.unit (s := S52x64x128) ![50, 0, 0] S1x64x128.size inb_S52x64x128_S1x64x128_50_0_0).toLoadRect (View.loadsAt_vmem h_S1x64x128))
        let v781 : Vec F S64x128 .bf16 ← Prog.lift (.load arg7 (Rect.unit (s := S64x6656) ![0, 6400] S64x128.size inb_S64x6656_S64x128_0_6400).toLoadRect (View.loadsAt_vmem h_S64x128))
        Prog.lift (.store arg7 (Rect.unit (s := S64x6656) ![0, 6400] S64x128.size inb_S64x6656_S64x128_0_6400) (k0_pay130 v778) Finset.univ (View.stores_vmem h_S64x128 (harg7.storeExact_slice rfl _ packedbf16_S64x6656_S64x128_0_6400) (fun _ => rfl)) (.inl rfl))
        let v782 : Vec F S1x64x128 .f32 ← Prog.lift (.load arg9 (Rect.unit (s := S52x64x128) ![51, 0, 0] S1x64x128.size inb_S52x64x128_S1x64x128_51_0_0).toLoadRect (View.loadsAt_vmem h_S1x64x128))
        let v785 : Vec F S64x128 .bf16 ← Prog.lift (.load arg7 (Rect.unit (s := S64x6656) ![0, 6528] S64x128.size inb_S64x6656_S64x128_0_6528).toLoadRect (View.loadsAt_vmem h_S64x128))
        Prog.lift (.store arg7 (Rect.unit (s := S64x6656) ![0, 6528] S64x128.size inb_S64x6656_S64x128_0_6528) (k0_pay131 v782) Finset.univ (View.stores_vmem h_S64x128 (harg7.storeExact_slice rfl _ packedbf16_S64x6656_S64x128_0_6528) (fun _ => rfl)) (.inl rfl))
        pure ⟨⟩) >>= rest) K := by
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [smemLoad, smemLoadElt, Prog.lift, Prog.bind_op, Prog.bind_ret, Prog.pure_eq_ret]
  rw [← fillTo_zero (N := 6656) X7 (pB A)]
  iintro ⟨H7, H9, Hk⟩
  iapply (wp_load_to 𝒱₀ (c : Thread nD τ) none Set.univ (ld_slab A 0 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 0 0 rfl _ (pB A) _ rfl)) $$ H7; iintro H7
  iapply (wp_load_to 𝒱₀ (c : Thread nD τ) none Set.univ (ld_slab A 1 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 1 128 rfl _ (pB A) _ rfl)) $$ H7; iintro H7
  iapply (wp_load_to 𝒱₀ (c : Thread nD τ) none Set.univ (ld_slab A 2 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 2 256 rfl _ (pB A) _ rfl)) $$ H7; iintro H7
  iapply (wp_load_to 𝒱₀ (c : Thread nD τ) none Set.univ (ld_slab A 3 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 3 384 rfl _ (pB A) _ rfl)) $$ H7; iintro H7
  iapply (wp_load_to 𝒱₀ (c : Thread nD τ) none Set.univ (ld_slab A 4 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 4 512 rfl _ (pB A) _ rfl)) $$ H7; iintro H7
  iapply (wp_load_to 𝒱₀ (c : Thread nD τ) none Set.univ (ld_slab A 5 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 5 640 rfl _ (pB A) _ rfl)) $$ H7; iintro H7
  iapply (wp_load_to 𝒱₀ (c : Thread nD τ) none Set.univ (ld_slab A 6 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 6 768 rfl _ (pB A) _ rfl)) $$ H7; iintro H7
  iapply (wp_load_to 𝒱₀ (c : Thread nD τ) none Set.univ (ld_slab A 7 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 7 896 rfl _ (pB A) _ rfl)) $$ H7; iintro H7
  iapply (wp_load_to 𝒱₀ (c : Thread nD τ) none Set.univ (ld_slab A 8 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 8 1024 rfl _ (pB A) _ rfl)) $$ H7; iintro H7
  iapply (wp_load_to 𝒱₀ (c : Thread nD τ) none Set.univ (ld_slab A 9 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 9 1152 rfl _ (pB A) _ rfl)) $$ H7; iintro H7
  iapply (wp_load_to 𝒱₀ (c : Thread nD τ) none Set.univ (ld_slab A 10 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 10 1280 rfl _ (pB A) _ rfl)) $$ H7; iintro H7
  iapply (wp_load_to 𝒱₀ (c : Thread nD τ) none Set.univ (ld_slab A 11 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 11 1408 rfl _ (pB A) _ rfl)) $$ H7; iintro H7
  iapply (wp_load_to 𝒱₀ (c : Thread nD τ) none Set.univ (ld_slab A 12 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 12 1536 rfl _ (pB A) _ rfl)) $$ H7; iintro H7
  iapply (wp_load_to 𝒱₀ (c : Thread nD τ) none Set.univ (ld_slab A 13 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 13 1664 rfl _ (pB A) _ rfl)) $$ H7; iintro H7
  iapply (wp_load_to 𝒱₀ (c : Thread nD τ) none Set.univ (ld_slab A 14 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 14 1792 rfl _ (pB A) _ rfl)) $$ H7; iintro H7
  iapply (wp_load_to 𝒱₀ (c : Thread nD τ) none Set.univ (ld_slab A 15 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 15 1920 rfl _ (pB A) _ rfl)) $$ H7; iintro H7
  iapply (wp_load_to 𝒱₀ (c : Thread nD τ) none Set.univ (ld_slab A 16 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 16 2048 rfl _ (pB A) _ rfl)) $$ H7; iintro H7
  iapply (wp_load_to 𝒱₀ (c : Thread nD τ) none Set.univ (ld_slab A 17 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 17 2176 rfl _ (pB A) _ rfl)) $$ H7; iintro H7
  iapply (wp_load_to 𝒱₀ (c : Thread nD τ) none Set.univ (ld_slab A 18 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 18 2304 rfl _ (pB A) _ rfl)) $$ H7; iintro H7
  iapply (wp_load_to 𝒱₀ (c : Thread nD τ) none Set.univ (ld_slab A 19 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 19 2432 rfl _ (pB A) _ rfl)) $$ H7; iintro H7
  iapply (wp_load_to 𝒱₀ (c : Thread nD τ) none Set.univ (ld_slab A 20 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 20 2560 rfl _ (pB A) _ rfl)) $$ H7; iintro H7
  iapply (wp_load_to 𝒱₀ (c : Thread nD τ) none Set.univ (ld_slab A 21 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 21 2688 rfl _ (pB A) _ rfl)) $$ H7; iintro H7
  iapply (wp_load_to 𝒱₀ (c : Thread nD τ) none Set.univ (ld_slab A 22 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 22 2816 rfl _ (pB A) _ rfl)) $$ H7; iintro H7
  iapply (wp_load_to 𝒱₀ (c : Thread nD τ) none Set.univ (ld_slab A 23 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 23 2944 rfl _ (pB A) _ rfl)) $$ H7; iintro H7
  iapply (wp_load_to 𝒱₀ (c : Thread nD τ) none Set.univ (ld_slab A 24 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 24 3072 rfl _ (pB A) _ rfl)) $$ H7; iintro H7
  iapply (wp_load_to 𝒱₀ (c : Thread nD τ) none Set.univ (ld_slab A 25 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 25 3200 rfl _ (pB A) _ rfl)) $$ H7; iintro H7
  iapply (wp_load_to 𝒱₀ (c : Thread nD τ) none Set.univ (ld_slab A 26 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 26 3328 rfl _ (pB A) _ rfl)) $$ H7; iintro H7
  iapply (wp_load_to 𝒱₀ (c : Thread nD τ) none Set.univ (ld_slab A 27 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 27 3456 rfl _ (pB A) _ rfl)) $$ H7; iintro H7
  iapply (wp_load_to 𝒱₀ (c : Thread nD τ) none Set.univ (ld_slab A 28 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 28 3584 rfl _ (pB A) _ rfl)) $$ H7; iintro H7
  iapply (wp_load_to 𝒱₀ (c : Thread nD τ) none Set.univ (ld_slab A 29 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 29 3712 rfl _ (pB A) _ rfl)) $$ H7; iintro H7
  iapply (wp_load_to 𝒱₀ (c : Thread nD τ) none Set.univ (ld_slab A 30 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 30 3840 rfl _ (pB A) _ rfl)) $$ H7; iintro H7
  iapply (wp_load_to 𝒱₀ (c : Thread nD τ) none Set.univ (ld_slab A 31 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 31 3968 rfl _ (pB A) _ rfl)) $$ H7; iintro H7
  iapply (wp_load_to 𝒱₀ (c : Thread nD τ) none Set.univ (ld_slab A 32 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 32 4096 rfl _ (pB A) _ rfl)) $$ H7; iintro H7
  iapply (wp_load_to 𝒱₀ (c : Thread nD τ) none Set.univ (ld_slab A 33 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 33 4224 rfl _ (pB A) _ rfl)) $$ H7; iintro H7
  iapply (wp_load_to 𝒱₀ (c : Thread nD τ) none Set.univ (ld_slab A 34 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 34 4352 rfl _ (pB A) _ rfl)) $$ H7; iintro H7
  iapply (wp_load_to 𝒱₀ (c : Thread nD τ) none Set.univ (ld_slab A 35 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 35 4480 rfl _ (pB A) _ rfl)) $$ H7; iintro H7
  iapply (wp_load_to 𝒱₀ (c : Thread nD τ) none Set.univ (ld_slab A 36 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 36 4608 rfl _ (pB A) _ rfl)) $$ H7; iintro H7
  iapply (wp_load_to 𝒱₀ (c : Thread nD τ) none Set.univ (ld_slab A 37 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 37 4736 rfl _ (pB A) _ rfl)) $$ H7; iintro H7
  iapply (wp_load_to 𝒱₀ (c : Thread nD τ) none Set.univ (ld_slab A 38 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 38 4864 rfl _ (pB A) _ rfl)) $$ H7; iintro H7
  iapply (wp_load_to 𝒱₀ (c : Thread nD τ) none Set.univ (ld_slab A 39 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 39 4992 rfl _ (pB A) _ rfl)) $$ H7; iintro H7
  iapply (wp_load_to 𝒱₀ (c : Thread nD τ) none Set.univ (ld_slab A 40 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 40 5120 rfl _ (pB A) _ rfl)) $$ H7; iintro H7
  iapply (wp_load_to 𝒱₀ (c : Thread nD τ) none Set.univ (ld_slab A 41 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 41 5248 rfl _ (pB A) _ rfl)) $$ H7; iintro H7
  iapply (wp_load_to 𝒱₀ (c : Thread nD τ) none Set.univ (ld_slab A 42 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 42 5376 rfl _ (pB A) _ rfl)) $$ H7; iintro H7
  iapply (wp_load_to 𝒱₀ (c : Thread nD τ) none Set.univ (ld_slab A 43 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 43 5504 rfl _ (pB A) _ rfl)) $$ H7; iintro H7
  iapply (wp_load_to 𝒱₀ (c : Thread nD τ) none Set.univ (ld_slab A 44 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 44 5632 rfl _ (pB A) _ rfl)) $$ H7; iintro H7
  iapply (wp_load_to 𝒱₀ (c : Thread nD τ) none Set.univ (ld_slab A 45 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 45 5760 rfl _ (pB A) _ rfl)) $$ H7; iintro H7
  iapply (wp_load_to 𝒱₀ (c : Thread nD τ) none Set.univ (ld_slab A 46 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 46 5888 rfl _ (pB A) _ rfl)) $$ H7; iintro H7
  iapply (wp_load_to 𝒱₀ (c : Thread nD τ) none Set.univ (ld_slab A 47 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 47 6016 rfl _ (pB A) _ rfl)) $$ H7; iintro H7
  iapply (wp_load_to 𝒱₀ (c : Thread nD τ) none Set.univ (ld_slab A 48 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 48 6144 rfl _ (pB A) _ rfl)) $$ H7; iintro H7
  iapply (wp_load_to 𝒱₀ (c : Thread nD τ) none Set.univ (ld_slab A 49 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 49 6272 rfl _ (pB A) _ rfl)) $$ H7; iintro H7
  iapply (wp_load_to 𝒱₀ (c : Thread nD τ) none Set.univ (ld_slab A 50 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 50 6400 rfl _ (pB A) _ rfl)) $$ H7; iintro H7
  iapply (wp_load_to 𝒱₀ (c : Thread nD τ) none Set.univ (ld_slab A 51 (by decide) _ rfl _)) $$ H9; iintro H9
  iapply (wp_load_owns 𝒱₀ (c : Thread nD τ) none Set.univ) $$ H7; iintro H7
  iapply (wp_store_to 𝒱₀ (c : Thread nD τ) none Set.univ (fill_step (N := 6656) 51 6528 rfl _ (pB A) _ rfl)) $$ H7; iintro H7
  rw [fillTo_all (N := 6656) 52 rfl _ (pB A)]
  iapply Hk
  isplitl [H7]; · iexact H7
  iexact H9

end Cert.KernelIdeal.Hand

end
-- ==== Proof.KI.Tail.lean ====
/-
  The last part of a step's program: from the step's embeddings the accumulation into the windows they meet, and at
  the launch's last step the pooled tile from the accumulator.
-/
module

public import proofs.«01_k».proof.Proof.KI.Flush

@[expose] public section

set_option maxRecDepth 65536

noncomputable section

namespace Cert.KernelIdeal.Hand

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- What the tail of a step holds, with the accumulator, the window's word and the pooled tile at given values. -/
def tailHeld (c : Dev nD) (q : PosShare TreeShare) (arg1 : Memref sig .tc .smem S52 .i32) (arg4 arg5 : Memref sig .tc .vmem S52x128 .i32)
    (arg7 : Memref sig .tc .vmem S64x6656 .bf16) (arg9 : Memref sig .tc .vmem S52x64x128 .f32) (arg10 : Memref sig .tc .smem S1 .i32)
    (tbl : S52.Idx → Elt F .i32) (lo hi : Vec F S52x128 .i32) (X7 : Vec F S64x6656 .bf16) (s : ℕ × Vec F S52x64x128 .f32) : sProp 𝕄 :=
  iprop(owns (c : Thread nD τ) arg1 q tbl ∗ owns (c : Thread nD τ) arg4 fullShare lo ∗ owns (c : Thread nD τ) arg5 fullShare hi ∗ owns (c : Thread nD τ) arg7 fullShare X7
    ∗ owns (c : Thread nD τ) arg9 fullShare s.2 ∗ owns (Val := Elt F) (c : Thread nD τ) arg10 fullShare (fun _ => wd s.1))

set_option maxHeartbeats 8000000 in
/-- The tail of a step, from window `w` and accumulator `A`. -/
theorem tail_run (c : Dev nD) (q : PosShare TreeShare) (i : grid0.Coords) (arg1 : Memref sig .tc .smem S52 .i32) (harg1 : arg1.IsWhole) (arg2 : Memref sig .tc .vmem S1024x128 .i32) (harg2 : arg2.IsWhole) (arg3 : Memref sig .tc .vmem S64x128 .f32) (harg3 : arg3.IsWhole) (arg4 : Memref sig .tc .vmem S52x128 .i32) (harg4 : arg4.IsWhole) (arg5 : Memref sig .tc .vmem S52x128 .i32) (harg5 : arg5.IsWhole) (arg6 : Memref sig .tc .vmem S64x2048 .bf16) (harg6 : arg6.IsWhole) (arg7 : Memref sig .tc .vmem S64x6656 .bf16) (harg7 : arg7.IsWhole) (arg8 : Memref sig .tc .vmem S64x2048 .f32) (harg8 : arg8.IsWhole) (arg9 : Memref sig .tc .vmem S52x64x128 .f32) (harg9 : arg9.IsWhole) (arg10 : Memref sig .tc .smem S1 .i32) (harg10 : arg10.IsWhole)
    (tbl : S52.Idx → Elt F .i32) (lo hi : Vec F S52x128 .i32) (X7 : Vec F S64x6656 .bf16) (E : Vec F S64x2048 .f32)
    (w : ℕ) (hw : w ≤ 51) (A : Vec F S52x64x128 .f32) (K : PUnit → sProp 𝕄) :
    iprop(tailHeld c q arg1 arg4 arg5 arg7 arg9 arg10 tbl lo hi X7 (w, A)
      ∗ (∀ s, ⌜s = loopN i tbl lo hi (toks i) (split3 E) (51 - w) w (acc1 i lo hi E w A)⌝
        -∗ tailHeld c q arg1 arg4 arg5 arg7 arg9 arg10 tbl lo hi (if k0_cond2 i = 1#1 then pTile s.2 else X7) s -∗ K ⟨⟩))
    ⊢ wp frame (wpE (defs₀ (F := F)) 𝒱₀ (c : Thread nD τ) none) Set.univ
      (k0_part22 i arg1 harg1 arg2 harg2 arg3 harg3 arg4 harg4 arg5 harg5 arg6 harg6 arg7 harg7 arg8 harg8 arg9 harg9 arg10 harg10 (BitVec.ofNat 32 (i 0).val) E (k0_pay123 E) (k0_pay124 E)) K := by
  simp only [k0_part22_eq_skeleton]; unfold k0_part22_skel
  simp only [smemLoad, smemLoadElt, Prog.lift, Prog.bind_op, Prog.bind_ret, Prog.pure_eq_ret]
  unfold tailHeld
  iintro ⟨⟨H1, H4, H5, H7, H9, H10⟩, Hk⟩
  iapply (wp_load_to 𝒱₀ (c : Thread nD τ) none Set.univ (v := fun _ => wd w) rfl) $$ H10; iintro H10
  iapply (wp_assume 𝒱₀ (c : Thread nD τ) none Set.univ (chk1_of w (by omega)))
  iapply (wp_load_to 𝒱₀ (c : Thread nD τ) none Set.univ (ld_row lo w (by omega) _ (off1_of w (by omega)) _)) $$ H4; iintro H4
  iapply (wp_load_to 𝒱₀ (c : Thread nD τ) none Set.univ (ld_row hi w (by omega) _ (off1_of w (by omega)) _)) $$ H5; iintro H5
  iapply (wp_load_to 𝒱₀ (c : Thread nD τ) none Set.univ (ld_slab A w (by omega) _ (off2_of w (by omega)) _)) $$ H9; iintro H9
  iapply (wp_load_owns 𝒱₀ (c : Thread nD τ) none Set.univ) $$ H9; iintro H9
  iapply (wp_store_owns 𝒱₀ (c : Thread nD τ) none Set.univ) $$ H9; iintro H9
  rw [off2_of w (by omega)]
  iapply (wp_call_spec 𝒱₀ (c : Thread nD τ) none Set.univ
    (spec c q i arg1 arg4 arg5 (toks i) (split3 E) arg9 tbl lo hi (51 - w) w (acc1 i lo hi E w A)) (51 - w)
    (fun u hu => nomatch hu)
    (spec_le c q i (wd w) (chk1_of w (by omega)) arg1 harg1 arg4 harg4 arg5 harg5 (toks i) (split3 E) arg9 harg9 tbl lo hi
      Set.univ (51 - w) w (by omega) (acc1 i lo hi E w A)))
  rw [spec_apply]; unfold held
  isplitl [H1 H4 H5 H9]
  · isplitl [H1]; · iexact H1
    isplitl [H4]; · iexact H4
    isplitl [H5]; · iexact H5
    iexact H9
  iintro ⟨H1, H4, H5, H9⟩
  generalize hs : loopN i tbl lo hi (toks i) (split3 E) (51 - w) w (acc1 i lo hi E w A) = s
  obtain ⟨w', A'⟩ := s
  ispecialize Hk $$ %((w', A') : ℕ × Vec F S52x64x128 .f32) %rfl
  iapply (wp_load_owns 𝒱₀ (c : Thread nD τ) none Set.univ) $$ H10; iintro H10
  iapply (wp_store_to 𝒱₀ (c : Thread nD τ) none Set.univ (put_all (s := S1) _ _ (funext fun a => match a with | 0 => rfl) _)) $$ H10; iintro H10
  by_cases hc : k0_cond2 i = 1#1
  · rw [dif_pos hc]
    iapply (flush_run c i arg1 harg1 arg2 harg2 arg3 harg3 arg4 harg4 arg5 harg5 arg6 harg6 arg7 harg7 arg8 harg8 arg9 harg9 arg10 harg10 X7 A')
    isplitl [H7]; · iexact H7
    isplitl [H9]; · iexact H9
    iintro ⟨H7, H9⟩
    rw [wp_ret]; imodintro
    rw [if_pos hc]
    iapply Hk
    isplitl [H1]; · iexact H1
    isplitl [H4]; · iexact H4
    isplitl [H5]; · iexact H5
    isplitl [H7]; · iexact H7
    isplitl [H9]; · iexact H9
    iexact H10
  · rw [dif_neg hc]
    simp only [Prog.bind_ret]
    rw [wp_ret]; imodintro
    rw [if_neg hc]
    iapply Hk
    isplitl [H1]; · iexact H1
    isplitl [H4]; · iexact H4
    isplitl [H5]; · iexact H5
    isplitl [H7]; · iexact H7
    isplitl [H9]; · iexact H9
    iexact H10

end Cert.KernelIdeal.Hand

end
-- ==== Proof.KI.Run.lean ====
/-
  The first part of a step's program: at the launch's first step the accumulator and the window are reset, and the
  step's sixteen blocks of embeddings are computed and stored.
-/
module

public import proofs.«01_k».proof.Proof.KI.Tail

@[expose] public section

set_option maxRecDepth 65536

noncomputable section

namespace Cert.KernelIdeal.Hand

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- What a step holds. -/
def stepHeld (c : Dev nD) (q : PosShare TreeShare) (arg1 : Memref sig .tc .smem S52 .i32) (arg2 : Memref sig .tc .vmem S1024x128 .i32) (arg3 : Memref sig .tc .vmem S64x128 .f32) (arg4 : Memref sig .tc .vmem S52x128 .i32) (arg5 : Memref sig .tc .vmem S52x128 .i32) (arg6 : Memref sig .tc .vmem S64x2048 .bf16) (arg7 : Memref sig .tc .vmem S64x6656 .bf16) (arg8 : Memref sig .tc .vmem S64x2048 .f32) (arg9 : Memref sig .tc .vmem S52x64x128 .f32) (arg10 : Memref sig .tc .smem S1 .i32)
    (tbl : S52.Idx → Elt F .i32) (x0 : Vec F S1024x128 .i32) (x1 : Vec F S64x128 .f32) (lo hi : Vec F S52x128 .i32)
    (X6 : Vec F S64x2048 .bf16) (X7 : Vec F S64x6656 .bf16) (X8 : Vec F S64x2048 .f32) (A : Vec F S52x64x128 .f32)
    (X10 : S1.Idx → Elt F .i32) : sProp 𝕄 :=
  iprop(owns (c : Thread nD τ) arg1 q tbl ∗ owns (c : Thread nD τ) arg2 fullShare x0 ∗ owns (c : Thread nD τ) arg3 fullShare x1
    ∗ owns (c : Thread nD τ) arg4 fullShare lo ∗ owns (c : Thread nD τ) arg5 fullShare hi ∗ owns (c : Thread nD τ) arg6 fullShare X6
    ∗ owns (c : Thread nD τ) arg7 fullShare X7 ∗ owns (c : Thread nD τ) arg8 fullShare X8
    ∗ owns (c : Thread nD τ) arg9 fullShare A ∗ owns (Val := Elt F) (c : Thread nD τ) arg10 fullShare X10)

/-- The reset at the first step. -/
theorem init_run (c : Dev nD) (i : grid0.Coords) (arg9 : Memref sig .tc .vmem S52x64x128 .f32) (arg10 : Memref sig .tc .smem S1 .i32)
    (A : Vec F S52x64x128 .f32) (X10 : S1.Idx → Elt F .i32) (w : ℕ) (h10 : ¬first i → X10 = fun _ => wd w) {β : Type} {R : Prog (TpuEff nD τ sig (Elt F) (Λ₀ F) .tc) β} (K : β → sProp 𝕄) :
    iprop(owns (c : Thread nD τ) arg9 fullShare A ∗ owns (Val := Elt F) (c : Thread nD τ) arg10 fullShare X10
      ∗ (owns (c : Thread nD τ) arg9 fullShare (acc0 i A) ∗ owns (Val := Elt F) (c : Thread nD τ) arg10 fullShare (fun _ => wd (win0 i w)) -∗ wp frame (wpE (defs₀ (F := F)) 𝒱₀ (c : Thread nD τ) none) Set.univ R K))
    ⊢ wp frame (wpE (defs₀ (F := F)) 𝒱₀ (c : Thread nD τ) none) Set.univ (show Prog (TpuEff nD τ sig (Elt F) (Λ₀ F) .tc) β from
      if k0_h1 : first i then do
          let v579 : Vec F S52x64x128 .f32 ← Prog.lift (.load arg9 (Rect.unit (s := S52x64x128) ![0, 0, 0] S52x64x128.size inb_S52x64x128_S52x64x128_0_0_0).toLoadRect (View.loadsAt_vmem h_S52x64x128))
          Prog.lift (.store arg9 (Rect.unit (s := S52x64x128) ![0, 0, 0] S52x64x128.size inb_S52x64x128_S52x64x128_0_0_0) (k0_pay50 (F := F)) Finset.univ (View.stores_vmem_bits_univ h_S52x64x128 rfl) (.inl rfl))
          let v582 : Elt F .i32 ← smemLoad arg10 (Rect.unit (s := S1) ![0] S1.size inb_S1_S1_0) numel1_S1 rfl
          Prog.lift (.store arg10 (Rect.unit (s := S1) ![0] S1.size inb_S1_S1_0) (fun _ => 0#32) Finset.univ (View.stores_smem_one rfl numel1_S1) (.inl rfl))
          R
        else do
          R) K := by
  iintro ⟨H9, H10, Hk⟩
  by_cases h : first i
  · rw [dif_pos h]
    simp only [smemLoad, smemLoadElt, Prog.lift, Prog.bind_op, Prog.bind_ret, Prog.pure_eq_ret]
    iapply (wp_load_owns 𝒱₀ (c : Thread nD τ) none Set.univ) $$ H9; iintro H9
    iapply (wp_store_to 𝒱₀ (c : Thread nD τ) none Set.univ (put_all (s := S52x64x128) _ _ (funext fun a => match a with | 0 => rfl | 1 => rfl | 2 => rfl) _)) $$ H9; iintro H9
    iapply (wp_load_owns 𝒱₀ (c : Thread nD τ) none Set.univ) $$ H10; iintro H10
    iapply (wp_store_to 𝒱₀ (c : Thread nD τ) none Set.univ (put_all (s := S1) _ _ (funext fun a => match a with | 0 => rfl) _)) $$ H10; iintro H10
    unfold acc0 win0
    rw [if_pos h, if_pos h]
    iapply Hk
    isplitl [H9]; · iexact H9
    iexact H10
  · rw [dif_neg h]
    obtain rfl := h10 h
    unfold acc0 win0
    rw [if_neg h, if_neg h]
    iapply Hk
    isplitl [H9]; · iexact H9
    iexact H10

set_option maxHeartbeats 16000000 in
/-- A step, from window `w` and accumulator `A` (anything at the first step). -/
theorem body_run (c : Dev nD) (q : PosShare TreeShare) (i : grid0.Coords) (arg1 : Memref sig .tc .smem S52 .i32) (harg1 : arg1.IsWhole) (arg2 : Memref sig .tc .vmem S1024x128 .i32) (harg2 : arg2.IsWhole) (arg3 : Memref sig .tc .vmem S64x128 .f32) (harg3 : arg3.IsWhole) (arg4 : Memref sig .tc .vmem S52x128 .i32) (harg4 : arg4.IsWhole) (arg5 : Memref sig .tc .vmem S52x128 .i32) (harg5 : arg5.IsWhole) (arg6 : Memref sig .tc .vmem S64x2048 .bf16) (harg6 : arg6.IsWhole) (arg7 : Memref sig .tc .vmem S64x6656 .bf16) (harg7 : arg7.IsWhole) (arg8 : Memref sig .tc .vmem S64x2048 .f32) (harg8 : arg8.IsWhole) (arg9 : Memref sig .tc .vmem S52x64x128 .f32) (harg9 : arg9.IsWhole) (arg10 : Memref sig .tc .smem S1 .i32) (harg10 : arg10.IsWhole)
    (tbl : S52.Idx → Elt F .i32) (x0 : Vec F S1024x128 .i32) (x1 : Vec F S64x128 .f32) (lo hi : Vec F S52x128 .i32)
    (X6 : Vec F S64x2048 .bf16) (X7 : Vec F S64x6656 .bf16) (X8 : Vec F S64x2048 .f32) (A : Vec F S52x64x128 .f32)
    (X10 : S1.Idx → Elt F .i32) (w : ℕ) (hw : w ≤ 51) (h10 : ¬first i → X10 = fun _ => wd w) (K : PUnit → sProp 𝕄) :
    iprop(stepHeld c q arg1 arg2 arg3 arg4 arg5 arg6 arg7 arg8 arg9 arg10 tbl x0 x1 lo hi X6 X7 X8 A X10
      ∗ (∀ s, ⌜s = stepOf i tbl x0 x1 lo hi (w, A)⌝
        -∗ stepHeld c q arg1 arg2 arg3 arg4 arg5 arg6 arg7 arg8 arg9 arg10 tbl x0 x1 lo hi (eTile16 x0 x1)
            (if k0_cond2 i = 1#1 then pTile s.2 else X7) (eTile32 x0 x1) s.2 (fun _ => wd s.1) -∗ K ⟨⟩))
    ⊢ wp frame (wpE (defs₀ (F := F)) 𝒱₀ (c : Thread nD τ) none) Set.univ (cc0_mix_pool i arg1 harg1 arg2 harg2 arg3 harg3 arg4 harg4 arg5 harg5 arg6 harg6 arg7 harg7 arg8 harg8 arg9 harg9 arg10 harg10) K := by
  simp only [cc0_mix_pool_eq_skeleton]; unfold cc0_mix_pool_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part9_skel k0_part10_skel k0_part11_skel k0_part12_skel k0_part13_skel k0_part14_skel k0_part15_skel k0_part16_skel k0_part17_skel k0_part18_skel k0_part19_skel k0_part20_skel k0_part21_skel
  simp only [smemLoad, smemLoadElt, Prog.lift, Prog.bind_op, Prog.bind_ret, Prog.pure_eq_ret]
  unfold stepHeld
  iintro ⟨⟨H1, H2, H3, H4, H5, H6, H7, H8, H9, H10⟩, Hk⟩
  rw [wp_bind]
  iapply (init_run c i arg9 arg10 A X10 w h10)
  isplitl [H9]; · iexact H9
  isplitl [H10]; · iexact H10
  iintro ⟨H9, H10⟩
  rw [← fillTo_zero (N := 2048) X6 (eB16 x0 x1), ← fillTo_zero (N := 2048) X8 (eB32 x0 x1)]
  iapply (wp_load_to 𝒱₀ (c : Thread nD τ) none Set.univ (ld_rows x0 0 0 rfl (by decide) _)) $$ H2; iintro H2
  iapply (wp_load_to 𝒱₀ (c : Thread nD τ) none Set.univ (ld_wrow x1 0 (by decide) _)) $$ H3; iintro H3
  iapply (wp_load_to 𝒱₀ (c : Thread nD τ) none Set.univ (ld_wrow x1 1 (by decide) _)) $$ H3; iintro H3
  iapply (wp_load_to 𝒱₀ (c : Thread nD τ) none Set.univ (ld_wrow x1 2 (by decide) _)) $$ H3; iintro H3
  iapply (wp_load_to 𝒱₀ (c : Thread nD τ) none Set.univ (ld_wrow x1 3 (by decide) _)) $$ H3; iintro H3
  iapply (wp_load_owns 𝒱₀ (c : Thread nD τ) none Set.univ) $$ H8; iintro H8
  iapply (wp_store_to 𝒱₀ (c : Thread nD τ) none Set.univ (fill_step (N := 2048) 0 0 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 0 0 rfl _ (eB16 x0 x1) _ rfl)) $$ H6; iintro H6
  rw [wp_ret]; imodintro
  dsimp only
  iapply (wp_load_to 𝒱₀ (c : Thread nD τ) none Set.univ (ld_wrow x1 4 (by decide) _)) $$ H3; iintro H3
  iapply (wp_load_to 𝒱₀ (c : Thread nD τ) none Set.univ (ld_wrow x1 5 (by decide) _)) $$ H3; iintro H3
  iapply (wp_load_to 𝒱₀ (c : Thread nD τ) none Set.univ (ld_wrow x1 6 (by decide) _)) $$ H3; iintro H3
  iapply (wp_load_to 𝒱₀ (c : Thread nD τ) none Set.univ (ld_wrow x1 7 (by decide) _)) $$ H3; iintro H3
  iapply (wp_load_owns 𝒱₀ (c : Thread nD τ) none Set.univ) $$ H8; iintro H8
  iapply (wp_store_to 𝒱₀ (c : Thread nD τ) none Set.univ (fill_step (N := 2048) 1 128 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 1 128 rfl _ (eB16 x0 x1) _ rfl)) $$ H6; iintro H6
  iapply (wp_load_to 𝒱₀ (c : Thread nD τ) none Set.univ (ld_rows x0 1 128 rfl (by decide) _)) $$ H2; iintro H2
  iapply (wp_load_to 𝒱₀ (c : Thread nD τ) none Set.univ (ld_wrow x1 8 (by decide) _)) $$ H3; iintro H3
  iapply (wp_load_to 𝒱₀ (c : Thread nD τ) none Set.univ (ld_wrow x1 9 (by decide) _)) $$ H3; iintro H3
  iapply (wp_load_to 𝒱₀ (c : Thread nD τ) none Set.univ (ld_wrow x1 10 (by decide) _)) $$ H3; iintro H3
  iapply (wp_load_to 𝒱₀ (c : Thread nD τ) none Set.univ (ld_wrow x1 11 (by decide) _)) $$ H3; iintro H3
  iapply (wp_load_owns 𝒱₀ (c : Thread nD τ) none Set.univ) $$ H8; iintro H8
  iapply (wp_store_to 𝒱₀ (c : Thread nD τ) none Set.univ (fill_step (N := 2048) 2 256 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 2 256 rfl _ (eB16 x0 x1) _ rfl)) $$ H6; iintro H6
  iapply (wp_load_to 𝒱₀ (c : Thread nD τ) none Set.univ (ld_wrow x1 12 (by decide) _)) $$ H3; iintro H3
  iapply (wp_load_to 𝒱₀ (c : Thread nD τ) none Set.univ (ld_wrow x1 13 (by decide) _)) $$ H3; iintro H3
  iapply (wp_load_to 𝒱₀ (c : Thread nD τ) none Set.univ (ld_wrow x1 14 (by decide) _)) $$ H3; iintro H3
  iapply (wp_load_to 𝒱₀ (c : Thread nD τ) none Set.univ (ld_wrow x1 15 (by decide) _)) $$ H3; iintro H3
  iapply (wp_load_owns 𝒱₀ (c : Thread nD τ) none Set.univ) $$ H8; iintro H8
  iapply (wp_store_to 𝒱₀ (c : Thread nD τ) none Set.univ (fill_step (N := 2048) 3 384 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 3 384 rfl _ (eB16 x0 x1) _ rfl)) $$ H6; iintro H6
  iapply (wp_load_to 𝒱₀ (c : Thread nD τ) none Set.univ (ld_rows x0 2 256 rfl (by decide) _)) $$ H2; iintro H2
  iapply (wp_load_to 𝒱₀ (c : Thread nD τ) none Set.univ (ld_wrow x1 16 (by decide) _)) $$ H3; iintro H3
  iapply (wp_load_to 𝒱₀ (c : Thread nD τ) none Set.univ (ld_wrow x1 17 (by decide) _)) $$ H3; iintro H3
  iapply (wp_load_to 𝒱₀ (c : Thread nD τ) none Set.univ (ld_wrow x1 18 (by decide) _)) $$ H3; iintro H3
  iapply (wp_load_to 𝒱₀ (c : Thread nD τ) none Set.univ (ld_wrow x1 19 (by decide) _)) $$ H3; iintro H3
  iapply (wp_load_owns 𝒱₀ (c : Thread nD τ) none Set.univ) $$ H8; iintro H8
  iapply (wp_store_to 𝒱₀ (c : Thread nD τ) none Set.univ (fill_step (N := 2048) 4 512 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 4 512 rfl _ (eB16 x0 x1) _ rfl)) $$ H6; iintro H6
  iapply (wp_load_to 𝒱₀ (c : Thread nD τ) none Set.univ (ld_wrow x1 20 (by decide) _)) $$ H3; iintro H3
  iapply (wp_load_to 𝒱₀ (c : Thread nD τ) none Set.univ (ld_wrow x1 21 (by decide) _)) $$ H3; iintro H3
  iapply (wp_load_to 𝒱₀ (c : Thread nD τ) none Set.univ (ld_wrow x1 22 (by decide) _)) $$ H3; iintro H3
  iapply (wp_load_to 𝒱₀ (c : Thread nD τ) none Set.univ (ld_wrow x1 23 (by decide) _)) $$ H3; iintro H3
  iapply (wp_load_owns 𝒱₀ (c : Thread nD τ) none Set.univ) $$ H8; iintro H8
  iapply (wp_store_to 𝒱₀ (c : Thread nD τ) none Set.univ (fill_step (N := 2048) 5 640 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 5 640 rfl _ (eB16 x0 x1) _ rfl)) $$ H6; iintro H6
  iapply (wp_load_to 𝒱₀ (c : Thread nD τ) none Set.univ (ld_rows x0 3 384 rfl (by decide) _)) $$ H2; iintro H2
  iapply (wp_load_to 𝒱₀ (c : Thread nD τ) none Set.univ (ld_wrow x1 24 (by decide) _)) $$ H3; iintro H3
  iapply (wp_load_to 𝒱₀ (c : Thread nD τ) none Set.univ (ld_wrow x1 25 (by decide) _)) $$ H3; iintro H3
  iapply (wp_load_to 𝒱₀ (c : Thread nD τ) none Set.univ (ld_wrow x1 26 (by decide) _)) $$ H3; iintro H3
  iapply (wp_load_to 𝒱₀ (c : Thread nD τ) none Set.univ (ld_wrow x1 27 (by decide) _)) $$ H3; iintro H3
  iapply (wp_load_owns 𝒱₀ (c : Thread nD τ) none Set.univ) $$ H8; iintro H8
  iapply (wp_store_to 𝒱₀ (c : Thread nD τ) none Set.univ (fill_step (N := 2048) 6 768 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 6 768 rfl _ (eB16 x0 x1) _ rfl)) $$ H6; iintro H6
  iapply (wp_load_to 𝒱₀ (c : Thread nD τ) none Set.univ (ld_wrow x1 28 (by decide) _)) $$ H3; iintro H3
  iapply (wp_load_to 𝒱₀ (c : Thread nD τ) none Set.univ (ld_wrow x1 29 (by decide) _)) $$ H3; iintro H3
  iapply (wp_load_to 𝒱₀ (c : Thread nD τ) none Set.univ (ld_wrow x1 30 (by decide) _)) $$ H3; iintro H3
  iapply (wp_load_to 𝒱₀ (c : Thread nD τ) none Set.univ (ld_wrow x1 31 (by decide) _)) $$ H3; iintro H3
  iapply (wp_load_owns 𝒱₀ (c : Thread nD τ) none Set.univ) $$ H8; iintro H8
  iapply (wp_store_to 𝒱₀ (c : Thread nD τ) none Set.univ (fill_step (N := 2048) 7 896 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 7 896 rfl _ (eB16 x0 x1) _ rfl)) $$ H6; iintro H6
  iapply (wp_load_to 𝒱₀ (c : Thread nD τ) none Set.univ (ld_rows x0 4 512 rfl (by decide) _)) $$ H2; iintro H2
  iapply (wp_load_to 𝒱₀ (c : Thread nD τ) none Set.univ (ld_wrow x1 32 (by decide) _)) $$ H3; iintro H3
  iapply (wp_load_to 𝒱₀ (c : Thread nD τ) none Set.univ (ld_wrow x1 33 (by decide) _)) $$ H3; iintro H3
  iapply (wp_load_to 𝒱₀ (c : Thread nD τ) none Set.univ (ld_wrow x1 34 (by decide) _)) $$ H3; iintro H3
  iapply (wp_load_to 𝒱₀ (c : Thread nD τ) none Set.univ (ld_wrow x1 35 (by decide) _)) $$ H3; iintro H3
  iapply (wp_load_owns 𝒱₀ (c : Thread nD τ) none Set.univ) $$ H8; iintro H8
  iapply (wp_store_to 𝒱₀ (c : Thread nD τ) none Set.univ (fill_step (N := 2048) 8 1024 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 8 1024 rfl _ (eB16 x0 x1) _ rfl)) $$ H6; iintro H6
  iapply (wp_load_to 𝒱₀ (c : Thread nD τ) none Set.univ (ld_wrow x1 36 (by decide) _)) $$ H3; iintro H3
  iapply (wp_load_to 𝒱₀ (c : Thread nD τ) none Set.univ (ld_wrow x1 37 (by decide) _)) $$ H3; iintro H3
  iapply (wp_load_to 𝒱₀ (c : Thread nD τ) none Set.univ (ld_wrow x1 38 (by decide) _)) $$ H3; iintro H3
  iapply (wp_load_to 𝒱₀ (c : Thread nD τ) none Set.univ (ld_wrow x1 39 (by decide) _)) $$ H3; iintro H3
  iapply (wp_load_owns 𝒱₀ (c : Thread nD τ) none Set.univ) $$ H8; iintro H8
  iapply (wp_store_to 𝒱₀ (c : Thread nD τ) none Set.univ (fill_step (N := 2048) 9 1152 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 9 1152 rfl _ (eB16 x0 x1) _ rfl)) $$ H6; iintro H6
  iapply (wp_load_to 𝒱₀ (c : Thread nD τ) none Set.univ (ld_rows x0 5 640 rfl (by decide) _)) $$ H2; iintro H2
  iapply (wp_load_to 𝒱₀ (c : Thread nD τ) none Set.univ (ld_wrow x1 40 (by decide) _)) $$ H3; iintro H3
  iapply (wp_load_to 𝒱₀ (c : Thread nD τ) none Set.univ (ld_wrow x1 41 (by decide) _)) $$ H3; iintro H3
  iapply (wp_load_to 𝒱₀ (c : Thread nD τ) none Set.univ (ld_wrow x1 42 (by decide) _)) $$ H3; iintro H3
  iapply (wp_load_to 𝒱₀ (c : Thread nD τ) none Set.univ (ld_wrow x1 43 (by decide) _)) $$ H3; iintro H3
  iapply (wp_load_owns 𝒱₀ (c : Thread nD τ) none Set.univ) $$ H8; iintro H8
  iapply (wp_store_to 𝒱₀ (c : Thread nD τ) none Set.univ (fill_step (N := 2048) 10 1280 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 10 1280 rfl _ (eB16 x0 x1) _ rfl)) $$ H6; iintro H6
  iapply (wp_load_to 𝒱₀ (c : Thread nD τ) none Set.univ (ld_wrow x1 44 (by decide) _)) $$ H3; iintro H3
  iapply (wp_load_to 𝒱₀ (c : Thread nD τ) none Set.univ (ld_wrow x1 45 (by decide) _)) $$ H3; iintro H3
  iapply (wp_load_to 𝒱₀ (c : Thread nD τ) none Set.univ (ld_wrow x1 46 (by decide) _)) $$ H3; iintro H3
  iapply (wp_load_to 𝒱₀ (c : Thread nD τ) none Set.univ (ld_wrow x1 47 (by decide) _)) $$ H3; iintro H3
  iapply (wp_load_owns 𝒱₀ (c : Thread nD τ) none Set.univ) $$ H8; iintro H8
  iapply (wp_store_to 𝒱₀ (c : Thread nD τ) none Set.univ (fill_step (N := 2048) 11 1408 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 11 1408 rfl _ (eB16 x0 x1) _ rfl)) $$ H6; iintro H6
  iapply (wp_load_to 𝒱₀ (c : Thread nD τ) none Set.univ (ld_rows x0 6 768 rfl (by decide) _)) $$ H2; iintro H2
  iapply (wp_load_to 𝒱₀ (c : Thread nD τ) none Set.univ (ld_wrow x1 48 (by decide) _)) $$ H3; iintro H3
  iapply (wp_load_to 𝒱₀ (c : Thread nD τ) none Set.univ (ld_wrow x1 49 (by decide) _)) $$ H3; iintro H3
  iapply (wp_load_to 𝒱₀ (c : Thread nD τ) none Set.univ (ld_wrow x1 50 (by decide) _)) $$ H3; iintro H3
  iapply (wp_load_to 𝒱₀ (c : Thread nD τ) none Set.univ (ld_wrow x1 51 (by decide) _)) $$ H3; iintro H3
  iapply (wp_load_owns 𝒱₀ (c : Thread nD τ) none Set.univ) $$ H8; iintro H8
  iapply (wp_store_to 𝒱₀ (c : Thread nD τ) none Set.univ (fill_step (N := 2048) 12 1536 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 12 1536 rfl _ (eB16 x0 x1) _ rfl)) $$ H6; iintro H6
  iapply (wp_load_to 𝒱₀ (c : Thread nD τ) none Set.univ (ld_wrow x1 52 (by decide) _)) $$ H3; iintro H3
  iapply (wp_load_to 𝒱₀ (c : Thread nD τ) none Set.univ (ld_wrow x1 53 (by decide) _)) $$ H3; iintro H3
  iapply (wp_load_to 𝒱₀ (c : Thread nD τ) none Set.univ (ld_wrow x1 54 (by decide) _)) $$ H3; iintro H3
  iapply (wp_load_to 𝒱₀ (c : Thread nD τ) none Set.univ (ld_wrow x1 55 (by decide) _)) $$ H3; iintro H3
  iapply (wp_load_owns 𝒱₀ (c : Thread nD τ) none Set.univ) $$ H8; iintro H8
  iapply (wp_store_to 𝒱₀ (c : Thread nD τ) none Set.univ (fill_step (N := 2048) 13 1664 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 13 1664 rfl _ (eB16 x0 x1) _ rfl)) $$ H6; iintro H6
  iapply (wp_load_to 𝒱₀ (c : Thread nD τ) none Set.univ (ld_rows x0 7 896 rfl (by decide) _)) $$ H2; iintro H2
  iapply (wp_load_to 𝒱₀ (c : Thread nD τ) none Set.univ (ld_wrow x1 56 (by decide) _)) $$ H3; iintro H3
  iapply (wp_load_to 𝒱₀ (c : Thread nD τ) none Set.univ (ld_wrow x1 57 (by decide) _)) $$ H3; iintro H3
  iapply (wp_load_to 𝒱₀ (c : Thread nD τ) none Set.univ (ld_wrow x1 58 (by decide) _)) $$ H3; iintro H3
  iapply (wp_load_to 𝒱₀ (c : Thread nD τ) none Set.univ (ld_wrow x1 59 (by decide) _)) $$ H3; iintro H3
  iapply (wp_load_owns 𝒱₀ (c : Thread nD τ) none Set.univ) $$ H8; iintro H8
  iapply (wp_store_to 𝒱₀ (c : Thread nD τ) none Set.univ (fill_step (N := 2048) 14 1792 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 14 1792 rfl _ (eB16 x0 x1) _ rfl)) $$ H6; iintro H6
  iapply (wp_load_to 𝒱₀ (c : Thread nD τ) none Set.univ (ld_wrow x1 60 (by decide) _)) $$ H3; iintro H3
  iapply (wp_load_to 𝒱₀ (c : Thread nD τ) none Set.univ (ld_wrow x1 61 (by decide) _)) $$ H3; iintro H3
  iapply (wp_load_to 𝒱₀ (c : Thread nD τ) none Set.univ (ld_wrow x1 62 (by decide) _)) $$ H3; iintro H3
  iapply (wp_load_to 𝒱₀ (c : Thread nD τ) none Set.univ (ld_wrow x1 63 (by decide) _)) $$ H3; iintro H3
  iapply (wp_load_owns 𝒱₀ (c : Thread nD τ) none Set.univ) $$ H8; iintro H8
  iapply (wp_store_to 𝒱₀ (c : Thread nD τ) none Set.univ (fill_step (N := 2048) 15 1920 rfl _ (eB32 x0 x1) _ rfl)) $$ H8; iintro H8
  iapply (wp_load_owns 𝒱₀ (c : Thread nD τ) none Set.univ) $$ H6; iintro H6
  iapply (wp_store_to 𝒱₀ (c : Thread nD τ) none Set.univ (fill_step (N := 2048) 15 1920 rfl _ (eB16 x0 x1) _ rfl)) $$ H6; iintro H6
  iapply (wp_load_to 𝒱₀ (c : Thread nD τ) none Set.univ (v := eTile32 x0 x1) ((View.ld_unit_zero (S := S64x2048) (funext fun a => match a with | 0 => rfl | 1 => rfl) _ _).trans
    (fillTo_all (N := 2048) 16 rfl _ (eB32 x0 x1)))) $$ H8; iintro H8
  rw [fillTo_all (N := 2048) 16 rfl _ (eB32 x0 x1), fillTo_all (N := 2048) 16 rfl _ (eB16 x0 x1)]
  rw [wp_bind]
  iapply (tail_run c q i arg1 harg1 arg2 harg2 arg3 harg3 arg4 harg4 arg5 harg5 arg6 harg6 arg7 harg7 arg8 harg8 arg9 harg9 arg10 harg10 tbl lo hi X7 (eTile32 x0 x1) (win0 i w) (win0_le i w hw) (acc0 i A))
  unfold tailHeld
  isplitl [H1 H4 H5 H7 H9 H10]
  · isplitl [H1]; · iexact H1
    isplitl [H4]; · iexact H4
    isplitl [H5]; · iexact H5
    isplitl [H7]; · iexact H7
    isplitl [H9]; · iexact H9
    iexact H10
  iintro %s %hs ⟨H1, H4, H5, H7, H9, H10⟩
  rw [wp_ret]; imodintro
  iapply Hk $$ %s %hs
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal.Hand

end
-- ==== Proof.KI.Data.lean ====
/-
  What the pipeline holds at each step: the arrays as the kernel finds them, what each step leaves in its outputs and in
  the scratch it carries to the next.
-/
module

public import proofs.«01_k».proof.Proof.KI.Run
public import proofs.«01_k».proof.Proof.Gen.KernelIdeal.Launch
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- Core `c`'s buffers when the kernel is entered: the host operations done. -/
def V (c : Dev nD) (b : Ref sig .tc) : Buf (Elt F) ((c.tc : Thread nD τ).loc b) :=
  StableHlo.after hostOps0 (fun b => m (c, b)) b

/-- The table the kernel prefetches: where each window of bags ends. -/
def adm : (p : Fin 1) → (pcfgs (F := F) p).Adm := fun _ =>
  ⟨fun | ⟨0, _⟩ => V m (0 : Dev nD) main_v8 | ⟨_ + 1, h⟩ => absurd h (by simp), trivial⟩

/-- The pipeline at that table. -/
abbrev cfg : Pipeline.Cfg sig (Λ₀ F) := cfg0 (F := F) (adm m 0)

/-- Window `w`'s block at step `t`, read off its array. -/
def iblk (c : Dev nD) (w : Fin 6) (t : Fin (cfg m).N) : (((cfg m).win w).xblock ((cfg m).grid.coords t)).Idx → Elt F ((cfg m).win w).elt :=
  (((cfg m).win w).blk t).view.read (Elt F) (V m c (Pipeline.arrRef spec0 w))

/-- The table's contents. -/
def tbl (c : Dev nD) : S52.Idx → Elt F .i32 := V m c main_v8

/-- The first step is the one with number 0. -/
theorem first_iff (t : Fin (cfg m).N) : first ((cfg m).grid.coords t) ↔ t.val % 192 = 0 :=
  (fun t => by
    have ht : t.val < 192 := Nat.lt_of_lt_of_eq t.isLt N_0
    have e0 : (grid0.coords t 0).val = t.val / 1 % 192 := Pipeline.Grid.coords_val t 0 (by decide) rfl
    simp only [first, e0]
    word_cmp
   : ∀ t : Fin grid0.N, first (grid0.coords t) ↔ t.val % 192 = 0) t

/-- The last step is the one with number 191. -/
theorem last_iff (t : Fin (cfg m).N) : k0_cond2 ((cfg m).grid.coords t) = 1#1 ↔ t.val % 192 = 191 :=
  (fun t => by
    have ht : t.val < 192 := Nat.lt_of_lt_of_eq t.isLt N_0
    have e0 : (grid0.coords t 0).val = t.val / 1 % 192 := Pipeline.Grid.coords_val t 0 (by decide) rfl
    simp only [k0_cond2, e0]
    word_cmp
   : ∀ t : Fin grid0.N, k0_cond2 (grid0.coords t) = 1#1 ↔ t.val % 192 = 191) t

/-- Step `t`'s effect on the window and the accumulator. -/
def stepAt (c : Dev nD) (t : Fin (cfg m).N) (s : ℕ × Vec F S52x64x128 .f32) : ℕ × Vec F S52x64x128 .f32 :=
  stepOf ((cfg m).grid.coords t) (tbl m c) (iblk m c 0 t) (iblk m c 1 t) (iblk m c 2 t) (iblk m c 3 t) s

/-- The window and the accumulator after step `n`. -/
def st (c : Dev nD) : (n : ℕ) → n < (cfg m).N → ℕ × Vec F S52x64x128 .f32
  | 0, h => stepAt m c ⟨0, h⟩ (0, k0_pay50)
  | n + 1, h => stepAt m c ⟨n + 1, h⟩ (st c n (Nat.lt_of_succ_lt h))

/-- The window reached after any step is one of the 52. -/
theorem st_le (c : Dev nD) : ∀ (n : ℕ) (h : n < (cfg m).N), (st m c n h).1 ≤ 51
  | 0, h => stepOf_le _ _ _ _ _ _ _ (Nat.zero_le _)
  | n + 1, h => stepOf_le _ _ _ _ _ _ _ (st_le c n _)

/-- The state after a step depends on the step's number alone. -/
theorem st_congr (c : Dev nD) (n n' : ℕ) (e : n = n') (h : n < (cfg m).N) (h' : n' < (cfg m).N) : st m c n h = st m c n' h' := by
  subst e; rfl

/-- The first step takes no notice of what it is given. -/
theorem stepAt_first (c : Dev nD) (t : Fin (cfg m).N) (h : first ((cfg m).grid.coords t)) (s s' : ℕ × Vec F S52x64x128 .f32) :
    stepAt m c t s = stepAt m c t s' := by
  unfold stepAt stepOf acc0 win0
  simp only [if_pos h]

/-- The scratch, whole. -/
abbrev scE : Memref sig .tc .vmem S64x2048 .f32 := Memref.whole cc0_scratch0
/-- The scratch holding the windows' sums. -/
abbrev scA : Memref sig .tc .vmem S52x64x128 .f32 := Memref.whole cc0_scratch1
/-- The scratch holding the window reached. -/
abbrev scW : Memref sig .tc .smem S1 .i32 := Memref.whole cc0_scratch2
/-- The table, whole. -/
abbrev tabM : Memref sig .tc .smem S52 .i32 := Memref.whole main_v8

/-- What is owned between the launch and the first step, spelled out: the three scratch buffers. -/
theorem PhiA_eq (c : Dev nD) :
    (Pipeline.ΦA spec0 c : sProp 𝕄)
      = iprop(iprop((∃ d, owns (c : Thread nD τ) scE fullShare d) ∗ (∃ d, owns (c : Thread nD τ) scA fullShare d)
          ∗ (∃ d, owns (Val := Elt F) (c : Thread nD τ) scW fullShare d)) ∗ (∃ r, prngReg c r)) := by
  unfold Pipeline.ΦA
  rw [scopedRest0_eq]
  simp only [scE, scA, scW, owns_whole]
  try rfl

/-- What is owned of the prefetched table, spelled out. -/
theorem PhiT_eq (c : Dev nD) :
    (Pipeline.ΦT (Val := Elt F) (U := UR sig nD τ) (τ := τ) pre0 (adm m 0).1 c : sProp 𝕄)
      = owns (Val := Elt F) (c : Thread nD τ) tabM fullShare.right (tbl m 0) := by
  rw [owns_whole]
  unfold Pipeline.ΦT Pipeline.prefHeld
  rw [show (Finset.univ : Finset (Fin pre0.K)) = {0} from rfl, bigSep_singleton]
  rfl

/-- What is held before step `n`: before the first the scratch at anything; afterwards the window and the accumulator as
    the step before left them. The table is held throughout. -/
def PhiS (c : Dev nD) : (n : ℕ) → n ≤ (cfg m).N → sProp 𝕄
  | 0, _ => iprop(Pipeline.ΦA spec0 c ∗ owns (Val := Elt F) (c : Thread nD τ) tabM fullShare.right (tbl m 0))
  | n + 1, hn => iprop(iprop(iprop((∃ d, owns (c : Thread nD τ) scE fullShare d) ∗ owns (c : Thread nD τ) scA fullShare (st m c n hn).2
          ∗ owns (Val := Elt F) (c : Thread nD τ) scW fullShare (fun _ => wd (st m c n hn).1)) ∗ (∃ r, prngReg c r))
        ∗ owns (Val := Elt F) (c : Thread nD τ) tabM fullShare.right (tbl m 0))

/-- Before the first step the invariant is what the launch hands over. -/
theorem PhiS_zero (c : Dev nD) (n : ℕ) (h : n ≤ (cfg m).N) (hz : n = 0) :
    PhiS m c n h = iprop(Pipeline.ΦA spec0 c ∗ owns (Val := Elt F) (c : Thread nD τ) tabM fullShare.right (tbl m 0)) := by
  subst hz; rfl

/-- After a step the invariant holds the scratch buffers at that step's state. -/
theorem PhiS_succ (c : Dev nD) (n : ℕ) (hn : n < (cfg m).N) :
    PhiS m c (n + 1) hn = iprop(iprop(iprop((∃ d, owns (c : Thread nD τ) scE fullShare d) ∗ owns (c : Thread nD τ) scA fullShare (st m c n hn).2
          ∗ owns (Val := Elt F) (c : Thread nD τ) scW fullShare (fun _ => wd (st m c n hn).1)) ∗ (∃ r, prngReg c r))
        ∗ owns (Val := Elt F) (c : Thread nD τ) tabM fullShare.right (tbl m 0)) := rfl

/-- Before any later step the invariant holds the scratch buffers at the state of the step before. -/
theorem PhiS_pos (c : Dev nD) (n : ℕ) (h : n ≤ (cfg m).N) (hz : n ≠ 0) :
    PhiS m c n h = iprop(iprop(iprop((∃ d, owns (c : Thread nD τ) scE fullShare d) ∗ owns (c : Thread nD τ) scA fullShare (st m c (n - 1) (by omega)).2
          ∗ owns (Val := Elt F) (c : Thread nD τ) scW fullShare (fun _ => wd (st m c (n - 1) (by omega)).1)) ∗ (∃ r, prngReg c r))
        ∗ owns (Val := Elt F) (c : Thread nD τ) tabM fullShare.right (tbl m 0)) := by
  cases n with
  | zero => exact absurd rfl hz
  | succ n => rfl

/-- The proof data: the inputs' blocks stay; a step leaves its embeddings, the last the pooled sums. -/
def dats (_ : Fin 1) (c : Dev nD) : Dat τ (Elt F) Unit ℕ (UR sig nD τ) ℕ (cfg m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (eTile16 (iblk m c 0 t) (iblk m c 1 t) : Vec F S64x2048 .bf16)
    | ⟨5, _⟩ => (pTile (st m c t.val t.isLt).2 : Vec F S64x6656 .bf16)
  Φ t := PhiS m c t.val (Nat.le_of_lt_succ t.isLt)
  q _ := fullShare
  owed _ := 0

/-- Each window's array starts as the launch left it. -/
theorem A_eq (c : Dev nD) (w : Fin 6) : (dats m 0 c).A w = V m c (Pipeline.arrRef spec0 w) := by
  dsimp only [dats]

/-- The invariant before a step, at the step's number. -/
theorem PhiS_castSucc (c : Dev nD) (t : Fin (cfg m).N) :
    (dats m 0 c).Φ t.castSucc = PhiS m c t.val (Nat.le_of_lt t.isLt) := by
  dsimp only [dats]; exact Pipeline.Dat.Φ_castSucc (PhiS m c) t

/-- The step leaves the block of rows as it was. -/
theorem after_0 (c : Dev nD) (t : Fin (cfg m).N) : (dats m 0 c).after 0 t = iblk m c 0 t := by dsimp only [dats]; rfl
/-- The step leaves the block of weights as it was. -/
theorem after_1 (c : Dev nD) (t : Fin (cfg m).N) : (dats m 0 c).after 1 t = iblk m c 1 t := by dsimp only [dats]; rfl
/-- The step leaves the bags' first tokens as they were. -/
theorem after_2 (c : Dev nD) (t : Fin (cfg m).N) : (dats m 0 c).after 2 t = iblk m c 2 t := by dsimp only [dats]; rfl
/-- The step leaves the bags' last tokens as they were. -/
theorem after_3 (c : Dev nD) (t : Fin (cfg m).N) : (dats m 0 c).after 3 t = iblk m c 3 t := by dsimp only [dats]; rfl
/-- The step leaves its tile of embeddings in the first result's block. -/
theorem after_4 (c : Dev nD) (t : Fin (cfg m).N) :
    (dats m 0 c).after 4 t = (eTile16 (iblk m c 0 t) (iblk m c 1 t) : Vec F S64x2048 .bf16) := by dsimp only [dats]; rfl
/-- What the step leaves in the second result's block. -/
theorem after_5 (c : Dev nD) (t : Fin (cfg m).N) :
    (dats m 0 c).after 5 t = (pTile (st m c t.val t.isLt).2 : Vec F S64x6656 .bf16) := by dsimp only [dats]; rfl

/-- The step finds its block of rows. -/
theorem before_0 (c : Dev nD) (t : Fin (cfg m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The step finds its block of weights. -/
theorem before_1 (c : Dev nD) (t : Fin (cfg m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The step finds the bags' first tokens. -/
theorem before_2 (c : Dev nD) (t : Fin (cfg m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- The step finds the bags' last tokens. -/
theorem before_3 (c : Dev nD) (t : Fin (cfg m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

end Cert.KernelIdeal.Hand

end
-- ==== Proof.KI.Launch.lean ====
/-
  The kernel's run: the step's triple at every point of the grid, and the launch.
-/
module

public import proofs.«01_k».proof.Proof.KI.Data
public import Idealize.ShloMosaic.Lib.Claim

@[expose] public section

set_option maxRecDepth 16384

noncomputable section

namespace Cert.KernelIdeal.Hand

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging memrefs at step `t`. -/
abbrev ms0 (t : Fin (cfg m).N) : Memref sig .tc .vmem S1024x128 .i32 := spec0_0.stage ((cfg m).slots t 0)
/-- The staging buffer of operand 0 is a whole buffer. -/
abbrev hs0 (t : Fin (cfg m).N) : (ms0 m t).IsWhole := hstage0_0 (((cfg m).slots t 0).cast nbuf0_0)
/-- The staging buffer of operand 1 at a step. -/
abbrev ms1 (t : Fin (cfg m).N) : Memref sig .tc .vmem S64x128 .f32 := spec0_1.stage ((cfg m).slots t 1)
/-- The staging buffer of operand 1 is a whole buffer. -/
abbrev hs1 (t : Fin (cfg m).N) : (ms1 m t).IsWhole := hstage0_1 (((cfg m).slots t 1).cast nbuf0_1)
/-- The staging buffer of operand 2 at a step. -/
abbrev ms2 (t : Fin (cfg m).N) : Memref sig .tc .vmem S52x128 .i32 := spec0_2.stage ((cfg m).slots t 2)
/-- The staging buffer of operand 2 is a whole buffer. -/
abbrev hs2 (t : Fin (cfg m).N) : (ms2 m t).IsWhole := hstage0_2 (((cfg m).slots t 2).cast nbuf0_2)
/-- The staging buffer of operand 3 at a step. -/
abbrev ms3 (t : Fin (cfg m).N) : Memref sig .tc .vmem S52x128 .i32 := spec0_3.stage ((cfg m).slots t 3)
/-- The staging buffer of operand 3 is a whole buffer. -/
abbrev hs3 (t : Fin (cfg m).N) : (ms3 m t).IsWhole := hstage0_3 (((cfg m).slots t 3).cast nbuf0_3)
/-- The staging buffer of operand 4 at a step. -/
abbrev ms4 (t : Fin (cfg m).N) : Memref sig .tc .vmem S64x2048 .bf16 := spec0_4.stage ((cfg m).slots t 4)
/-- The staging buffer of operand 4 is a whole buffer. -/
abbrev hs4 (t : Fin (cfg m).N) : (ms4 m t).IsWhole := hstage0_4 (((cfg m).slots t 4).cast nbuf0_4)
/-- The staging buffer of operand 5 at a step. -/
abbrev ms5 (t : Fin (cfg m).N) : Memref sig .tc .vmem S64x6656 .bf16 := spec0_5.stage ((cfg m).slots t 5)
/-- The staging buffer of operand 5 is a whole buffer. -/
abbrev hs5 (t : Fin (cfg m).N) : (ms5 m t).IsWhole := hstage0_5 (((cfg m).slots t 5).cast nbuf0_5)

/-- The step's program at step `t`. -/
abbrev bodyAt (t : Fin (cfg m).N) : Prog (TpuEff nD τ sig (Elt F) (Λ₀ F) .tc) PUnit :=
  cc0_mix_pool ((cfg m).grid.coords t) tabM (Memref.isWhole_whole _) (ms0 m t) (hs0 m t) (ms1 m t) (hs1 m t) (ms2 m t) (hs2 m t) (ms3 m t) (hs3 m t)
    (ms4 m t) (hs4 m t) (ms5 m t) (hs5 m t) scE (Memref.isWhole_whole _) scA (Memref.isWhole_whole _) scW (Memref.isWhole_whole _)

/-- The kernel body at a step, with its operands in place. -/
theorem defs₀_row (t : Fin (cfg m).N) : defs₀ (F := F) .tc (cfg m).body ((cfg m).bodyArgs t ((cfg m).slots t)) = bodyAt m t := by
  unfold defs₀; rw [Defs.onTc_tc]

/-- Operand 0 is in use at every step. -/
theorem live_0 (t : Fin (cfg m).N) : (cfg m).idle 0 ((cfg m).grid.coords t) = false := rfl
/-- Operand 1 is in use at every step. -/
theorem live_1 (t : Fin (cfg m).N) : (cfg m).idle 1 ((cfg m).grid.coords t) = false := rfl
/-- Operand 2 is in use at every step. -/
theorem live_2 (t : Fin (cfg m).N) : (cfg m).idle 2 ((cfg m).grid.coords t) = false := rfl
/-- Operand 3 is in use at every step. -/
theorem live_3 (t : Fin (cfg m).N) : (cfg m).idle 3 ((cfg m).grid.coords t) = false := rfl
/-- Operand 4 is in use at every step. -/
theorem live_4 (t : Fin (cfg m).N) : (cfg m).idle 4 ((cfg m).grid.coords t) = false := rfl
/-- The second result is in use at the last step. -/
theorem live_5 (t : Fin (cfg m).N) (h : k0_cond2 ((cfg m).grid.coords t) = 1#1) : (cfg m).idle 5 ((cfg m).grid.coords t) = false := by
  show (!(k0_cond2 ((cfg m).grid.coords t) == 1#1)) = false
  rw [h]; rfl
/-- The second result is not in use before the last step. -/
theorem idle_5 (t : Fin (cfg m).N) (h : ¬k0_cond2 ((cfg m).grid.coords t) = 1#1) : (cfg m).idle 5 ((cfg m).grid.coords t) = true := by
  show (!(k0_cond2 ((cfg m).grid.coords t) == 1#1)) = true
  rw [Bool.not_eq_true', beq_eq_false_iff_ne]; exact h

/-- The pooled sums are written back after the last step only. -/
theorem flush_5 (t : Fin (cfg m).N) : ((cfg m).win 5).flush t = true ↔ t.val % 192 = 191 :=
  Pipeline.Window.flush_const ((cfg m).win 5) rfl (fun _ _ => rfl) (n := 192) (by exact N_0) rfl t

/-- What the step is given, -/
def bodyPre (c : Dev nD) (t : Fin (cfg m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))

/-- and what it leaves. -/
def bodyPost (c : Dev nD) (t : Fin (cfg m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- What a step leaves in the pooled sums' buffer: the sums at the last step, and elsewhere whatever was there. -/
theorem leaves_5 (c : Dev nD) (t : Fin (cfg m).N) (d) (s) (hs : s = (st m c t.val t.isLt).2) :
    owns (c : Thread nD τ) (ms5 m t) fullShare
        (if k0_cond2 ((cfg m).grid.coords t) = 1#1 then pTile s else (dats m 0 c).before 5 t d)
      ⊢ ((dats m 0 c).leavesExact 5 t : sProp 𝕄) := by
  subst hs
  by_cases h : k0_cond2 ((cfg m).grid.coords t) = 1#1
  · have e : (dats m 0 c).leavesExact 5 t = owns (c : Thread nD τ) (ms5 m t) fullShare (pTile (st m c t.val t.isLt).2) := by
      unfold Dat.leavesExact; rw [live_5 m t h]; rfl
    rw [e]
    exact (congrArg (fun z => owns (c : Thread nD τ) (ms5 m t) fullShare z) (if_pos h)).le
  · have hf : ((cfg m).win 5).flush t = false := by
      rw [Bool.eq_false_iff]; intro h'; exact h ((last_iff m t).mpr ((flush_5 m t).mp h'))
    rw [Dat.leavesExact_idle _ 5 t (idle_5 m t h) hf]
    have e : (if k0_cond2 ((cfg m).grid.coords t) = 1#1 then pTile (st m c t.val t.isLt).2
        else ((dats m 0 c).before 5 t d : Vec F S64x6656 .bf16)) = (dats m 0 c).before 5 t d := if_neg h
    refine (congrArg (fun z => (owns (c : Thread nD τ) (ms5 m t) fullShare z : sProp 𝕄)) e).le.trans ?_
    show (owns (c : Thread nD τ) (ms5 m t) fullShare ((dats m 0 c).before 5 t d) : sProp 𝕄)
      ⊢ iprop(∃ d, owns (c : Thread nD τ) (ms5 m t) fullShare ((dats m 0 c).before 5 t d))
    iintro H; iexists d; iexact H

/-- The step's triple at any point of the grid. -/
theorem sound_body (c : Dev nD) (t : Fin (cfg m).N) :
    bodyPre m c t ⊢ wp frame (wpE (defs₀ (F := F)) 𝒱₀ (c : Thread nD τ) none) Set.univ (bodyAt m t) (fun _ => bodyPost m c t) := by
  unfold bodyPre bodyPost bodyAt
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 m t) fullShare ((dats m 0 c).after 0 t) from by
    unfold Dat.leavesExact; rw [live_0 m t]; rfl, after_0]
  rw [show (dats m 0 c).leavesExact 1 t = owns (c : Thread nD τ) (ms1 m t) fullShare ((dats m 0 c).after 1 t) from by
    unfold Dat.leavesExact; rw [live_1 m t]; rfl, after_1]
  rw [show (dats m 0 c).leavesExact 2 t = owns (c : Thread nD τ) (ms2 m t) fullShare ((dats m 0 c).after 2 t) from by
    unfold Dat.leavesExact; rw [live_2 m t]; rfl, after_2]
  rw [show (dats m 0 c).leavesExact 3 t = owns (c : Thread nD τ) (ms3 m t) fullShare ((dats m 0 c).after 3 t) from by
    unfold Dat.leavesExact; rw [live_3 m t]; rfl, after_3]
  rw [show (dats m 0 c).leavesExact 4 t = owns (c : Thread nD τ) (ms4 m t) fullShare ((dats m 0 c).after 4 t) from by
    unfold Dat.leavesExact; rw [live_4 m t]; rfl, after_4]
  have hc : c = 0 := Subsingleton.elim _ _
  subst hc
  have hN : t.val < 192 := lt_of_lt_of_eq t.isLt (show (cfg m).N = 192 from N_0)
  by_cases hz : t.val = 0
  · rw [PhiS_castSucc m _ t, PhiS_zero m _ _ _ hz, PhiA_eq]
    iintro ⟨⟨⟨⟨⟨%e0, HS0⟩, ⟨%A, HS1⟩, ⟨%X10, HS2⟩⟩, Hg⟩, HT⟩, Ho, ⟨%d0, H0⟩, ⟨%d1, H1⟩, ⟨%d2, H2⟩, ⟨%d3, H3⟩, ⟨%d4, H4⟩, ⟨%d5, H5⟩⟩
    iapply (body_run (0 : Dev nD) fullShare.right ((cfg m).grid.coords t) tabM (Memref.isWhole_whole _) (ms0 m t) (hs0 m t) (ms1 m t) (hs1 m t) (ms2 m t) (hs2 m t) (ms3 m t) (hs3 m t)
      (ms4 m t) (hs4 m t) (ms5 m t) (hs5 m t) scE (Memref.isWhole_whole _) scA (Memref.isWhole_whole _) scW (Memref.isWhole_whole _)
      (tbl m 0) (iblk m 0 0 t) (iblk m 0 1 t) (iblk m 0 2 t) (iblk m 0 3 t) ((dats m 0 0).before 4 t d4) ((dats m 0 0).before 5 t d5) e0 A X10 0 (Nat.zero_le _)
      (fun h => absurd ((first_iff m t).mpr (by omega)) h) _)
    unfold stepHeld
    isplitl [HT H0 H1 H2 H3 H4 H5 HS0 HS1 HS2]
    · isplitl [HT]; · iexact HT
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iexact HS2
    iintro %s %hs ⟨HT, H0, H1, H2, H3, H4, H5, HS0, HS1, HS2⟩
    have hs' : s = st m 0 t.val t.isLt := by
      rw [hs]
      obtain ⟨n, hn⟩ := t
      subst hz
      exact stepAt_first m 0 ⟨0, hn⟩ ((first_iff m _).mpr rfl) (0, A) (0, k0_pay50)
    subst hs'
    isplitl [HS0 HS1 HS2 Hg HT]
    · isplitr [HT]
      · isplitr [Hg]
        · isplitl [HS0]; · iexists _; iexact HS0
          isplitl [HS1]; · iexact HS1
          iexact HS2
        iexact Hg
      iexact HT
    isplitl [Ho]; · iexact Ho
    isplitl [H0]; · iexact H0
    isplitl [H1]; · iexact H1
    isplitl [H2]; · iexact H2
    isplitl [H3]; · iexact H3
    isplitl [H4]; · iexact H4
    iapply (leaves_5 m 0 t d5 _ rfl)
    iexact H5
  · rw [PhiS_castSucc m _ t, PhiS_pos m _ _ _ hz]
    iintro ⟨⟨⟨⟨⟨%e0, HS0⟩, HS1, HS2⟩, Hg⟩, HT⟩, Ho, ⟨%d0, H0⟩, ⟨%d1, H1⟩, ⟨%d2, H2⟩, ⟨%d3, H3⟩, ⟨%d4, H4⟩, ⟨%d5, H5⟩⟩
    iapply (body_run (0 : Dev nD) fullShare.right ((cfg m).grid.coords t) tabM (Memref.isWhole_whole _) (ms0 m t) (hs0 m t) (ms1 m t) (hs1 m t) (ms2 m t) (hs2 m t) (ms3 m t) (hs3 m t)
      (ms4 m t) (hs4 m t) (ms5 m t) (hs5 m t) scE (Memref.isWhole_whole _) scA (Memref.isWhole_whole _) scW (Memref.isWhole_whole _)
      (tbl m 0) (iblk m 0 0 t) (iblk m 0 1 t) (iblk m 0 2 t) (iblk m 0 3 t) ((dats m 0 0).before 4 t d4) ((dats m 0 0).before 5 t d5) e0
      (st m 0 (t.val - 1) (by omega)).2 (fun _ => wd (st m 0 (t.val - 1) (by omega)).1) (st m 0 (t.val - 1) (by omega)).1 (st_le m 0 _ _)
      (fun _ => rfl) _)
    unfold stepHeld
    isplitl [HT H0 H1 H2 H3 H4 H5 HS0 HS1 HS2]
    · isplitl [HT]; · iexact HT
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iexact HS2
    iintro %s %hs ⟨HT, H0, H1, H2, H3, H4, H5, HS0, HS1, HS2⟩
    have hs' : s = st m 0 t.val t.isLt := by
      rw [hs]
      obtain ⟨n, hn⟩ := t
      cases n with
      | zero => exact absurd rfl hz
      | succ n => rfl
    subst hs'
    isplitl [HS0 HS1 HS2 Hg HT]
    · isplitr [HT]
      · isplitr [Hg]
        · isplitl [HS0]; · iexists _; iexact HS0
          isplitl [HS1]; · iexact HS1
          iexact HS2
        iexact Hg
      iexact HT
    isplitl [Ho]; · iexact Ho
    isplitl [H0]; · iexact H0
    isplitl [H1]; · iexact H1
    isplitl [H2]; · iexact H2
    isplitl [H3]; · iexact H3
    isplitl [H4]; · iexact H4
    iapply (leaves_5 m 0 t d5 _ rfl)
    iexact H5

/-- The pipeline's obligation on the step's program. -/
theorem body_obligation (c : Dev nD) :
    BodyObligation (dats (F := F) m 0 c) (defs₀ (F := F)) 𝒱₀ () Set.univ := fun t => by
  rw [bigSep_W0, bigSep_W0, defs₀_row]
  exact triple_restated (sound_body m c t) rfl .rfl fun _ => .rfl

/-- The host operations, then the kernel. -/
theorem hmain : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub
    (by simp only [List.Forall]; exact ⟨rfl, rfl, rfl, rfl, rfl, rfl, rfl, rfl, rfl, rfl, rfl, rfl, rfl⟩) (fun c => main_chain c)

/-- What the launch hands over is the invariant before the first step. -/
theorem hin (c : Dev nD) : iprop(Pipeline.ΦA spec0 c ∗ Pipeline.ΦT pre0 (adm m 0).1 c) ⊢ ((dats m 0 c).Φ 0 : sProp 𝕄) := by
  rw [PhiT_eq]
  exact .rfl

/-- The invariant after the last step gives back what the launch handed over. -/
theorem hout (c : Dev nD) : ((dats m 0 c).Φ (Fin.last (cfg m).N) : sProp 𝕄) ⊢ Pipeline.ΦA spec0 c := by
  have hN : (cfg m).N = 192 := N_0
  rw [show (dats m 0 c).Φ (Fin.last (cfg m).N) = PhiS m c (cfg m).N le_rfl from rfl, PhiS_pos m c _ _ (by omega), PhiA_eq]
  iintro ⟨⟨⟨⟨%e0, HS0⟩, HS1, HS2⟩, Hg⟩, HT⟩
  isplitr [Hg]
  · isplitl [HS0]; · iexists _; iexact HS0
    isplitl [HS1]; · iexists _; iexact HS1
    iexists _; iexact HS2
  iexact Hg

set_option backward.isDefEq.respectTransparency.types false in
/-- Every run of the kernel ends, with each output array as the steps left it and every semaphore counter at zero. -/
theorem run_main :
    θ_run defs (onTc (τ := τ) (main (F := F))) (s₀ m ρ)
      (fun r => Pipeline.FramePost (Pipeline.pin pcfgs (adm m)) (dats m) (0 : Fin 1) (V m) r ∧ r.2.sem = fun _ => 0) :=
  Pipeline.θ_run_frameP_track (Q' := _) pcfgs (adm m) (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m)
    (hpf := fun c k => by
      have hc : c = 0 := Subsingleton.elim _ _
      subst hc
      match k with
      | ⟨0, _⟩ => rfl
      | ⟨_ + 1, h⟩ => exact absurd h (by simp))
    (hin := hin m) (hout := hout m)

end Cert.KernelIdeal.Hand

end
-- ==== Proof.KI.Frame.lean ====
/-
  The kernel terminates and leaves its arguments unchanged.
-/
module

public import proofs.«01_k».proof.Proof.KI.Launch
public import Idealize.ShloMosaic.Lib.StableHlo.RunRead

@[expose] public section

set_option maxRecDepth 16384

noncomputable section

namespace Cert.KernelIdeal.Hand

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The references the host operations write, in order. -/
def hostWrites : List (Ref sig .tc) :=
  [main_c, main_v0, main_c_0, main_v1, main_v2, main_v3, main_v4, main_v5, main_v6, main_v7, main_v8, main_v9, main_v10]

/-- Which buffers the operations before the launch write. -/
theorem host_writes : (hostOps0 (F := F)).map HloOp.writes = hostWrites.map fun w => {Proc.devRef (τ := τ) .tc w} := rfl

/-- The host operations leave the arguments as they were. -/
theorem V_arg0 (c : Dev nD) : V m c main_arg0 = m ((c.tc : Thread nD τ).loc main_arg0) :=
  StableHlo.after_unwritten hostWrites host_writes (by decide) _
/-- They leave the weights alone. -/
theorem V_arg1 (c : Dev nD) : V m c main_arg1 = m ((c.tc : Thread nD τ).loc main_arg1) :=
  StableHlo.after_unwritten hostWrites host_writes (by decide) _
/-- They leave the offsets alone. -/
theorem V_arg2 (c : Dev nD) : V m c main_arg2 = m ((c.tc : Thread nD τ).loc main_arg2) :=
  StableHlo.after_unwritten hostWrites host_writes (by decide) _

/-- No window stages the bag offsets. -/
theorem arg2_rest : main_arg2 ∈ Pipeline.restRefs sig spec0 := Pipeline.mem_restRefs_of main_arg2 (by decide) (by decide)

/-- Every run of the kernel ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨((h.1 c).1 0).trans (((dats m 0 c).arrAt_in 0 rfl _).trans ((A_eq m c 0).trans (V_arg0 m c))),
       ((h.1 c).1 1).trans (((dats m 0 c).arrAt_in 1 rfl _).trans ((A_eq m c 1).trans (V_arg1 m c))),
       ((h.1 c).2 main_arg2 arg2_rest).trans (V_arg2 m c)⟩, h.2⟩)
    (run_main m ρ)

end Cert.KernelIdeal.Hand

end
-- ==== Proof.Lib.Sums.lean ====
/-
  What the two programs compute, as functions of the argument arrays: the embedding of a token (`emb`), the bag a token
  falls in (`inBag`), and a bag's sum over the first tokens (`pool`). Tokens are natural numbers, floats extended reals.
-/
module

public import Idealize.ShloMosaic.Lib.Pointwise
public import Idealize.ShloMosaic.PureOps.Ideal

@[expose] public section

noncomputable section

namespace Cert.Sums

open Idealize.ShloMosaic

/-- The gathered rows: 32-bit words, four codes a word. -/
abbrev Rows := (⟨2, ![196608, 128]⟩ : Shape).Idx → BitVec 32
/-- The weights: row `4 (t / 128) + h`, column `t % 128` is token `t`'s weight for hash `h`. -/
abbrev Weights := (⟨2, ![12288, 128]⟩ : Shape).Idx → EReal
/-- The bags' first tokens. -/
abbrev Offs := (⟨1, ![6656]⟩ : Shape).Idx → BitVec 32

/-- Byte `b` of a word, the lowest first. -/
def byteOf (x : BitVec 32) (b : ℕ) : BitVec 8 := x.extractLsb' (8 * b) 8

/-- A signed byte as an extended real. -/
def num (x : BitVec 8) : EReal := ((x.toInt : ℝ) : EReal)

/-- Token `t`'s code for hash `h` and dimension `d`. -/
def code (rows : Rows) (t : Fin 393216) (h : Fin 4) (d : Fin 64) : BitVec 8 :=
  byteOf (rows (ix2 ⟨t.val / 256 * 128 + t.val % 128, by omega⟩ ⟨t.val / 128 % 2 * 64 + h.val * 16 + d.val / 4, by omega⟩)) (d.val % 4)

/-- Token `t`'s weight for hash `h`. -/
def wt (w : Weights) (t : Fin 393216) (h : Fin 4) : EReal :=
  w (ix2 ⟨t.val / 128 * 4 + h.val, by omega⟩ ⟨t.val % 128, Nat.mod_lt _ (by decide)⟩)

/-- Token `t`'s embedding at dimension `d`. -/
def emb (rows : Rows) (w : Weights) (d : Fin 64) (t : Fin 393216) : EReal :=
  ∑ h : Fin 4, num (code rows t h d) * wt w t h

/-- The same at a natural number, 0 from the number of tokens on. -/
def embN (rows : Rows) (w : Weights) (d : Fin 64) (t : ℕ) : EReal := if h : t < 393216 then emb rows w d ⟨t, h⟩ else 0

/-- Where bag `s` starts. -/
def loW (off : Offs) (s : ℕ) : BitVec 32 := if h : 0 < s ∧ s < 6656 then off (ix1 ⟨s, h.2⟩) else 0#32
/-- Where bag `s` ends. -/
def hiW (off : Offs) (s : ℕ) : BitVec 32 := if h : s + 1 < 6656 then off (ix1 ⟨s + 1, h⟩) else 393216#32

/-- Token `t` falls in bag `s`. -/
def inBag (off : Offs) (s t : ℕ) : Prop := (loW off s).toInt ≤ (t : ℤ) ∧ (t : ℤ) < (hiW off s).toInt

instance (off : Offs) (s t : ℕ) : Decidable (inBag off s t) := by unfold inBag; infer_instance

/-- The sum over the first `n` tokens of those in bag `s`. -/
def pool (rows : Rows) (w : Weights) (off : Offs) (n : ℕ) (d : Fin 64) (s : ℕ) : EReal :=
  ∑ t ∈ Finset.range n, if inBag off s t then embN rows w d t else 0

/-- The bags' first tokens are in order and not negative. -/
structure Ordered (off : Offs) : Prop where
  nonneg : ∀ k (h : k < 6656), 0 < k → 0 ≤ (off (ix1 ⟨k, h⟩)).toInt
  step : ∀ k (h : k + 1 < 6656), 0 < k → (off (ix1 ⟨k, Nat.lt_of_succ_lt h⟩)).toInt ≤ (off (ix1 ⟨k + 1, h⟩)).toInt

/-- Every weight is finite. -/
def Finite (w : Weights) : Prop := ∀ j, ∃ r : ℝ, w j = (r : EReal)

/-! ## Embeddings are finite -/

/-- A sum of extended reals that are real is the real sum. -/
theorem coe_sum {ι : Type} (s : Finset ι) (f : ι → EReal) (g : ι → ℝ) (h : ∀ i ∈ s, f i = (g i : EReal)) :
    ∑ i ∈ s, f i = ((∑ i ∈ s, g i : ℝ) : EReal) := by
  classical
  induction s using Finset.induction_on with
  | empty => simp
  | insert a s ha ih =>
    rw [Finset.sum_insert ha, Finset.sum_insert ha, EReal.coe_add, h a (Finset.mem_insert_self a s),
      ih fun i hi => h i (Finset.mem_insert_of_mem hi)]

/-- With finite weights every embedding is real. -/
theorem emb_finite (rows : Rows) (w : Weights) (hw : Finite w) (d : Fin 64) (t : Fin 393216) :
    ∃ r : ℝ, emb rows w d t = (r : EReal) := by
  choose g hg using hw
  refine ⟨_, coe_sum _ _ (fun h : Fin 4 => ((code rows t h d).toInt : ℝ)
    * g (ix2 ⟨t.val / 128 * 4 + h.val, by omega⟩ ⟨t.val % 128, Nat.mod_lt _ (by decide)⟩)) fun h _ => ?_⟩
  unfold wt num
  rw [hg, EReal.coe_mul]

/-! ## Bags -/

/-- The bags' first tokens are in order. -/
theorem mono (off : Offs) (ho : Ordered off) (a b : ℕ) (ha : 0 < a) (hab : a ≤ b) (hb : b < 6656) :
    (off (ix1 ⟨a, by omega⟩)).toInt ≤ (off (ix1 ⟨b, hb⟩)).toInt := by
  induction b with
  | zero => omega
  | succ b ih =>
    by_cases h : a = b + 1
    · subst h; exact le_refl _
    · exact (ih (by omega) (by omega)).trans (ho.step b hb (by omega))

/-- The bags' ends are in order. -/
theorem hi_mono (off : Offs) (ho : Ordered off) (a b : ℕ) (hab : a ≤ b) (hb : b < 6655) :
    (hiW off a).toInt ≤ (hiW off b).toInt := by
  unfold hiW
  rw [dif_pos (by omega), dif_pos (by omega)]
  exact mono off ho (a + 1) (b + 1) (by omega) (by omega) (by omega)

/-- A bag ends before a later one begins. -/
theorem hi_le_lo (off : Offs) (ho : Ordered off) (a b : ℕ) (hab : a < b) (hb : b < 6656) :
    (hiW off a).toInt ≤ (loW off b).toInt := by
  unfold hiW loW
  rw [dif_pos (by omega), dif_pos (by omega)]
  exact mono off ho (a + 1) b (by omega) (by omega) hb

/-- No token from the end of a bag on is in a bag before it. -/
theorem pool_ended (rows : Rows) (w : Weights) (off : Offs) (n n' : ℕ) (d : Fin 64) (s : ℕ) (hn : n ≤ n')
    (h : (hiW off s).toInt ≤ (n : ℤ)) : pool rows w off n' d s = pool rows w off n d s := by
  unfold pool
  rw [← Finset.sum_range_add_sum_Ico _ hn]
  refine (congrArg _ (Finset.sum_eq_zero fun t ht => if_neg fun hb => ?_)).trans (add_zero _)
  have := (Finset.mem_Ico.1 ht).1
  have := hb.2
  omega

/-- No token before the start of a bag is in it. -/
theorem pool_ahead (rows : Rows) (w : Weights) (off : Offs) (n n' : ℕ) (d : Fin 64) (s : ℕ) (hn : n ≤ n')
    (h : (n' : ℤ) ≤ (loW off s).toInt) : pool rows w off n' d s = pool rows w off n d s := by
  unfold pool
  rw [← Finset.sum_range_add_sum_Ico _ hn]
  refine (congrArg _ (Finset.sum_eq_zero fun t ht => if_neg fun hb => ?_)).trans (add_zero _)
  have := (Finset.mem_Ico.1 ht).2
  have := hb.1
  omega

/-- The next `k` tokens' share of a bag. -/
theorem pool_add (rows : Rows) (w : Weights) (off : Offs) (n k : ℕ) (d : Fin 64) (s : ℕ) :
    pool rows w off (n + k) d s
      = pool rows w off n d s + ∑ c : Fin k, if inBag off s (n + c.val) then embN rows w d (n + c.val) else 0 := by
  unfold pool
  rw [Finset.sum_range_add, Fin.sum_univ_eq_sum_range (fun c => if inBag off s (n + c) then embN rows w d (n + c) else 0) k]

/-! ## The bag of a token by counting -/

/-- The number of bags, past the first, that start at token `t` or before. -/
def bagOf (off : Offs) (t : ℕ) : ℕ := ((Finset.univ : Finset (Fin 6655)).filter fun k =>
  (off (ix1 ⟨k.val + 1, by omega⟩)).toInt ≤ (t : ℤ)).card

/-- A bag begins after a token exactly when its number is past the token's bag. -/
theorem bagOf_gt (off : Offs) (ho : Ordered off) (t k : ℕ) (hk : k < 6655) :
    k < bagOf off t ↔ (off (ix1 ⟨k + 1, by omega⟩)).toInt ≤ (t : ℤ) := by
  constructor
  · intro h
    by_contra hc
    refine absurd h (not_lt.2 ?_)
    unfold bagOf
    refine (Finset.card_le_card (t := (Finset.univ : Finset (Fin 6655)).filter fun j => j.val < k) fun j hj => ?_).trans ?_
    · have hj' := (Finset.mem_filter.1 hj).2
      refine Finset.mem_filter.2 ⟨Finset.mem_univ _, ?_⟩
      by_contra hjk
      exact hc ((mono off ho (k + 1) (j.val + 1) (by omega) (by omega) (by omega)).trans hj')
    · rw [Fin.card_filter_val_lt]; omega
  · intro h
    unfold bagOf
    refine Nat.lt_of_lt_of_le (Nat.lt_succ_self k) ?_
    refine le_trans ?_ (Finset.card_le_card (s := (Finset.univ : Finset (Fin 6655)).filter fun j => j.val < k + 1) fun j hj => ?_)
    · rw [Fin.card_filter_val_lt]; omega
    · have hj' := (Finset.mem_filter.1 hj).2
      exact Finset.mem_filter.2 ⟨Finset.mem_univ _, (mono off ho (j.val + 1) (k + 1) (by omega) (by omega) (by omega)).trans h⟩

/-- A token is in bag `s` exactly when `s` bags past the first start at it or before. -/
theorem bagOf_eq (off : Offs) (ho : Ordered off) (t s : ℕ) (ht : t < 393216) (hs : s < 6656) : bagOf off t = s ↔ inBag off s t := by
  have hle : bagOf off t ≤ 6655 := (Finset.card_le_univ _).trans (le_of_eq (Fintype.card_fin _))
  have hlo : s ≤ bagOf off t ↔ (loW off s).toInt ≤ (t : ℤ) := by
    unfold loW
    by_cases h0 : 0 < s
    · rw [dif_pos ⟨h0, hs⟩]
      have := bagOf_gt off ho t (s - 1) (by omega)
      rw [show (⟨s - 1 + 1, by omega⟩ : Fin 6656) = ⟨s, hs⟩ from Fin.ext (by show s - 1 + 1 = s; omega)] at this
      rw [← this]; omega
    · rw [dif_neg fun h => h0 h.1]
      have : ((0#32 : BitVec 32).toInt) = 0 := by decide
      rw [this]; constructor <;> intro _ <;> omega
  have hhi : bagOf off t ≤ s ↔ (t : ℤ) < (hiW off s).toInt := by
    unfold hiW
    by_cases h1 : s + 1 < 6656
    · rw [dif_pos h1]
      have := bagOf_gt off ho t s (by omega)
      rw [← not_lt, this]; omega
    · rw [dif_neg h1]
      have : ((393216#32 : BitVec 32).toInt) = 393216 := by decide
      rw [this]; constructor <;> intro _ <;> omega
  unfold inBag
  rw [← hlo, ← hhi]; omega

end Cert.Sums

end
-- ==== Proof.KI.Embed.lean ====
/-
  The blocks of a step's embeddings over the reals: entry `(d, l)` of block `j` is the sum over the four hashes of the
  signed byte read from the gathered rows times the weight.
-/
module

public import proofs.«01_k».proof.Proof.KI.Tiles
public import proofs.«01_k».proof.Proof.Lib.Sums
public import Idealize.ShloMosaic.Lib.BitcastPair
public import Idealize.ShloMosaic.Lib.Pointwise

@[expose] public section

set_option maxRecDepth 16384

noncomputable section

namespace Cert.KernelIdeal.Hand

open Cert.KernelIdeal Cert.KernelIdeal.Gen Cert.Sums
open Idealize.ShloMosaic

/-- The bytes of sixteen columns of gathered rows, laid out as a block: entry `(d, l)` is byte `d % 4` of row `l`'s word
    `o + d / 4`. -/
theorem bytes_apply (R : Vec Ideal S128x128 .i32) (o : ℕ) (ho : o + 16 ≤ 128) (hs : S128x128.Slices ![o, 0] S16x128)
    (hb : S16x128.Bitcasts 32 S64x128 8) (d : Fin 64) (l : Fin 128) :
    bitcast S64x128 8 (extractStridedSlice S16x128 ![o, 0] (k0_pay51 R) hs) hb (ix2 d l)
      = byteOf (R (ix2 l ⟨o + d.val / 4, by omega⟩)) (d.val % 4) := by
  apply BitVec.eq_of_getLsbD_eq
  intro q hq
  rw [bitcast_getLsbD _ hb _ q hq (by decide)]
  have hrow : S64x128.row (ix2 d l) = d.val := rfl
  have e : hb.srcIdx (ix2 d l) ((S64x128.row (ix2 d l) * 8 + q) / 32)
      (fun a ha => (Nat.div_lt_iff_lt_mul (by decide)).2 (hb.pos_lt (ix2 d l) q hq a ha))
      = ix2 (⟨d.val / 4, by omega⟩ : Fin 16) l := by
    funext a
    apply Fin.ext
    match a with
    | ⟨0, _⟩ =>
      refine (hb.srcIdx_row _ _ _ ⟨0, Nat.zero_lt_two⟩ rfl).trans ?_
      rw [hrow]; show (d.val * 8 + q) / 32 = d.val / 4; omega
    | ⟨1, _⟩ => exact hb.srcIdx_other _ _ _ ⟨1, Nat.one_lt_two⟩ (by show ¬ 1 + 2 = 2; omega)
  rw [e, hrow]
  have ex : extractStridedSlice S16x128 ![o, 0] (k0_pay51 R) hs (ix2 (⟨d.val / 4, by omega⟩ : Fin 16) l)
      = R (ix2 l ⟨o + d.val / 4, by omega⟩) := by
    pointwise [k0_pay51]
  rw [ex]
  unfold byteOf
  rw [BitVec.getLsbD_extractLsb']
  rw [show (d.val * 8 + q) % 32 = 8 * (d.val % 4) + q by omega]
  simp [hq]

/-- An even block, from the gathered rows and four weight rows. -/
theorem even_apply (R : Vec Ideal S128x128 .i32) (w0 w1 w2 w3 : Vec Ideal S1x128 .f32) (d : Fin 64) (l : Fin 128) :
    k0_pay52 (F := Ideal) R w0 w1 w2 w3 (ix2 d l)
      = num (byteOf (R (ix2 l ⟨0 + d.val / 4, by omega⟩)) (d.val % 4)) * w0 (ix2 0 l)
        + num (byteOf (R (ix2 l ⟨16 + d.val / 4, by omega⟩)) (d.val % 4)) * w1 (ix2 0 l)
        + num (byteOf (R (ix2 l ⟨32 + d.val / 4, by omega⟩)) (d.val % 4)) * w2 (ix2 0 l)
        + num (byteOf (R (ix2 l ⟨48 + d.val / 4, by omega⟩)) (d.val % 4)) * w3 (ix2 0 l) := by
  rw [← bytes_apply R 0 (by decide) slices_S128x128_o0_0_S16x128 bitcasts_S16x128_w32_S64x128_w8 d l,
    ← bytes_apply R 16 (by decide) slices_S128x128_o16_0_S16x128 bitcasts_S16x128_w32_S64x128_w8 d l,
    ← bytes_apply R 32 (by decide) slices_S128x128_o32_0_S16x128 bitcasts_S16x128_w32_S64x128_w8 d l,
    ← bytes_apply R 48 (by decide) slices_S128x128_o48_0_S16x128 bitcasts_S16x128_w32_S64x128_w8 d l]
  have hw (w : Vec Ideal S1x128 .f32) : broadcastTo S64x128 w broadcasts_S1x128_S64x128 (ix2 d l) = w (ix2 0 l) := by pointwise
  rw [← hw w0, ← hw w1, ← hw w2, ← hw w3]
  rfl

/-- An odd block. -/
theorem odd_apply (R : Vec Ideal S128x128 .i32) (w0 w1 w2 w3 : Vec Ideal S1x128 .f32) (d : Fin 64) (l : Fin 128) :
    k0_pay56 (F := Ideal) (k0_pay51 R) (k0_pay55 R) w0 w1 w2 w3 (ix2 d l)
      = num (byteOf (R (ix2 l ⟨64 + d.val / 4, by omega⟩)) (d.val % 4)) * w0 (ix2 0 l)
        + num (byteOf (R (ix2 l ⟨80 + d.val / 4, by omega⟩)) (d.val % 4)) * w1 (ix2 0 l)
        + num (byteOf (R (ix2 l ⟨96 + d.val / 4, by omega⟩)) (d.val % 4)) * w2 (ix2 0 l)
        + num (byteOf (R (ix2 l ⟨112 + d.val / 4, by omega⟩)) (d.val % 4)) * w3 (ix2 0 l) := by
  rw [← bytes_apply R 64 (by decide) slices_S128x128_o64_0_S16x128 bitcasts_S16x128_w32_S64x128_w8 d l,
    ← bytes_apply R 80 (by decide) slices_S128x128_o80_0_S16x128 bitcasts_S16x128_w32_S64x128_w8 d l,
    ← bytes_apply R 96 (by decide) slices_S128x128_o96_0_S16x128 bitcasts_S16x128_w32_S64x128_w8 d l,
    ← bytes_apply R 112 (by decide) slices_S128x128_o112_0_S16x128 bitcasts_S16x128_w32_S64x128_w8 d l]
  have hw (w : Vec Ideal S1x128 .f32) : broadcastTo S64x128 w broadcasts_S1x128_S64x128 (ix2 d l) = w (ix2 0 l) := by pointwise
  rw [← hw w0, ← hw w1, ← hw w2, ← hw w3]
  rfl

/-- Entry `(d, l)` of block `j` of a step's embeddings. -/
def blk (x0 : Vec Ideal S1024x128 .i32) (x1 : Vec Ideal S64x128 .f32) (j : Fin 16) (d : Fin 64) (l : Fin 128) : EReal :=
  ∑ h : Fin 4, num (byteOf (x0 (ix2 ⟨128 * (j.val / 2) + l.val, by omega⟩ ⟨j.val % 2 * 64 + h.val * 16 + d.val / 4, by omega⟩)) (d.val % 4))
    * x1 (ix2 ⟨4 * j.val + h.val, by omega⟩ l)

/-- A word of one 128 by 128 group of the step's rows. -/
theorem rowsAt_apply (x0 : Vec Ideal S1024x128 .i32) (g : ℕ) (l : Fin 128) (k k' : Fin 128) (hg : g < 8) (hk : k.val = k'.val) :
    rowsAt x0 g (ix2 l k) = x0 (ix2 ⟨128 * g + l.val, by omega⟩ k') := by
  refine congrArg x0 (funext fun a => Fin.ext ?_)
  match a with
  | 0 => show (128 * g + l.val) % 1024 = 128 * g + l.val; omega
  | 1 => exact hk

/-- A word of one row of the step's weights. -/
theorem wRow_apply (x1 : Vec Ideal S64x128 .f32) (k : ℕ) (l : Fin 128) (hk : k < 64) :
    wRow x1 k (ix2 0 l) = x1 (ix2 ⟨k, hk⟩ l) := by
  refine congrArg x1 (funext fun a => Fin.ext ?_)
  match a with
  | 0 => show k % 64 = k; omega
  | 1 => rfl

/-- The embeddings of one run of 128 tokens, at a lane and a token: four codes, each times its weight. -/
theorem eB32_apply (x0 : Vec Ideal S1024x128 .i32) (x1 : Vec Ideal S64x128 .f32) (j : Fin 16) (d : Fin 64) (l : Fin 128) :
    eB32 x0 x1 j.val (ix2 d l) = blk x0 x1 j d l := by
  have hj := j.isLt
  unfold eB32 blk
  rw [Fin.sum_univ_four]
  by_cases h : j.val % 2 = 0
  · rw [if_pos h]
    have e : k0_pay53 (rowsAt x0 (j.val / 2)) (wRow x1 (4 * j.val)) (wRow x1 (4 * j.val + 1)) (wRow x1 (4 * j.val + 2))
        (wRow x1 (4 * j.val + 3)) (ix2 d l) = k0_pay52 (F := Ideal) (rowsAt x0 (j.val / 2)) (wRow x1 (4 * j.val)) (wRow x1 (4 * j.val + 1))
        (wRow x1 (4 * j.val + 2)) (wRow x1 (4 * j.val + 3)) (ix2 d l) := by unfold k0_pay53; pointwise
    rw [e, even_apply]
    simp only [wRow_apply x1 (4 * j.val) l (by omega), wRow_apply x1 (4 * j.val + 1) l (by omega),
      wRow_apply x1 (4 * j.val + 2) l (by omega), wRow_apply x1 (4 * j.val + 3) l (by omega)]
    rw [rowsAt_apply x0 (j.val / 2) l _ ⟨j.val % 2 * 64 + (0 : Fin 4).val * 16 + d.val / 4, by show _ + 0 * 16 + _ < _; omega⟩ (by omega) (by show 0 + d.val / 4 = j.val % 2 * 64 + 0 * 16 + d.val / 4; omega),
      rowsAt_apply x0 (j.val / 2) l _ ⟨j.val % 2 * 64 + (1 : Fin 4).val * 16 + d.val / 4, by show _ + 1 * 16 + _ < _; omega⟩ (by omega) (by show 16 + d.val / 4 = j.val % 2 * 64 + 1 * 16 + d.val / 4; omega),
      rowsAt_apply x0 (j.val / 2) l _ ⟨j.val % 2 * 64 + (2 : Fin 4).val * 16 + d.val / 4, by show _ + 2 * 16 + _ < _; omega⟩ (by omega) (by show 32 + d.val / 4 = j.val % 2 * 64 + 2 * 16 + d.val / 4; omega),
      rowsAt_apply x0 (j.val / 2) l _ ⟨j.val % 2 * 64 + (3 : Fin 4).val * 16 + d.val / 4, by show _ + 3 * 16 + _ < _; omega⟩ (by omega) (by show 48 + d.val / 4 = j.val % 2 * 64 + 3 * 16 + d.val / 4; omega)]
    rfl
  · rw [if_neg h]
    have e : k0_pay57 (k0_pay51 (rowsAt x0 (j.val / 2))) (k0_pay55 (rowsAt x0 (j.val / 2))) (wRow x1 (4 * j.val)) (wRow x1 (4 * j.val + 1)) (wRow x1 (4 * j.val + 2))
        (wRow x1 (4 * j.val + 3)) (ix2 d l) = k0_pay56 (F := Ideal) (k0_pay51 (rowsAt x0 (j.val / 2))) (k0_pay55 (rowsAt x0 (j.val / 2))) (wRow x1 (4 * j.val)) (wRow x1 (4 * j.val + 1))
        (wRow x1 (4 * j.val + 2)) (wRow x1 (4 * j.val + 3)) (ix2 d l) := by unfold k0_pay57; pointwise
    rw [e, odd_apply]
    simp only [wRow_apply x1 (4 * j.val) l (by omega), wRow_apply x1 (4 * j.val + 1) l (by omega),
      wRow_apply x1 (4 * j.val + 2) l (by omega), wRow_apply x1 (4 * j.val + 3) l (by omega)]
    rw [rowsAt_apply x0 (j.val / 2) l _ ⟨j.val % 2 * 64 + (0 : Fin 4).val * 16 + d.val / 4, by show _ + 0 * 16 + _ < _; omega⟩ (by omega) (by show 64 + d.val / 4 = j.val % 2 * 64 + 0 * 16 + d.val / 4; omega),
      rowsAt_apply x0 (j.val / 2) l _ ⟨j.val % 2 * 64 + (1 : Fin 4).val * 16 + d.val / 4, by show _ + 1 * 16 + _ < _; omega⟩ (by omega) (by show 80 + d.val / 4 = j.val % 2 * 64 + 1 * 16 + d.val / 4; omega),
      rowsAt_apply x0 (j.val / 2) l _ ⟨j.val % 2 * 64 + (2 : Fin 4).val * 16 + d.val / 4, by show _ + 2 * 16 + _ < _; omega⟩ (by omega) (by show 96 + d.val / 4 = j.val % 2 * 64 + 2 * 16 + d.val / 4; omega),
      rowsAt_apply x0 (j.val / 2) l _ ⟨j.val % 2 * 64 + (3 : Fin 4).val * 16 + d.val / 4, by show _ + 3 * 16 + _ < _; omega⟩ (by omega) (by show 112 + d.val / 4 = j.val % 2 * 64 + 3 * 16 + d.val / 4; omega)]
    rfl

/-- Over the reals the block stored in bf16 is the one stored in f32. -/
theorem eB16_eq (x0 : Vec Ideal S1024x128 .i32) (x1 : Vec Ideal S64x128 .f32) (j : ℕ) (y : S64x128.Idx) :
    (eB16 x0 x1 j y : EReal) = eB32 x0 x1 j y := by
  unfold eB16 eB32
  split
  · unfold k0_pay54 k0_pay53; pointwise
  · unfold k0_pay58 k0_pay57; pointwise

/-- The step's tile of embeddings at a lane and a token. -/
theorem eTile32_apply (x0 : Vec Ideal S1024x128 .i32) (x1 : Vec Ideal S64x128 .f32) (d : Fin 64) (t : Fin 2048) :
    eTile32 x0 x1 (ix2 d t) = blk x0 x1 ⟨t.val / 128, by omega⟩ d ⟨t.val % 128, Nat.mod_lt _ (by decide)⟩ := by
  rw [← eB32_apply]
  refine congrArg (eB32 x0 x1 (t.val / 128)) (funext fun a => ?_)
  match a with
  | 0 => rfl
  | 1 => rfl

/-- The tile written out is the tile kept: the narrower format changes nothing over the reals. -/
theorem eTile16_eq (x0 : Vec Ideal S1024x128 .i32) (x1 : Vec Ideal S64x128 .f32) (y : S64x2048.Idx) :
    (eTile16 x0 x1 y : EReal) = eTile32 x0 x1 y := eB16_eq x0 x1 _ _

end Cert.KernelIdeal.Hand

end
-- ==== Proof.KI.Window.lean ====
/-
  A window's product over the reals: slab `w` of the accumulator gains, for bag lane `l`, the sum of the embeddings of the
  step's tokens that lie in the bag. The embeddings enter as three summands of which, over the reals, the second and third
  are zero.
-/
module

public import proofs.«01_k».proof.Proof.KI.Embed

@[expose] public section

set_option maxRecDepth 16384

noncomputable section

namespace Cert.KernelIdeal.Hand

open Cert.KernelIdeal Cert.KernelIdeal.Gen Cert.Sums
open Idealize.ShloMosaic

/-- The one-hot's bit as a number. -/
theorem mask_val (a b c : BitVec 32) :
    ((((IntOp.andi (IntOp.cmpi .sge a b) (IntOp.cmpi .slt a c)).setWidth 32 : BitVec 32).toInt : ℝ) : EReal)
      = if b.toInt ≤ a.toInt ∧ a.toInt < c.toInt then 1 else 0 := by
  have e1 : IntOp.cmpi .sge a b = BitVec.ofBool (decide (b.toInt ≤ a.toInt)) := by
    simp [IntOp.cmpi, BitVec.sle]
  have e2 : IntOp.cmpi .slt a c = BitVec.ofBool (decide (a.toInt < c.toInt)) := by
    simp [IntOp.cmpi, BitVec.slt]
  rw [e1, e2]
  by_cases h1 : b.toInt ≤ a.toInt
  · by_cases h2 : a.toInt < c.toInt
    · rw [if_pos ⟨h1, h2⟩, decide_eq_true h1, decide_eq_true h2]
      rw [show ((IntOp.andi (BitVec.ofBool true) (BitVec.ofBool true)).setWidth 32 : BitVec 32).toInt = 1 by decide]
      simp
    · rw [if_neg fun h => h2 h.2, decide_eq_true h1, decide_eq_false h2]
      rw [show ((IntOp.andi (BitVec.ofBool true) (BitVec.ofBool false)).setWidth 32 : BitVec 32).toInt = 0 by decide]
      simp
  · rw [if_neg fun h => h1 h.1, decide_eq_false h1]
    rw [show ((IntOp.andi (BitVec.ofBool false) (BitVec.ofBool (decide (a.toInt < c.toInt)))).setWidth 32 : BitVec 32).toInt = 0 by
      generalize decide (a.toInt < c.toInt) = v; revert v; decide]
    simp

/-- Three sums added, of which the last two are of zeros. -/
theorem three {n : ℕ} (a b c g : Fin n → EReal) (ha : ∀ x, a x = g x) (hb : ∀ x, b x = 0) (hc : ∀ x, c x = 0) :
    (∑ x, a x) + (∑ x, b x) + (∑ x, c x) = ∑ x, g x := by
  simp only [ha, hb, hc, Finset.sum_const_zero, add_zero]

/-- What a window's product adds at dimension `d` and lane `l`. -/
def gain (tok : IVec S2048x128 32) (E : Vec Ideal S64x2048 .f32) (lo hi : Vec Ideal S1x128 .i32) (d : Fin 64) (l : Fin 128) : EReal :=
  ∑ c : Fin 2048, if ((lo (ix2 0 l) : BitVec 32)).toInt ≤ (tok (ix2 c l)).toInt ∧ (tok (ix2 c l)).toInt < ((hi (ix2 0 l) : BitVec 32)).toInt
    then E (ix2 d c) else 0

/-- A window's new sums: the old ones and, of each bag, the embeddings of the step's tokens in it. -/
theorem pay1_apply (tok : IVec S2048x128 32) (E : Vec Ideal S64x2048 .f32) (lo hi : Vec Ideal S1x128 .i32)
    (A : Vec Ideal S1x64x128 .f32) (d : Fin 64) (l : Fin 128) (hE : ∀ c : Fin 2048, ∃ r : ℝ, E (ix2 d c) = (r : EReal)) :
    k0_pay1 (F := Ideal) tok (split3 E) lo hi A (ix3 0 d l) = A (ix3 0 d l) + gain tok E lo hi d l := by
  have z (c : Fin 2048) : (E (ix2 d c) : EReal) - E (ix2 d c) = 0 := by
    obtain ⟨r, hr⟩ := hE c
    rw [hr, ← EReal.coe_sub, sub_self, EReal.coe_zero]
  unfold gain
  pointwise [k0_pay1, split3, k0_pay123, k0_pay124, k0_pay125]
  congr 1
  have m : ∀ c : Fin 2048, FloatOps.sitofp (F := Ideal) FTy.f32 (BitVec.setWidth 32
      (IntOp.andi (IntOp.cmpi CmpIPredicate.sge (tok (ix2 c l)) (lo (ix2 0 l)))
        (IntOp.cmpi CmpIPredicate.slt (tok (ix2 c l)) (hi (ix2 0 l)))))
      = if (lo (ix2 0 l)).toInt ≤ (tok (ix2 c l)).toInt ∧ (tok (ix2 c l)).toInt < (hi (ix2 0 l)).toInt
        then (1 : EReal) else 0 := fun c => mask_val _ _ _
  refine three _ _ _ _ (fun c => ?_) (fun c => ?_) (fun c => ?_)
  · rw [m c]
    split <;> simp
  · rw [z c, zero_mul]
  · rw [dif_neg (by omega), dif_neg (by omega)]
    have e : (⟨128 + d.val - 64 - 64, by omega⟩ : Fin 64) = d := Fin.ext (by simp only; omega)
    rw [e, z c, (by simp : (0 : EReal) - 0 = 0), zero_mul]

end Cert.KernelIdeal.Hand

end
-- ==== Proof.KI.Blocks.lean ====
/-
  What the kernel's windows read: the blocks of the packed rows and of the weights at a step, and the two whole tables of
  bag boundaries as entries of the offsets.
-/
module

public import proofs.«01_k».proof.Proof.KI.Frame
public import proofs.«01_k».proof.Proof.Lib.Sums
public import Idealize.ShloMosaic.Lib.Pointwise
public import Idealize.ShloMosaic.Lib.Pipeline.Value
public import Idealize.ShloMosaic.Lib.StableHlo.RunRead

@[expose] public section

set_option maxRecDepth 16384

noncomputable section

namespace Cert.KernelIdeal.Hand

open Cert.KernelIdeal Cert.KernelIdeal.Gen Cert.Own
open Idealize.ShloMosaic Idealize.ShloMosaic.TcCoe Idealize.ShloMosaic.Tactic
open Idealize.ShloMosaic.Pointwise

variable {F : FTy → Type} [FloatOps F]
variable (m : (ℓ : Loc nD τ sig) → Buf (Elt F) ℓ)

/-- The grid has 192 steps. -/
theorem N_eq : (cfg m).N = 192 := N_0

/-- Each step's number is below 192. -/
theorem lt192 (t : Fin (cfg m).N) : t.val < 192 := Nat.lt_of_lt_of_eq t.isLt N_0

/-- The grid has one axis, walked in order. -/
theorem coords0 (t : Fin (cfg m).N) : ((cfg m).grid.coords t 0).val = t.val :=
  (fun t => by
    have ht : t.val < 192 := Nat.lt_of_lt_of_eq t.isLt N_0
    have e0 : (grid0.coords t 0).val = t.val / 1 % 192 := Pipeline.Grid.coords_val t 0 (by decide) rfl
    omega
   : ∀ t : Fin grid0.N, (grid0.coords t 0).val = t.val) t

/-- A step as a word. -/
theorem word_step (t : Fin (cfg m).N) : (BitVec.ofNat 32 ((cfg m).grid.coords t 0).val).toNat = t.val := by
  rw [coords0, BitVec.toNat_ofNat]
  have := lt192 m t
  omega

/-- Step `t` reads packed rows `1024 t` on. -/
theorem iblk0_apply (c : Dev nD) (t : Fin (cfg m).N) (r : Fin 1024) (l : Fin 128) :
    (iblk m c 0 t : Vec F S1024x128 .i32) (ix2 r l)
      = (m (c.tc.loc main_arg0) : Vec F S196608x128 .i32) (ix2 ⟨1024 * t.val + r.val, by have := lt192 m t; omega⟩ l) := by
  unfold iblk
  rw [View.read_apply]
  have e := V_arg0 m c
  show V m c main_arg0 _ = _
  rw [e]
  refine congrArg (m (c.tc.loc main_arg0)) (funext fun a => Fin.ext ?_)
  have w := word_step m t
  match a with
  | ⟨0, _⟩ => show (BitVec.ofNat 32 ((cfg m).grid.coords t 0).val).toNat * 1024 + 1 * r.val = 1024 * t.val + r.val; omega
  | ⟨1, _⟩ => show (0#32).toNat * 128 + 1 * l.val = l.val; simp

/-- Step `t` reads weight rows `64 t` on. -/
theorem iblk1_apply (c : Dev nD) (t : Fin (cfg m).N) (r : Fin 64) (l : Fin 128) :
    (iblk m c 1 t : Vec F S64x128 .f32) (ix2 r l)
      = (m (c.tc.loc main_arg1) : Vec F S12288x128 .f32) (ix2 ⟨64 * t.val + r.val, by have := lt192 m t; omega⟩ l) := by
  unfold iblk
  rw [View.read_apply]
  have e := V_arg1 m c
  show V m c main_arg1 _ = _
  rw [e]
  refine congrArg (m (c.tc.loc main_arg1)) (funext fun a => Fin.ext ?_)
  have w := word_step m t
  match a with
  | ⟨0, _⟩ => show (BitVec.ofNat 32 ((cfg m).grid.coords t 0).val).toNat * 64 + 1 * r.val = 64 * t.val + r.val; omega
  | ⟨1, _⟩ => show (0#32).toNat * 128 + 1 * l.val = l.val; simp

/-- Every step reads the table of first tokens whole. -/
theorem iblk2_eq (c : Dev nD) (t : Fin (cfg m).N) : (iblk m c 2 t : Vec F S52x128 .i32) = V m c main_v9 := by
  funext y
  unfold iblk
  rw [View.read_apply]
  show V m c main_v9 _ = _
  refine congrArg (V m c main_v9) (funext fun a => Fin.ext ?_)
  match a with
  | ⟨0, _⟩ => show (0#32).toNat * 52 + 1 * (y 0).val = (y 0).val; simp
  | ⟨1, _⟩ => show (0#32).toNat * 128 + 1 * (y 1).val = (y 1).val; simp

/-- Every step reads the table of end tokens whole. -/
theorem iblk3_eq (c : Dev nD) (t : Fin (cfg m).N) : (iblk m c 3 t : Vec F S52x128 .i32) = V m c main_v10 := by
  funext y
  unfold iblk
  rw [View.read_apply]
  show V m c main_v10 _ = _
  refine congrArg (V m c main_v10) (funext fun a => Fin.ext ?_)
  match a with
  | ⟨0, _⟩ => show (0#32).toNat * 52 + 1 * (y 0).val = (y 0).val; simp
  | ⟨1, _⟩ => show (0#32).toNat * 128 + 1 * (y 1).val = (y 1).val; simp

/-- The offsets. -/
abbrev offs (c : Dev nD) : Cert.Sums.Offs := m (c.tc.loc main_arg2)

/-- The table of first tokens, as the host builds it. -/
theorem v9_eq (c : Dev nD) : (V m c main_v9 : Vec F S52x128 .i32)
    = shapeCast S52x128 (concatenate S6656 0 [⟨S1, (broadcastInDim S1 ![] bcast_S_S1 (constantI S_ 32 0#32) : Vec F S1 .i32)⟩,
        ⟨S6655, (extractStridedSlice S6655 ![1] (offs m c) slices_S6656_S6655_1 : Vec F S6655 .i32)⟩] concatenates_S1_S6655_S6656_d0)
      shapeCasts_S6656_S52x128 := by
  unfold V
  after_reads_simp
  rfl

/-- The table of end tokens, as the host builds it. -/
theorem v10_eq (c : Dev nD) : (V m c main_v10 : Vec F S52x128 .i32)
    = shapeCast S52x128 (concatenate S6656 0 [⟨S6655, (extractStridedSlice S6655 ![1] (offs m c) slices_S6656_S6655_1 : Vec F S6655 .i32)⟩,
        ⟨S1, (broadcastInDim S1 ![] bcast_S_S1 (constantI S_ 32 393216#32) : Vec F S1 .i32)⟩] concatenates_S6655_S1_S6656_d0)
      shapeCasts_S6656_S52x128 := by
  unfold V
  after_reads_simp
  rfl

/-- The end of each window's last bag, as the host builds it. -/
theorem v8_eq (c : Dev nD) : (V m c main_v8 : Vec F S52 .i32)
    = shapeCast S52 (extractStridedSlice S52x1 ![0, 127] (V m c main_v10 : Vec F S52x128 .i32) slices_S52x128_S52x1_0_127)
      shapeCasts_S52x1_S52 := by
  rw [v10_eq]
  unfold V
  after_reads_simp
  rfl

/-- The table of first tokens, by window and lane. -/
theorem v9_apply (c : Dev nD) (w : Fin 52) (l : Fin 128) :
    (V m c main_v9 : Vec F S52x128 .i32) (ix2 w l) = Cert.Sums.loW (offs m c) (128 * w.val + l.val) := by
  rw [v9_eq]
  generalize offs m c = o
  pointwise
  unfold Cert.Sums.loW
  by_cases h : 0 < w.val * 128 + l.val
  · rw [dif_neg (by omega), dif_pos (by omega)]
    exact congrArg o (congrArg ix1 (Fin.ext (by simp only; omega)))
  · rw [dif_pos (by omega), dif_neg (by omega)]

/-- The table of end tokens, by window and lane. -/
theorem v10_apply (c : Dev nD) (w : Fin 52) (l : Fin 128) :
    (V m c main_v10 : Vec F S52x128 .i32) (ix2 w l) = Cert.Sums.hiW (offs m c) (128 * w.val + l.val) := by
  rw [v10_eq]
  generalize offs m c = o
  pointwise
  unfold Cert.Sums.hiW
  by_cases h : w.val * 128 + l.val < 6655
  · rw [dif_pos h, dif_pos (by omega)]
    exact congrArg o (congrArg ix1 (Fin.ext (by simp only; omega)))
  · rw [dif_neg h, dif_neg (by omega)]

/-- The table of windows' ends. -/
theorem tbl_apply (c : Dev nD) (w : Fin 52) : tbl m c (ix1 w) = Cert.Sums.hiW (offs m c) (128 * w.val + 127) := by
  rw [show tbl m c = _ from v8_eq m c]
  refine Eq.trans ?_ (v10_apply m c w ⟨127, by omega⟩)
  generalize V m c main_v10 = o
  pointwise

end Cert.KernelIdeal.Hand

end
-- ==== Proof.KI.Pool.lean ====
/-
  The accumulator step by step: after step `n` every slab holds, per dimension and bag lane, the sum of the embeddings of
  the first `2048 (n + 1)` tokens that lie in the bag. The windows behind the current one have ended and gain nothing; the
  windows past the one where the loop stops have not begun.
-/
module

public import proofs.«01_k».proof.Proof.KI.Window
public import proofs.«01_k».proof.Proof.KI.Blocks

@[expose] public section

set_option maxRecDepth 16384

noncomputable section

namespace Cert.KernelIdeal.Hand

open Cert.KernelIdeal Cert.KernelIdeal.Gen Cert.Sums
open Idealize.ShloMosaic Idealize.ShloMosaic.TcCoe
open Idealize.ShloMosaic.Pointwise

/-! ## Slabs -/

/-- Slab `w` of an accumulator, entry by entry. -/
theorem slabAt_apply (A : Vec Ideal S52x64x128 .f32) (w : Fin 52) (d : Fin 64) (l : Fin 128) :
    slabAt A w.val (ix3 0 d l) = A (ix3 w d l) := by
  refine congrArg A (funext fun a => Fin.ext ?_)
  match a with
  | ⟨0, _⟩ => exact Nat.mod_eq_of_lt w.isLt
  | ⟨1, _⟩ => rfl
  | ⟨2, _⟩ => rfl

/-- Replacing slab `w` changes slab `w`. -/
theorem setSlab_self (A : Vec Ideal S52x64x128 .f32) (w : Fin 52) (P : Vec Ideal S1x64x128 .f32) (d : Fin 64) (l : Fin 128) :
    setSlab A w.val P (ix3 w d l) = P (ix3 0 d l) := by
  unfold setSlab VecWindow.put
  rw [dif_pos]
  · refine congrArg P (funext fun a => Fin.ext ?_)
    match a with
    | ⟨0, _⟩ => exact Nat.sub_self _
    | ⟨1, _⟩ => rfl
    | ⟨2, _⟩ => rfl
  · intro a
    match a with
    | ⟨0, _⟩ => exact ⟨Nat.le_refl _, Nat.lt_succ_self _⟩
    | ⟨1, _⟩ => exact ⟨Nat.zero_le _, by have := d.isLt; show d.val < 0 + 64; omega⟩
    | ⟨2, _⟩ => exact ⟨Nat.zero_le _, by have := l.isLt; show l.val < 0 + 128; omega⟩

/-- Replacing slab `w` changes no other. -/
theorem setSlab_other (A : Vec Ideal S52x64x128 .f32) (w v : Fin 52) (h : v ≠ w) (P : Vec Ideal S1x64x128 .f32) (d : Fin 64) (l : Fin 128) :
    setSlab A w.val P (ix3 v d l) = A (ix3 v d l) := by
  unfold setSlab VecWindow.put
  rw [dif_neg]
  intro hh
  have h0 : w.val ≤ v.val ∧ v.val < w.val + 1 := hh 0
  exact h (Fin.ext (by omega))

/-- A row of a table of bags' bounds. -/
theorem rowAt_apply (X : Vec Ideal S52x128 .i32) (w : Fin 52) (l : Fin 128) :
    rowAt X w.val (ix2 0 l) = X (ix2 w l) := by
  refine congrArg X (funext fun a => Fin.ext ?_)
  match a with
  | ⟨0, _⟩ => exact Nat.mod_eq_of_lt w.isLt
  | ⟨1, _⟩ => rfl

/-- An entry of the table of windows' ends. -/
theorem endAt_apply (T : S52.Idx → BitVec 32) (w : Fin 52) : endAt T w.val = T (ix1 w) := by
  refine congrArg T (funext fun a => Fin.ext ?_)
  match a with
  | ⟨0, _⟩ => exact Nat.mod_eq_of_lt w.isLt

/-- A small number's word reads back as the number. -/
theorem toInt_small (k : ℕ) (h : k < 2 ^ 31) : (BitVec.ofNat 32 k).toInt = (k : ℤ) := by
  rw [BitVec.toInt_eq_toNat_cond, BitVec.toNat_ofNat, Nat.mod_eq_of_lt (by omega), if_pos (by omega)]

/-! ## One step -/

/-- Slab `v` of `A` holds its bags' sums over the first `n` tokens. -/
def Holds (rows : Rows) (wt : Weights) (off : Offs) (n : ℕ) (A : Vec Ideal S52x64x128 .f32) (v : Fin 52) : Prop :=
  ∀ (d : Fin 64) (l : Fin 128), A (ix3 v d l) = pool rows wt off n d (128 * v.val + l.val)

/-- The windows before `w` have ended by token `n`. -/
def Ended (off : Offs) (n w : ℕ) : Prop := ∀ v < w, (hiW off (128 * v + 127)).toInt ≤ (n : ℤ)

section Step

variable (rows : Rows) (wt : Weights) (off : Offs) (ho : Ordered off) (hw : Finite wt)
variable (i : grid0.Coords) (n : ℕ) (hi0 : (i 0).val = n) (hn : n < 192)
variable (T : S52.Idx → BitVec 32) (hT : ∀ w : Fin 52, T (ix1 w) = hiW off (128 * w.val + 127))
variable (lo hi : Vec Ideal S52x128 .i32)
  (hlo : ∀ (w : Fin 52) (l : Fin 128), lo (ix2 w l) = loW off (128 * w.val + l.val))
  (hhi : ∀ (w : Fin 52) (l : Fin 128), hi (ix2 w l) = hiW off (128 * w.val + l.val))
variable (E : Vec Ideal S64x2048 .f32)
  (hE : ∀ (d : Fin 64) (c : Fin 2048), E (ix2 d c) = embN rows wt d (2048 * n + c.val))

include hi0 hn in
/-- The token numbers of step `n` are `2048 n` on. -/
theorem toks_toInt (c : Fin 2048) (l : Fin 128) : (toks i (ix2 c l)).toInt = ((2048 * n + c.val : ℕ) : ℤ) := by
  have e : toks i (ix2 c l) = BitVec.ofNat 32 (2048 * n + c.val) := by
    unfold toks
    rw [hi0]
    pointwise [k0_pay126]
    apply BitVec.eq_of_toNat_eq
    simp [IntOp.addi, IntOp.muli, Scalar.muli]
    omega
  rw [e]
  exact toInt_small _ (by have := c.isLt; omega)

include hi0 hn hT in
/-- The loop goes on while the window has ended by the step's last token and is not the last. -/
theorem more_iff (w : Fin 52) : more i T w.val ↔ (hiW off (128 * w.val + 127)).toInt ≤ ((2048 * n + 2048 : ℕ) : ℤ) ∧ w.val < 51 := by
  unfold more
  rw [endAt_apply, hT, hi0]
  have e1 : (Scalar.addi (Scalar.muli (BitVec.ofNat 32 n) 2048#32) 2048#32).toInt = ((2048 * n + 2048 : ℕ) : ℤ) := by
    have e : Scalar.addi (Scalar.muli (BitVec.ofNat 32 n) 2048#32) 2048#32 = BitVec.ofNat 32 (2048 * n + 2048) := by
      apply BitVec.eq_of_toNat_eq
      simp [IntOp.addi, IntOp.muli, Scalar.muli, Scalar.addi]
      omega
    rw [e]
    exact toInt_small _ (by omega)
  rw [← e1]
  generalize Scalar.addi (Scalar.muli (BitVec.ofNat 32 n) 2048#32) 2048#32 = b
  generalize hiW off (128 * w.val + 127) = a
  have e2 : Scalar.cmpi .sle a b = BitVec.ofBool (decide (a.toInt ≤ b.toInt)) := by
    simp [Scalar.cmpi, IntOp.cmpi, BitVec.sle]
  have e3 : Scalar.cmpi .slt (wd w.val) 51#32 = BitVec.ofBool (decide (w.val < 51)) :=
    (by decide : ∀ w : Fin 52, Scalar.cmpi .slt (wd w.val) 51#32 = BitVec.ofBool (decide (w.val < 51))) w
  rw [e2, e3]
  by_cases h1 : a.toInt ≤ b.toInt <;> by_cases h2 : w.val < 51 <;> simp [h1, h2, Scalar.andi, IntOp.andi]

include hw hi0 hn hlo hhi hE in
/-- A window's product carries its slab from the tokens before the step to those up to its end. -/
theorem pay_holds (A : Vec Ideal S52x64x128 .f32) (w : Fin 52) (h : Holds rows wt off (2048 * n) A w) :
    Holds rows wt off (2048 * n + 2048)
      (setSlab A w.val (k0_pay1 (toks i) (split3 E) (rowAt lo w.val) (rowAt hi w.val) (slabAt A w.val))) w := by
  intro d l
  rw [setSlab_self, pay1_apply _ _ _ _ _ _ _ fun c => ?_, slabAt_apply, h d l, pool_add]
  · unfold gain
    refine congrArg _ (Finset.sum_congr rfl fun c _ => ?_)
    rw [rowAt_apply, rowAt_apply, hlo, hhi, toks_toInt i n hi0 hn, hE]
    rfl
  · have := c.isLt
    rw [hE]
    unfold embN
    rw [dif_pos (by omega)]
    exact emb_finite rows wt hw d _

include ho hw hi0 hn hT hlo hhi hE in
/-- The loop from window `w`, whose slabs up to `w` are done. -/
theorem loop_holds : ∀ (k w : ℕ) (A : Vec Ideal S52x64x128 .f32), w + k = 51 →
    (∀ v : Fin 52, v.val ≤ w → Holds rows wt off (2048 * n + 2048) A v) →
    (∀ v : Fin 52, w < v.val → Holds rows wt off (2048 * n) A v) →
    Ended off (2048 * n + 2048) w →
    (∀ v : Fin 52, Holds rows wt off (2048 * n + 2048) (loopN i T lo hi (toks i) (split3 E) k w A).2 v)
      ∧ Ended off (2048 * n + 2048) (loopN i T lo hi (toks i) (split3 E) k w A).1
  | 0, w, A, hk, h1, h2, h3 => ⟨fun v => h1 v (by have := v.isLt; omega), h3⟩
  | k + 1, w, A, hk, h1, h2, h3 => by
    have hm := more_iff off i n hi0 hn T hT ⟨w, by omega⟩
    simp only [loopN]
    by_cases hc : more i T w
    · rw [if_pos hc]
      obtain ⟨c1, c2⟩ := hm.mp hc
      refine loop_holds k (w + 1) _ (by omega) (fun v hv => ?_) (fun v hv => ?_) (fun v hv => ?_)
      · by_cases e : v.val = w + 1
        · rw [show v = ⟨w + 1, by omega⟩ from Fin.ext e]
          exact pay_holds rows wt off hw i n hi0 hn lo hi hlo hhi E hE A ⟨w + 1, by omega⟩ (h2 _ (Nat.lt_succ_self w))
        · intro d l
          exact (setSlab_other A ⟨w + 1, by omega⟩ v (fun q => e (congrArg Fin.val q)) _ d l).trans (h1 v (by omega) d l)
      · intro d l
        exact (setSlab_other A ⟨w + 1, by omega⟩ v (fun q => by have : v.val = w + 1 := congrArg Fin.val q; omega) _ d l).trans
          (h2 v (by omega) d l)
      · by_cases e : v = w
        · subst e; exact c1
        · exact h3 v (by omega)
    · rw [if_neg hc]
      refine ⟨fun v => ?_, h3⟩
      by_cases hv : v.val ≤ w
      · exact h1 v hv
      · intro d l
        have hlt : ((2048 * n + 2048 : ℕ) : ℤ) < (hiW off (128 * w + 127)).toInt := by
          by_contra hq
          exact hc (hm.mpr ⟨by simpa using not_lt.mp hq, by show w < 51; omega⟩)
        have := v.isLt
        have := l.isLt
        rw [pool_ahead rows wt off (2048 * n) (2048 * n + 2048) d _ (by omega)
          (le_trans (le_of_lt hlt) (hi_le_lo off ho _ _ (by omega) (by omega)))]
        exact h2 v (by omega) d l

/-- What holds before step `n`: the slabs at the sums over the tokens so far, the windows behind ended. -/
def Inv (n : ℕ) (s : ℕ × Vec Ideal S52x64x128 .f32) : Prop :=
  s.1 ≤ 51 ∧ (∀ v : Fin 52, Holds rows wt off (2048 * n) s.2 v) ∧ Ended off (2048 * n) s.1

include ho hw hi0 hn hT hlo hhi in
/-- A step carries the invariant on. -/
theorem step_inv (x0 : Vec Ideal S1024x128 .i32) (x1 : Vec Ideal S64x128 .f32)
    (hX : ∀ (d : Fin 64) (c : Fin 2048), eTile32 x0 x1 (ix2 d c) = embN rows wt d (2048 * n + c.val))
    (s : ℕ × Vec Ideal S52x64x128 .f32) (h : Inv rows wt off n (win0 i s.1, acc0 i s.2)) :
    Inv rows wt off (n + 1) (stepOf i T x0 x1 lo hi s) := by
  obtain ⟨h1, h2, h3⟩ := h
  dsimp only at h1 h2 h3
  have hw52 : win0 i s.1 < 52 := by omega
  have key := loop_holds rows wt off ho hw i n hi0 hn T hT lo hi hlo hhi (eTile32 x0 x1) hX (51 - win0 i s.1) (win0 i s.1)
    (acc1 i lo hi (eTile32 x0 x1) (win0 i s.1) (acc0 i s.2)) (by omega) (fun v hv => ?_) (fun v hv => ?_) (fun v hv => ?_)
  · rw [show 2048 * n + 2048 = 2048 * (n + 1) by omega] at key
    exact ⟨loopN_le i T lo hi _ _ _ _ _ (by omega), key.1, key.2⟩
  · by_cases e : v.val = win0 i s.1
    · rw [show v = ⟨win0 i s.1, hw52⟩ from Fin.ext e]
      exact pay_holds rows wt off hw i n hi0 hn lo hi hlo hhi (eTile32 x0 x1) hX (acc0 i s.2) ⟨win0 i s.1, hw52⟩ (h2 _)
    · intro d l
      refine (setSlab_other (acc0 i s.2) ⟨win0 i s.1, hw52⟩ v (fun q => e (congrArg Fin.val q)) _ d l).trans ((h2 v d l).trans ?_)
      have := l.isLt
      exact (pool_ended rows wt off (2048 * n) (2048 * n + 2048) d _ (by omega)
        (le_trans (hi_mono off ho _ (128 * v.val + 127) (by omega) (by omega)) (h3 v.val (by omega)))).symm
  · intro d l
    exact (setSlab_other (acc0 i s.2) ⟨win0 i s.1, hw52⟩ v (fun q => by have : v.val = win0 i s.1 := congrArg Fin.val q; omega) _ d l).trans
      (h2 v d l)
  · exact le_trans (h3 v hv) (by push_cast; omega)

end Step

end Cert.KernelIdeal.Hand

end
-- ==== Proof.KI.Value.lean ====
/-
  The kernel's two results: the embeddings of every token, and per bag the sum of its tokens' embeddings.
-/
module

public import proofs.«01_k».proof.Proof.KI.Pool

@[expose] public section

set_option maxRecDepth 16384

noncomputable section

namespace Cert.KernelIdeal.Hand

open Cert.KernelIdeal Cert.KernelIdeal.Gen Cert.Sums
open Idealize.ShloMosaic Idealize.ShloMosaic.TcCoe
open Idealize.SL.Sem
open Idealize.ShloMosaic.Pointwise

variable (m : (ℓ : Loc nD τ sig) → Buf (Elt Ideal) ℓ) (ρ : Dev nD → PrngReg)

/-- The packed rows. -/
abbrev rows (c : Dev nD) : Rows := m (c.tc.loc main_arg0)
/-- The weights. -/
abbrev wts (c : Dev nD) : Weights := m (c.tc.loc main_arg1)

/-- Step `t`'s tile holds the embeddings of tokens `2048 t` on. -/
theorem tile_apply (c : Dev nD) (t : Fin (cfg m).N) (d : Fin 64) (k : Fin 2048) :
    eTile32 (iblk m c 0 t) (iblk m c 1 t) (ix2 d k) = embN (rows m c) (wts m c) d (2048 * t.val + k.val) := by
  have ht := lt192 m t
  have hk := k.isLt
  rw [eTile32_apply]
  unfold embN
  rw [dif_pos (by omega)]
  unfold blk Cert.Sums.emb
  refine Finset.sum_congr rfl fun h _ => ?_
  rw [iblk0_apply, iblk1_apply]
  unfold code wt
  refine congrArg₂ (fun a b => num (byteOf a (d.val % 4)) * b) ?_ ?_
  · exact congrArg (rows m c) (congrArg₂ ix2 (Fin.ext (by simp only; omega)) (Fin.ext (by simp only; omega)))
  · exact congrArg (wts m c) (congrArg₂ ix2 (Fin.ext (by simp only; omega)) (Fin.ext (by simp only; omega)))

/-- After step `n` the accumulator holds the sums over the tokens so far. -/
theorem st_inv (c : Dev nD) (ho : Ordered (offs m c)) (hw : Sums.Finite (wts m c)) : ∀ (n : ℕ) (h : n < (cfg m).N),
    Inv (rows m c) (wts m c) (offs m c) (n + 1) (st m c n h)
  | 0, h => by
    refine step_inv (rows m c) (wts m c) (offs m c) ho hw _ 0 (coords0 m ⟨0, h⟩) (by decide) (tbl m c) (tbl_apply m c)
      _ _ (fun w l => ?_) (fun w l => ?_) _ _ (tile_apply m c ⟨0, h⟩) _ ?_
    · rw [iblk2_eq]; exact v9_apply m c w l
    · rw [iblk3_eq]; exact v10_apply m c w l
    · have hf : first ((cfg m).grid.coords ⟨0, h⟩) := (first_iff m ⟨0, h⟩).mpr rfl
      unfold win0 acc0
      rw [if_pos hf, if_pos hf]
      refine ⟨Nat.zero_le _, fun v d l => ?_, fun v hv => absurd hv (Nat.not_lt_zero _)⟩
      unfold Cert.Sums.pool
      rw [Nat.mul_zero, Finset.range_zero, Finset.sum_empty]
      pointwise [k0_pay50]
      try simp
  | n + 1, h => by
    have hN := N_eq m
    refine step_inv (rows m c) (wts m c) (offs m c) ho hw _ (n + 1) (coords0 m ⟨n + 1, h⟩) (by omega) (tbl m c) (tbl_apply m c)
      _ _ (fun w l => ?_) (fun w l => ?_) _ _ (tile_apply m c ⟨n + 1, h⟩) _ ?_
    · rw [iblk2_eq]; exact v9_apply m c w l
    · rw [iblk3_eq]; exact v10_apply m c w l
    · have hf : ¬first ((cfg m).grid.coords ⟨n + 1, h⟩) := fun q => by
        have := (first_iff m ⟨n + 1, h⟩).mp q
        simp only at this
        omega
      unfold win0 acc0
      rw [if_neg hf, if_neg hf]
      exact st_inv c ho hw n _

/-- The first result: every token's embedding. -/
def embOut (c : Dev nD) : Buf (Elt Ideal) ((c.tc : Thread nD τ).loc main_v11_0) :=
  fun (i : S64x393216.Idx) => emb (rows m c) (wts m c) (i 0) (i 1)

/-- The second result: every bag's sum. -/
def poolOut (c : Dev nD) : Buf (Elt Ideal) ((c.tc : Thread nD τ).loc main_v11_1) :=
  fun (i : S64x6656.Idx) => pool (rows m c) (wts m c) (offs m c) 393216 (i 0) (i 1).val

/-- The sums claimed for the second result, at a lane and a bag. -/
theorem poolOut_apply (c : Dev nD) (i : S64x6656.Idx) (d : Fin 64) (s : ℕ) (h0 : (i 0 : Fin 64) = d) (h1 : (i 1).val = s) :
    (poolOut m c i : EReal) = pool (rows m c) (wts m c) (offs m c) 393216 d s := by
  subst h0 h1; rfl

/-- Every step writes its tile back. -/
theorem flush_4 (t : Fin (cfg m).N) : ((cfg m).win 4).flush t = true := by
  refine (Pipeline.Window.flush_out ((cfg m).win 4) rfl t).mpr ?_
  have hN := N_eq m
  by_cases h : t.val + 1 = (cfg m).N
  · exact Or.inl h
  · have hl : t.val + 1 < (cfg m).N := by have := t.isLt; omega
    refine Or.inr ⟨hl, fun q => ?_⟩
    have q1 : (BitVec.ofNat 32 ((cfg m).grid.coords ⟨t.val + 1, hl⟩ 0).val).toNat
        = (BitVec.ofNat 32 ((cfg m).grid.coords t 0).val).toNat := congrFun q (1 : Fin 2)
    rw [word_step, word_step] at q1
    simp only at q1
    omega

/-- What a step writes of the first result is its tile of the embeddings claimed. -/
theorem flushed_4 (c : Dev nD) (t : Fin (cfg m).N) :
    (dats m 0 c).flushed 4 t = (((cfg m).win 4).blk t).view.read (Elt Ideal) (embOut m c) := by
  show ((cfg m).win 4).cut ((cfg m).grid.coords t) ((dats m 0 c).after 4 t) = _
  rw [after_4]
  refine funext fun (y : S64x2048.Idx) => ?_
  have ht := lt192 m t
  have w := word_step m t
  have h0 : (y 0).val < 64 := (y 0).isLt
  have h1 : (y 1).val < 2048 := (y 1).isLt
  refine Eq.trans (b := (eTile32 (iblk m c 0 t) (iblk m c 1 t) (ix2 ⟨(y 0).val, h0⟩ ⟨(y 1).val, h1⟩) : EReal)) ?_ (Eq.symm (Eq.trans (View.read_apply ..) (Eq.symm ?_)))
  · refine (eTile16_eq _ _ _).trans (congrArg (eTile32 (iblk m c 0 t) (iblk m c 1 t)) (funext fun a => Fin.ext ?_))
    match a with
    | ⟨0, _⟩ => rfl
    | ⟨1, _⟩ => rfl
  · rw [tile_apply]
    unfold embN
    rw [dif_pos (by simp only; omega)]
    refine congrArg₂ (emb (rows m c) (wts m c)) (Fin.ext ?_) (Fin.ext ?_)
    · show (y 0).val = (0#32).toNat * 64 + 1 * (y 0).val; simp
    · show 2048 * t.val + (y 1).val = (BitVec.ofNat 32 ((cfg m).grid.coords t 0).val).toNat * 2048 + 1 * (y 1).val; omega

/-- After all steps the first result is the embeddings claimed. -/
theorem final_4 (c : Dev nD) : (dats m 0 c).arrAt 4 (cfg m).N = embOut m c :=
  (dats m 0 c).arrAt_eq_of_cover 4 (embOut m c) (fun t _ => flushed_4 m c t) fun (i : S64x393216.Idx) => by
    have h0 : (i 0).val < 64 := (i 0).isLt
    have h1 : (i 1).val < 393216 := (i 1).isLt
    have hN := N_eq m
    have hlt : (i 1).val / 2048 < (cfg m).N := by omega
    refine ⟨⟨(i 1).val / 2048, hlt⟩, ?_, ?_⟩
    · exact flush_4 m _
    · refine (congrArg (i ∈ ·) (View.set_slice_whole ..)).mpr ((Rect.mem_set_unit ..).mpr fun a => ?_)
      have w : (BitVec.ofNat 32 ((cfg m).grid.coords ⟨(i 1).val / 2048, hlt⟩ 0).val).toNat = (i 1).val / 2048 := word_step m _
      match a with
      | ⟨0, _⟩ => show (0#32).toNat * 64 ≤ (i 0).val ∧ (i 0).val < (0#32).toNat * 64 + 64; simp; omega
      | ⟨1, _⟩ =>
        have q : (i 1).val / 2048 * 2048 ≤ (i 1).val ∧ (i 1).val < (i 1).val / 2048 * 2048 + 2048 := by omega
        rw [← w] at q
        exact q

/-- The pooled tile's columns are the slabs' lanes, window after window. -/
theorem pTile_apply (A : Vec Ideal S52x64x128 .f32) (d : Fin 64) (s : Fin 6656) :
    (pTile A (ix2 d s) : EReal) = A (ix3 ⟨s.val / 128, by omega⟩ d ⟨s.val % 128, by omega⟩) := by
  refine Eq.trans ?_ (slabAt_apply A ⟨s.val / 128, by omega⟩ d ⟨s.val % 128, by omega⟩)
  have e : inBlk (N := 6656) (ix2 d s) = ix2 d ⟨s.val % 128, by omega⟩ := funext fun a => by
    match a with
    | ⟨0, _⟩ => rfl
    | ⟨1, _⟩ => rfl
  show k0_pay2 (slabAt A (s.val / 128)) (inBlk (N := 6656) (ix2 d s)) = _
  rw [e]
  generalize slabAt A (s.val / 128) = P
  pointwise [k0_pay2]

/-- What the last step writes of the second result is the sums claimed. -/
theorem flushed_5 (c : Dev nD) (ho : Ordered (offs m c)) (hw : Sums.Finite (wts m c)) (t : Fin (cfg m).N)
    (hf : ((cfg m).win 5).flush t = true) :
    (dats m 0 c).flushed 5 t = (((cfg m).win 5).blk t).view.read (Elt Ideal) (poolOut m c) := by
  have ht := lt192 m t
  have h191 : t.val = 191 := by have := (flush_5 m t).mp hf; omega
  show ((cfg m).win 5).cut ((cfg m).grid.coords t) ((dats m 0 c).after 5 t) = _
  rw [after_5]
  refine funext fun (y : S64x6656.Idx) => ?_
  have h0 : (y 0).val < 64 := (y 0).isLt
  have h1 : (y 1).val < 6656 := (y 1).isLt
  obtain ⟨_, hs, _⟩ := st_inv m c ho hw t.val t.isLt
  refine Eq.trans (b := ((st m c t.val t.isLt).2 (ix3 ⟨(y 1).val / 128, by omega⟩ ⟨(y 0).val, h0⟩ ⟨(y 1).val % 128, by omega⟩) : EReal)) ?_ (Eq.symm (Eq.trans (View.read_apply ..) (Eq.symm ?_)))
  · exact pTile_apply _ ⟨(y 0).val, h0⟩ ⟨(y 1).val, h1⟩
  · rw [hs ⟨(y 1).val / 128, by omega⟩ ⟨(y 0).val, h0⟩ ⟨(y 1).val % 128, by omega⟩,
      show 2048 * (t.val + 1) = 393216 by omega]
    refine Eq.trans ?_ (cast_eq _ _).symm
    refine (poolOut_apply m c _ _ _ (Fin.ext ?_) ?_).symm
    · show (0#32).toNat * 64 + 1 * (y 0).val = (y 0).val; simp
    · show (0#32).toNat * 6656 + 1 * (y 1).val = 128 * ((y 1).val / 128) + (y 1).val % 128; simp; omega

/-- After all steps the second result is the sums claimed. -/
theorem final_5 (c : Dev nD) (ho : Ordered (offs m c)) (hw : Sums.Finite (wts m c)) :
    (dats m 0 c).arrAt 5 (cfg m).N = poolOut m c :=
  (dats m 0 c).arrAt_eq_of_cover 5 (poolOut m c) (fun t hf => flushed_5 m c ho hw t hf) fun (i : S64x6656.Idx) => by
    have h0 : (i 0).val < 64 := (i 0).isLt
    have h1 : (i 1).val < 6656 := (i 1).isLt
    have hN := N_eq m
    refine ⟨⟨191, by omega⟩, (flush_5 m _).mpr rfl, ?_⟩
    refine (congrArg (i ∈ ·) (View.set_slice_whole ..)).mpr ((Rect.mem_set_unit ..).mpr fun a => ?_)
    match a with
    | ⟨0, _⟩ => show (0#32).toNat * 64 ≤ (i 0).val ∧ (i 0).val < (0#32).toNat * 64 + 64; simp; omega
    | ⟨1, _⟩ => show (0#32).toNat * 6656 ≤ (i 1).val ∧ (i 1).val < (0#32).toNat * 6656 + 6656; simp; omega

/-- Every run of the kernel ends with the two results, the arguments unchanged. -/
theorem run_value (ho : ∀ c, Ordered (offs m c)) (hw : ∀ c, Sums.Finite (wts m c)) :
    θ_run defs (onTc (τ := τ) (main (F := Ideal))) ⟨m, fun _ => 0, ρ⟩ (fun r => ∀ c : Dev nD,
      r.2.mem ((c.tc : Thread nD τ).loc main_v11_0) = embOut m c
      ∧ r.2.mem ((c.tc : Thread nD τ).loc main_v11_1) = poolOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h.1 c).1 4).trans (final_4 m c), ((h.1 c).1 5).trans (final_5 m c (ho c) (hw c)),
       ((h.1 c).1 0).trans (((dats m 0 c).arrAt_in 0 rfl _).trans ((A_eq m c 0).trans (V_arg0 m c))),
       ((h.1 c).1 1).trans (((dats m 0 c).arrAt_in 1 rfl _).trans ((A_eq m c 1).trans (V_arg1 m c))),
       ((h.1 c).2 main_arg2 arg2_rest).trans (V_arg2 m c)⟩)
    (run_main m ρ)

end Cert.KernelIdeal.Hand

end
-- ==== Proof.Ref.Emb.lean ====
/-
  The reference's embeddings, entry by entry.
-/
module

public import proofs.«01_k».proof.Proof.Gen.ReferenceIdeal.Run
public import proofs.«01_k».proof.Proof.Lib.Sums
public import Idealize.ShloMosaic.Lib.Pointwise

@[expose] public section

set_option maxRecDepth 16384

noncomputable section

namespace Cert.ReferenceIdeal.Hand

open Cert.ReferenceIdeal Cert.ReferenceIdeal.Gen Cert.Sums
open Idealize.ShloMosaic

/-- A word shifted up to leave a byte on top and back down is the byte with its sign. -/
theorem byte_word (x : BitVec 32) (b : ℕ) (hb : b < 4) :
    ((x <<< (24 - 8 * b)).sshiftRight 24).toInt = (byteOf x b).toInt := by
  unfold byteOf
  rw [BitVec.toInt_sshiftRight, Int.shiftRight_eq_div_pow, BitVec.toInt_eq_toNat_cond, BitVec.toInt_eq_toNat_cond,
    BitVec.toNat_shiftLeft, BitVec.extractLsb'_toNat, Nat.shiftLeft_eq, Nat.shiftRight_eq_div_pow]
  have hx := x.isLt
  generalize x.toNat = X at hx ⊢
  have : b = 0 ∨ b = 1 ∨ b = 2 ∨ b = 3 := by omega
  rcases this with rfl | rfl | rfl | rfl
  all_goals
    norm_num
    split_ifs <;> omega

/-- The same as the reference writes the shift. -/
theorem byte_shift (x : BitVec 32) (b : ℕ) (hb : b < 4) :
    (IntOp.shrsi ArithUnit.host (IntOp.shli ArithUnit.host x
      (IntOp.addi (24#32) (IntOp.muli (4294967288#32) (BitVec.ofNat 32 b)))) 24#32).toInt = (byteOf x b).toInt := by
  have e : IntOp.addi (24#32) (IntOp.muli (4294967288#32) (BitVec.ofNat 32 b)) = BitVec.ofNat 32 (24 - 8 * b) :=
    (by decide : ∀ b : Fin 4, IntOp.addi (24#32) (IntOp.muli (4294967288#32) (BitVec.ofNat 32 b.val)) = BitVec.ofNat 32 (24 - 8 * b.val)) ⟨b, hb⟩
  rw [e, ← byte_word x b hb]
  unfold IntOp.shrsi IntOp.shli
  have e2 : (BitVec.ofNat 32 (24 - 8 * b)).toNat = 24 - 8 * b := by
    rw [BitVec.toNat_ofNat]; omega
  rw [if_pos (by decide : (24#32).toNat < 32), if_pos (by rw [e2]; omega)]
  rw [show x <<< BitVec.ofNat 32 (24 - 8 * b) = x <<< (24 - 8 * b) by rw [BitVec.shiftLeft_eq', e2]]
  rfl

/-- The codes' words: each packed word four times over, each time with another byte brought down. -/
def words (x : IVec S196608x128 32) : IVec S393216x4x64 32 :=
  shapeCast _ (transpose S1536x2x128x4x16x4 [0, 2, 1, 3, 4, 5] (Host.shrsi (Host.shli (broadcastInDim S1536x128x2x4x16x4 ![0, 1, 2, 3, 4, 5] bcast_S1536x128x2x4x16x1_S1536x128x2x4x16x4_0_1_2_3_4_5 (broadcastInDim S1536x128x2x4x16x1 ![0, 1, 2, 3, 4] bcast_S1536x128x2x4x16_S1536x128x2x4x16x1_0_1_2_3_4 (shapeCast S1536x128x2x4x16 x shapeCasts_S196608x128_S1536x128x2x4x16))) (broadcastInDim S1536x128x2x4x16x4 ![0, 1, 2, 3, 4, 5] bcast_S1x1x1x1x1x4_S1536x128x2x4x16x4_0_1_2_3_4_5 (broadcastInDim S1x1x1x1x1x4 ![5] bcast_S4_S1x1x1x1x1x4_5 (addi (broadcastInDim S4 ![] bcast_S_S4 (constantI S_ 32 24#32)) (muli (broadcastInDim S4 ![] bcast_S_S4 (constantI S_ 32 4294967288#32)) (iotaInDim S4 32 0)))))) (broadcastInDim S1536x128x2x4x16x4 ![] bcast_S_S1536x128x2x4x16x4 (constantI S_ 32 24#32))) transposes_S1536x128x2x4x16x4_S1536x2x128x4x16x4_0_2_1_3_4_5) shapeCasts_S1536x2x128x4x16x4_S393216x4x64

/-- The reference's code at a token, a hash and a lane. -/
theorem words_apply (x : IVec S196608x128 32) (t : Fin 393216) (h : Fin 4) (d : Fin 64) :
    (words x (ix3 t h d)).toInt = (code x t h d).toInt := by
  pointwise [words]
  exact byte_shift _ _ (Nat.mod_lt _ (by decide))

/-- The weights, token by token. -/
def wtok (w : Vec Ideal S12288x128 .f32) : Vec Ideal S393216x4 .f32 :=
  shapeCast _ (transpose S3072x128x4 [0, 2, 1] (shapeCast _ w shapeCasts_S12288x128_S3072x4x128) transposes_S3072x4x128_S3072x128x4_0_2_1) shapeCasts_S3072x128x4_S393216x4

/-- The reference's weight at a token and a hash. -/
theorem wtok_apply (w : Vec Ideal S12288x128 .f32) (t : Fin 393216) (h : Fin 4) : (wtok w (ix2 t h) : EReal) = wt w t h := by
  pointwise [wtok]
  rfl

/-- The embeddings, token by token. -/
def embeds (x : IVec S196608x128 32) (w : Vec Ideal S12288x128 .f32) : FVec Ideal S393216x64 .f32 :=
  Host.reduceAdd (mulf (sitofp (F := Ideal) .f32 (words x)) (broadcastInDim S393216x4x64 ![0, 1, 2] bcast_S393216x4x1_S393216x4x64_0_1_2 (broadcastInDim S393216x4x1 ![0, 1] bcast_S393216x4_S393216x4x1_0_1 (wtok w : FVec Ideal S393216x4 .f32)))) (constant S_ .f32 0x00000000#32) reducesTo_S393216x4x64_S393216x64_d1 h_S_

/-- The reference's embedding at a token and a lane. -/
theorem embeds_apply (x : IVec S196608x128 32) (w : Vec Ideal S12288x128 .f32) (t : Fin 393216) (d : Fin 64) :
    (embeds x w (ix2 t d) : EReal) = emb x w d t := by
  pointwise [embeds]
  unfold emb
  refine Finset.sum_congr rfl fun h _ => ?_
  rw [wtok_apply]
  show (((words x (ix3 t h d)).toInt : ℝ) : EReal) * _ = num (code x t h d) * _
  rw [words_apply]
  rfl

end Cert.ReferenceIdeal.Hand

end
-- ==== Proof.Lib.Lands.lean ====
/-
  Two scatters by one index word an update, read at an entry, at any sizes: counting (a vector of words, each update one
  more at its index) and summing rows (each update row added to the row its index names). And a sum of words as the word
  of a sum.
-/
module

public import Idealize.ShloMosaic.Lib.Routing.OpsOne
public import Idealize.ShloMosaic.Lib.Pointwise
public import Idealize.ShloMosaic.Lib.Pointwise.IndexBridge

@[expose] public section

namespace Cert.Lands

open Idealize.ShloMosaic Idealize.ShloMosaic.Routing

/-! ## Where an update lands -/

/-- Update `i` of a scatter of scalars into a vector lands at `x` exactly when its index word, read signed, is `x`. -/
theorem lands_vec {N M : Nat} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) :
    d.resultIdx? (ValueIdx.ix1 i) idx = some (ValueIdx.ix1 x) ↔ (idx (ValueIdx.ix2 i (0 : Fin 1))).toInt = (x.val : Int) := by
  have hm : (0 : Fin 1) ∈ d.scatterDimsToOperandDims := by rw [hsd]; exact List.mem_singleton.2 rfl
  have hwin : d.window (ValueIdx.ix1 i) 0 = 0 := by
    unfold ScatterDims.window
    rw [dif_neg fun h => (of_decide_eq_true (List.mem_filter.1 h).2) (by rw [hiw]; exact List.mem_singleton.2 rfl)]
  have hstart : d.start (ValueIdx.ix1 i) idx 0 = (idx (ValueIdx.ix2 i (0 : Fin 1))).toInt := by
    unfold ScatterDims.start
    rw [dif_pos hm]
    have hsi : d.siIdx (ValueIdx.ix1 i) ⟨d.scatterDimsToOperandDims.idxOf 0, List.idxOf_lt_length_iff.2 hm⟩ = ValueIdx.ix2 i (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        have e : ∀ X : Fin 1, (ValueIdx.ix1 i X).val = i.val := fun X => by
          obtain rfl : X = 0 := Subsingleton.elim _ _
          rfl
        exact e _
      | ⟨1, _⟩ =>
        unfold ScatterDims.siIdx
        rw [dif_pos (by rw [hivd])]
        show List.idxOf (0 : Fin 1) d.scatterDimsToOperandDims = 0
        rw [hsd]; simp
    rw [hsi]
  rw [resultIdx?_ix1, hstart, hwin]
  omega

/-- Update `(t, j)` of a scatter of rows into a matrix lands at `(s, l)` exactly when row `t`'s index word, read signed,
    is `s` and `j` is `l`. -/
theorem lands_row {A B M : Nat} (d : ScatterDims (shape2 A B) (shape2 M 1) (shape2 M B)) (huw : d.updateWindowDims = [1])
    (hiw : d.insertedWindowDims = [0]) (hsd : d.scatterDimsToOperandDims = [0]) (hivd : d.indexVectorDim = 1)
    (idx : IVec (shape2 M 1) 32) (t : Fin M) (j : Fin B) (s : Fin A) (l : Fin B) :
    d.resultIdx? (ValueIdx.ix2 t j) idx = some (ValueIdx.ix2 s l)
      ↔ (idx (ValueIdx.ix2 t (0 : Fin 1))).toInt = (s.val : Int) ∧ j = l := by
  have hm : (0 : Fin 2) ∈ d.scatterDimsToOperandDims := by rw [hsd]; exact List.mem_singleton.2 rfl
  have hkept : d.sKept = [1] := by
    show (shape2 A B).kept d.insertedWindowDims = _
    rw [hiw]
    rfl
  have e0 : ∀ X : Fin 2, X = 0 → (ValueIdx.ix2 t j X).val = t.val := fun X h => by subst h; rfl
  have e1 : ∀ X : Fin 2, X = 1 → (ValueIdx.ix2 t j X).val = j.val := fun X h => by subst h; rfl
  have hwin0 : d.window (ValueIdx.ix2 t j) 0 = 0 := by
    unfold ScatterDims.window
    rw [dif_neg fun h => (of_decide_eq_true (List.mem_filter.1 h).2) (by rw [hiw]; exact List.mem_singleton.2 rfl)]
  have hwin1 : d.window (ValueIdx.ix2 t j) 1 = j.val := by
    unfold ScatterDims.window
    rw [dif_pos (by rw [hkept]; exact List.mem_singleton.2 rfl)]
    refine e1 _ ?_
    have q : ∀ X ∈ d.updateWindowDims, X = (1 : Fin 2) := fun X h => by rw [huw] at h; exact List.mem_singleton.1 h
    exact q _ (List.getElem_mem _)
  have hstart1 : d.start (ValueIdx.ix2 t j) idx 1 = 0 := by
    unfold ScatterDims.start
    rw [dif_neg fun h => by rw [hsd] at h; exact absurd (List.mem_singleton.1 h) (by decide : (1 : Fin 2) ≠ 0)]
  have hstart0 : d.start (ValueIdx.ix2 t j) idx 0 = (idx (ValueIdx.ix2 t (0 : Fin 1))).toInt := by
    unfold ScatterDims.start
    rw [dif_pos hm]
    have hsi : d.siIdx (ValueIdx.ix2 t j) ⟨d.scatterDimsToOperandDims.idxOf 0, List.idxOf_lt_length_iff.2 hm⟩ = ValueIdx.ix2 t (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        refine e0 _ ?_
        have q : ∀ X ∈ d.uScatter, X = (0 : Fin 2) := fun X h => by
          have h' : X ∉ d.updateWindowDims := of_decide_eq_true (List.mem_filter.1 h).2
          rw [huw] at h'
          have h1 : X.val ≠ 1 := fun e => h' (List.mem_singleton.2 (Fin.ext e))
          have h2 : X.val < 2 := X.isLt
          exact Fin.ext (by show X.val = 0; omega)
        exact q _ (List.getElem_mem _)
      | ⟨1, _⟩ =>
        unfold ScatterDims.siIdx
        rw [dif_pos (by rw [hivd])]
        show List.idxOf (0 : Fin 2) d.scatterDimsToOperandDims = 0
        rw [hsd]; simp
    rw [hsi]
  rw [Fin.ext_iff, resultIdx?_ix2, hstart0, hwin0, hstart1, hwin1]
  omega

/-! ## Words of sums -/

/-- A sum of words is the word of the sum. -/
theorem sum_ofNat {ι : Type} (s : Finset ι) (f : ι → ℕ) : ∑ i ∈ s, BitVec.ofNat 32 (f i) = BitVec.ofNat 32 (∑ i ∈ s, f i) := by
  classical
  induction s using Finset.induction_on with
  | empty => rfl
  | insert a s ha ih => rw [Finset.sum_insert ha, Finset.sum_insert ha, ih, BitVec.ofNat_add]

/-- Adding one at each hit of a list. -/
theorem foldl_hits {ι : Type} (p : ι → Prop) [DecidablePred p] (L : List ι) (x : BitVec 32) :
    L.foldl (fun a n => if p n then IntOp.addi a 1#32 else a) x = x + (L.map fun n => BitVec.ofNat 32 (if p n then 1 else 0)).sum := by
  induction L generalizing x with
  | nil => simp
  | cons a L ih =>
    rw [List.foldl_cons, ih, List.map_cons, List.sum_cons]
    by_cases h : p a
    · simp only [if_pos h, IntOp.addi]
      exact add_assoc _ _ _
    · simp only [if_neg h]
      rw [show BitVec.ofNat 32 0 = 0 from rfl, zero_add]

/-! ## The scatters at an entry -/

/-- Ones scattered into zeros: entry `x` counts the updates whose index is `x`. -/
theorem scatter_count {N M : Nat} (d : ScatterDims (shape1 N) (shape2 M 1) (shape1 M)) (hiw : d.insertedWindowDims = [0])
    (hsd : d.scatterDimsToOperandDims = [0]) (hivd : d.indexVectorDim = 1) (x0 : IVec (shape1 N) 32) (hx0 : ∀ i, x0 i = 0#32)
    (idx : IVec (shape2 M 1) 32) (upd : IVec (shape1 M) 32) (hupd : ∀ i, upd i = 1#32) (x : Fin N) :
    Host.scatter d IntOp.addi x0 idx upd (ix1 x)
      = BitVec.ofNat 32 (∑ k : Fin M, if (idx (ix2 k (0 : Fin 1))).toInt = (x.val : Int) then 1 else 0) := by
  rw [scatter_at]
  simp only [hupd, hx0]
  rw [foldl_hits, ← Fin.sum_univ_def, sum_ofNat]
  rw [Equiv.sum_comp (shape1 M).rowMajor.symm fun j => if d.resultIdx? j idx = some (ix1 x) then 1 else 0, sum_idx1]
  refine (zero_add _).trans (congrArg (BitVec.ofNat 32) (Finset.sum_congr rfl fun k _ => if_congr ?_ rfl rfl))
  rw [ix1_eq_valueIdx, ix1_eq_valueIdx, ix2_eq_valueIdx]
  exact lands_vec d hiw hsd hivd idx k x

/-- Rows added into a matrix over the reals: entry `(s, l)` gains column `l` of the rows whose index is `s`. -/
theorem scatter_rows {A B M : Nat} (d : ScatterDims (shape2 A B) (shape2 M 1) (shape2 M B)) (huw : d.updateWindowDims = [1])
    (hiw : d.insertedWindowDims = [0]) (hsd : d.scatterDimsToOperandDims = [0]) (hivd : d.indexVectorDim = 1)
    (x0 : Vec Ideal (shape2 A B) .f32) (idx : IVec (shape2 M 1) 32) (upd : Vec Ideal (shape2 M B) .f32) (s : Fin A) (l : Fin B) :
    (Host.scatterAdd (F := Ideal) (φ := .f32) d x0 idx upd (ix2 s l) : EReal)
      = x0 (ix2 s l) + ∑ t : Fin M, if (idx (ix2 t (0 : Fin 1))).toInt = (s.val : Int) then upd (ix2 t l) else 0 := by
  show Ideal.hostScatterAdd d x0 idx upd (ix2 s l) = _
  unfold Ideal.hostScatterAdd
  rw [Finset.sum_filter, sum_idx2]
  refine congrArg _ (Finset.sum_congr rfl fun t _ => ?_)
  have h (j : Fin B) : (d.resultIdx? (ix2 t j) idx = some (ix2 s l)) ↔ (idx (ix2 t (0 : Fin 1))).toInt = (s.val : Int) ∧ j = l := by
    rw [ix2_eq_valueIdx, ix2_eq_valueIdx, ix2_eq_valueIdx]
    exact lands_row d huw hiw hsd hivd idx t j s l
  simp only [h]
  by_cases c : (idx (ix2 t (0 : Fin 1))).toInt = (s.val : Int)
  · simp only [c, true_and, Finset.sum_ite_eq', Finset.mem_univ, if_true]
  · simp only [c, false_and, if_false, Finset.sum_const_zero]

end Cert.Lands

end
-- ==== Proof.Ref.Pool.lean ====
/-
  The reference's bags: each token's bag as a running count of the bags already begun, and each bag's sum of embeddings.
-/
module

public import proofs.«01_k».proof.Proof.Ref.Emb
public import proofs.«01_k».proof.Proof.Lib.Lands

@[expose] public section

set_option maxRecDepth 16384

noncomputable section

namespace Cert.ReferenceIdeal.Hand

open Cert.ReferenceIdeal Cert.ReferenceIdeal.Gen Cert.Sums Cert.Lands
open Idealize.ShloMosaic

/-- Where bags 1 on begin, one index word each. -/
def begins (o : IVec S6656 32) : IVec S6655x1 32 :=
  broadcastInDim S6655x1 ![0] bcast_S6655_S6655x1_0 (select (cmpi .slt (extractStridedSlice S6655 ![1] o slices_S6656_S6655_1) (broadcastInDim S6655 ![] bcast_S_S6655 (constantI S_ 32 0#32))) (addi (extractStridedSlice S6655 ![1] o slices_S6656_S6655_1) (broadcastInDim S6655 ![] bcast_S_S6655 (constantI S_ 32 393216#32))) (extractStridedSlice S6655 ![1] o slices_S6656_S6655_1))

/-- With no offset negative, they are the offsets. -/
theorem begins_apply (o : IVec S6656 32) (ho : Ordered o) (k : Fin 6655) :
    begins o (ix2 k 0) = o (ix1 ⟨k.val + 1, by omega⟩) := by
  have h := ho.nonneg (k.val + 1) (by omega) (by omega)
  pointwise [begins]
  have e : (⟨1 + k.val, by omega⟩ : Fin 6656) = ⟨k.val + 1, by omega⟩ := Fin.ext (Nat.add_comm ..)
  rw [e]
  generalize o (ix1 ⟨k.val + 1, by omega⟩) = a at h ⊢
  have c : IntOp.cmpi CmpIPredicate.slt a 0#32 = 0#1 := by
    have : IntOp.cmpi CmpIPredicate.slt a 0#32 = BitVec.ofBool (decide (a.toInt < 0)) := by
      simp [IntOp.cmpi, BitVec.slt]
    rw [this, decide_eq_false (by omega)]
    rfl
  rw [c]
  rfl

/-- How many bags begin at each token. -/
def starts (o : IVec S6656 32) : IVec S393216 32 :=
  Host.scatter scatter_S393216_S6655x1_S6655_n_0_0_1 IntOp.addi (broadcastInDim S393216 ![] bcast_S_S393216 (constantI S_ 32 0#32)) (begins o) (broadcastInDim S6655 ![] bcast_S_S6655 (constantI S_ 32 1#32))

/-- At each token, how many bags begin there. -/
theorem starts_apply (o : IVec S6656 32) (ho : Ordered o) (x : Fin 393216) :
    starts o (ix1 x) = BitVec.ofNat 32 (∑ k : Fin 6655, if (o (ix1 ⟨k.val + 1, by omega⟩)).toInt = (x.val : ℤ) then 1 else 0) := by
  unfold starts
  refine (scatter_count scatter_S393216_S6655x1_S6655_n_0_0_1 rfl rfl rfl _ (fun _ => rfl) _ _ (fun _ => rfl) x).trans ?_
  simp only [begins_apply o ho]

/-- Each token's bag. -/
def seg (o : IVec S6656 32) : IVec S393216 32 :=
  Host.reduceWindow IntOp.addi ![393216] ![1] ![393215] ![0] (starts o) (broadcastInDim S_ ![] bcast_S_S_ (constantI S_ 32 0#32)) reduceWindows_S393216_S393216_w393216s1p393215_0 h_S_

/-- Summing over tokens up to `t` how many bags begin there counts the bags begun by `t`. -/
theorem count_upto (off : Offs) (ho : Ordered off) (t : Fin 393216) :
    (∑ i : Fin 393216, if i ≤ t then (∑ k : Fin 6655, if (off (ix1 ⟨k.val + 1, by omega⟩)).toInt = (i.val : ℤ) then 1 else 0) else 0)
      = bagOf off t.val := by
  unfold bagOf
  rw [Finset.card_filter]
  have e (i : Fin 393216) : (if i ≤ t then (∑ k : Fin 6655, if (off (ix1 ⟨k.val + 1, by omega⟩)).toInt = (i.val : ℤ) then 1 else 0) else 0)
      = ∑ k : Fin 6655, if i ≤ t then (if (off (ix1 ⟨k.val + 1, by omega⟩)).toInt = (i.val : ℤ) then 1 else 0) else 0 := by
    split
    · rfl
    · exact Finset.sum_const_zero.symm
  rw [Finset.sum_congr rfl fun i _ => e i, Finset.sum_comm]
  refine Finset.sum_congr rfl fun k _ => ?_
  have h := ho.nonneg (k.val + 1) (by omega) (by omega)
  generalize (off (ix1 ⟨k.val + 1, by omega⟩)).toInt = a at h ⊢
  by_cases c : a ≤ (t.val : ℤ)
  · rw [if_pos c]
    have ht := t.isLt
    rw [Finset.sum_eq_single (⟨a.toNat, by omega⟩ : Fin 393216)]
    · rw [if_pos (Fin.le_def.mpr (by simp only; omega)), if_pos (by simp only; omega)]
    · intro i _ hi
      split
      · exact if_neg fun q => hi (Fin.ext (by simp only; omega))
      · rfl
    · intro q; exact absurd (Finset.mem_univ _) q
  · rw [if_neg c]
    refine Finset.sum_eq_zero fun i _ => ?_
    split
    · next q => exact if_neg fun p => c (by have := Fin.le_def.mp q; omega)
    · rfl

/-- The running count at a token is its bag. -/
theorem seg_apply (o : IVec S6656 32) (ho : Ordered o) (t : Fin 393216) : seg o (ix1 t) = BitVec.ofNat 32 (bagOf o t.val) := by
  unfold seg
  rw [ix1_eq_valueIdx]
  refine (Routing.cumsum_vec (by decide) (starts o) _ rfl _ _ t).trans ?_
  rw [← count_upto o ho t, ← sum_ofNat]
  refine Finset.sum_congr rfl fun i _ => ?_
  rw [← ix1_eq_valueIdx, starts_apply o ho i]
  split <;> rfl

/-- Each bag's sum. -/
def pooled (x : IVec S196608x128 32) (w : Vec Ideal S12288x128 .f32) (o : IVec S6656 32) : FVec Ideal S6656x64 .f32 :=
  Host.scatterAdd scatter_S6656x64_S393216x1_S393216x64_1_0_0_1 (broadcastInDim S6656x64 ![] bcast_S_S6656x64 (constant S_ .f32 0x00000000#32)) (broadcastInDim S393216x1 ![0] bcast_S393216_S393216x1_0 (seg o)) (embeds x w)

/-- The reference's sum at a bag and a lane. -/
theorem pooled_apply (x : IVec S196608x128 32) (w : Vec Ideal S12288x128 .f32) (o : IVec S6656 32) (ho : Ordered o)
    (s : Fin 6656) (d : Fin 64) : (pooled x w o (ix2 s d) : EReal) = pool x w o 393216 d s.val := by
  unfold pooled
  refine (scatter_rows scatter_S6656x64_S393216x1_S393216x64_1_0_0_1 rfl rfl rfl rfl _ _ _ s d).trans ?_
  unfold Cert.Sums.pool
  rw [Finset.sum_range fun t => if inBag o s.val t then embN x w d t else 0]
  have z : (broadcastInDim S6656x64 ![] bcast_S_S6656x64 (constant (F := Ideal) S_ .f32 0x00000000#32) (ix2 s d) : EReal) = 0 := by
    pointwise
    try simp
  refine (congrArg₂ (· + ·) z (Finset.sum_congr rfl fun t _ => ?_)).trans (zero_add _)
  have hb : (broadcastInDim S393216x1 ![0] bcast_S393216_S393216x1_0 (seg o) (ix2 t 0)) = seg o (ix1 t) := by
    generalize seg o = q
    pointwise
  rw [hb, seg_apply o ho, embeds_apply]
  have hle : bagOf o t.val ≤ 6655 := (Finset.card_le_univ _).trans (le_of_eq (Fintype.card_fin _))
  have hi : (BitVec.ofNat 32 (bagOf o t.val)).toInt = (s.val : ℤ) ↔ inBag o s.val t.val := by
    rw [← bagOf_eq o ho t.val s.val t.isLt s.isLt, BitVec.toInt_eq_toNat_cond, BitVec.toNat_ofNat, Nat.mod_eq_of_lt (by omega),
      if_pos (by omega)]
    omega
  unfold embN
  rw [dif_pos t.isLt]
  exact if_congr hi rfl rfl

end Cert.ReferenceIdeal.Hand

end
-- ==== Proof.Ref.Value.lean ====
/-
  What the reference returns: each token's embedding and each bag's sum, with the tokens and the bags across.
-/
module

public import proofs.«01_k».proof.Proof.Ref.Pool
public import proofs.«01_k».proof.Proof.Gen.ReferenceIdeal.Run
public import Idealize.ShloMosaic.Lib.Quiescent

@[expose] public section

set_option maxRecDepth 16384

noncomputable section

namespace Cert.ReferenceIdeal.Hand

open Cert.ReferenceIdeal Cert.ReferenceIdeal.Gen Cert.Sums
open Idealize.ShloMosaic Idealize.ShloMosaic.TcCoe Idealize.SL.Sem Idealize.ShloMosaic.StableHlo

/-- The first result at a lane and a token. -/
theorem first_apply (x : Rows) (w : Weights) (d : Fin 64) (t : Fin 393216) :
    ((transpose S64x393216 [1, 0] (truncf .bf16 (embeds x w) bitsLt_bf16_f32)
      transposes_S393216x64_S64x393216_1_0 : FVec Ideal S64x393216 .bf16) (ix2 d t) : EReal) = emb x w d t := by
  rw [← embeds_apply]
  pointwise []

/-- The second result at a lane and a bag. -/
theorem second_apply (x : Rows) (w : Weights) (o : Offs) (ho : Ordered o) (d : Fin 64) (s : Fin 6656) :
    ((transpose S64x6656 [1, 0] (truncf .bf16 (pooled x w o) bitsLt_bf16_f32)
      transposes_S6656x64_S64x6656_1_0 : FVec Ideal S64x6656 .bf16) (ix2 d s) : EReal) = pool x w o 393216 d s.val := by
  rw [← pooled_apply x w o ho]
  pointwise []

variable (m : (ℓ : Loc nD τ sig) → Buf (Elt Ideal) ℓ) (ρ : Dev nD → PrngReg)

/-- With the bags in order the reference ends with every token's embedding and every bag's sum. -/
theorem run_value (ho : ∀ c : Dev nD, Ordered (m (c.tc.loc main_arg2))) :
    θ_run defs (onTc (τ := τ) (main (F := Ideal))) ⟨m, fun _ => 0, ρ⟩ fun r => ∀ c : Dev nD,
      r.2.mem ((c.tc : Thread nD τ).loc main_v38)
        = (fun (i : S64x393216.Idx) => emb (m (c.tc.loc main_arg0)) (m (c.tc.loc main_arg1)) (i 0) (i 1))
      ∧ r.2.mem ((c.tc : Thread nD τ).loc main_v40)
        = (fun (i : S64x6656.Idx) => pool (m (c.tc.loc main_arg0)) (m (c.tc.loc main_arg1)) (m (c.tc.loc main_arg2))
            393216 (i 0) (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, (h c).2.2⟩) (Value.run m ρ)
  · refine (h c).1.trans (funext fun (i : S64x393216.Idx) => ?_)
    have e : i = ix2 (i 0) (i 1) := by funext k; match k with | 0 => rfl | 1 => rfl
    refine (congrArg _ e).trans ?_
    exact first_apply (m (c.tc.loc main_arg0)) (m (c.tc.loc main_arg1)) (i 0) (i 1)
  · refine (h c).2.1.trans (funext fun (i : S64x6656.Idx) => ?_)
    have e : i = ix2 (i 0) (i 1) := by funext k; match k with | 0 => rfl | 1 => rfl
    refine (congrArg _ e).trans ?_
    exact second_apply (m (c.tc.loc main_arg0)) (m (c.tc.loc main_arg1)) (m (c.tc.loc main_arg2)) (ho c) (i 0) (i 1)

/-- The reference always runs, leaves its arguments alone, and ends with every counter at zero. -/
theorem frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2.2, sem_eq_zero_of_no_sems (by decide) _⟩) (Value.run m ρ)

end Cert.ReferenceIdeal.Hand

end
-- ==== Proof.Pre.lean ====
/-
  What the precondition says of the arguments: every weight is finite, and where the bags begin is in order.
-/
module

public import proofs.«01_k».proof.Pre_bags_in_order
public import proofs.«01_k».proof.Proof.Lib.Sums
public import Idealize.ShloMosaic.Lib.Pointwise

@[expose] public section

set_option maxRecDepth 16384

noncomputable section

namespace Cert.Pre_bags_in_order.Hand

open Cert.Pre_bags_in_order Cert.Sums
open Idealize.ShloMosaic

/-- The side conditions of the precondition's operations. -/
theorem facts : Facts where
  slices_S6656_S6655_1 := by decide
  bcast_S_S12288x128 := by decide
  bcast_S_S6655 := by decide
  slices_S6655_S6654_0 := by decide
  slices_S6655_S6654_1 := by decide

attribute [local instance] facts

variable (x : IVec S196608x128 32) (w : FVec Ideal S12288x128 .f32) (o : IVec S6656 32)

/-- A word comparison "at least" that reads 1 holds of the words as integers. -/
theorem sge_one (a b : BitVec 32) (h : IntOp.cmpi CmpIPredicate.sge a b = 1#1) : b.toInt ≤ a.toInt := by
  have : IntOp.cmpi CmpIPredicate.sge a b = BitVec.ofBool (decide (b.toInt ≤ a.toInt)) := by
    simp [IntOp.cmpi, BitVec.sle]
  rw [this] at h
  by_contra c
  rw [decide_eq_false c] at h
  exact absurd h (by decide)

/-- A word comparison "at most" that reads 1 holds of the words as integers. -/
theorem sle_one (a b : BitVec 32) (h : IntOp.cmpi CmpIPredicate.sle a b = 1#1) : a.toInt ≤ b.toInt := by
  have : IntOp.cmpi CmpIPredicate.sle a b = BitVec.ofBool (decide (a.toInt ≤ b.toInt)) := by
    simp [IntOp.cmpi, BitVec.sle]
  rw [this] at h
  by_contra c
  rw [decide_eq_false c] at h
  exact absurd h (by decide)

/-- The last two tests say the bags' first tokens are in order and not negative. -/
theorem ordered (h1 : (fn x w o).2.1 = fun _ => 1#1) (h2 : (fn x w o).2.2 = fun _ => 1#1) : Ordered o where
  nonneg k h hk := by
    have e := congrFun h1 (ix1 ⟨k - 1, by omega⟩)
    revert e
    pointwise [fn]
    intro e
    have a : (⟨1 + (k - 1), by omega⟩ : Fin 6656) = ⟨k, h⟩ := Fin.ext (show 1 + (k - 1) = k by omega)
    rw [a] at e
    exact sge_one _ _ e
  step k h hk := by
    have e := congrFun h2 (ix1 ⟨k - 1, by omega⟩)
    revert e
    pointwise [fn]
    intro e
    have a : (⟨1 + (k - 1), by omega⟩ : Fin 6656) = ⟨k, by omega⟩ := Fin.ext (show 1 + (k - 1) = k by omega)
    have b : (⟨1 + (1 + (k - 1)), by omega⟩ : Fin 6656) = ⟨k + 1, h⟩ :=
      Fin.ext (show 1 + (1 + (k - 1)) = k + 1 by omega)
    rw [a, b] at e
    exact sle_one _ _ e

/-- The first test says every weight is finite. -/
theorem finite (h0 : (fn x w o).1 = fun _ => 1#1) : Sums.Finite w := by
  intro j
  have e := congrFun h0 j
  have hj : j = ix2 (j 0) (j 1) := by funext k; match k with | 0 => rfl | 1 => rfl
  rw [hj] at e
  revert e
  pointwise [fn]
  intro e
  generalize w j = a at e ⊢
  have t : Ideal.ofBits FTy.f32 2139095040#32 = (⊤ : EReal) := by
    simp [Ideal.ofBits, Ideal.ieee]
  rw [t] at e
  change BitVec.ofBool (decide (max (a : EReal) (-a) < ⊤)) = 1#1 at e
  induction (a : EReal) using EReal.rec with
  | coe r => exact ⟨r, rfl⟩
  | bot => simp at e
  | top => simp at e

end Cert.Pre_bags_in_order.Hand

end
-- ==== Proof.Lib.Words.lean ====
/-
  The table of words: four codes a word, the lowest byte first, 16 words a bucket, eight buckets a row.
-/
module

public import Idealize.ShloMosaic.Lib.Pointwise

@[expose] public section

set_option maxRecDepth 16384

noncomputable section

namespace Cert.Words

open Idealize.ShloMosaic

/-- The codes, a column a bucket. -/
abbrev Codes := IVec ⟨2, ![64, 4194304]⟩ 8

/-- Four bytes as a word, the lowest first. -/
def pack (b : Fin 4 → BitVec 8) : BitVec 32 := BitVec.ofNat 32 ((b 0).toNat + 256 * (b 1).toNat + 65536 * (b 2).toNat + 16777216 * (b 3).toNat)

/-- Word `r` of a bucket. -/
def wordOf (x : Codes) (r : Fin 16) (b : Fin 4194304) : BitVec 32 :=
  pack fun k => x (ix2 ⟨4 * r.val + k.val, by omega⟩ b)

/-- The table at a row and a column. -/
def tableOf (x : Codes) (i : Fin 524288) (j : Fin 128) : BitVec 32 :=
  wordOf x ⟨j.val % 16, by omega⟩ ⟨i.val / 128 * 1024 + j.val / 16 * 128 + i.val % 128, by omega⟩

/-- Bit `q` of a packed word is bit `q % 8` of byte `q / 8`. -/
theorem pack_bit (b : Fin 4 → BitVec 8) (q : ℕ) (hq : q < 32) :
    (pack b).getLsbD q = (b ⟨q / 8, by omega⟩).getLsbD (q % 8) := by
  have h0 := (b 0).isLt
  have h1 := (b 1).isLt
  have h2 := (b 2).isLt
  have h3 := (b 3).isLt
  have hv : (pack b).toNat = (b 0).toNat + 256 * (b 1).toNat + 65536 * (b 2).toNat + 16777216 * (b 3).toNat := by
    unfold pack
    rw [BitVec.toNat_ofNat]
    exact Nat.mod_eq_of_lt (by omega)
  have e : ∀ k : Fin 4, (b k).toNat = (pack b).toNat / 2 ^ (8 * k.val) % 256 := by
    intro k
    rw [hv]
    match k with
    | 0 => norm_num; omega
    | 1 => norm_num; omega
    | 2 => norm_num; omega
    | 3 => norm_num; omega
  have e' := e ⟨q / 8, by omega⟩
  rw [← BitVec.testBit_toNat, ← BitVec.testBit_toNat, e', show 256 = 2 ^ 8 from rfl, Nat.testBit_mod_two_pow,
    Nat.testBit_div_two_pow]
  simp only [show q % 8 < 8 from Nat.mod_lt _ (by decide), decide_true, Bool.true_and]
  congr 1
  omega

/-- A code widened with its sign and masked to a byte is its byte. -/
theorem byte_masked (a : BitVec 8) : (IntOp.andi (BitVec.signExtend 32 a) 255#32).toNat = a.toNat := by
  unfold IntOp.andi
  rw [BitVec.toNat_and]
  have : (255#32).toNat = 2 ^ 8 - 1 := rfl
  rw [this, Nat.and_two_pow_sub_one_eq_mod, BitVec.toNat_signExtend]
  have := a.isLt
  split_ifs
  · rw [BitVec.toNat_setWidth]; norm_num; omega
  · rw [BitVec.toNat_setWidth]; norm_num; omega

/-- The same moved up to its place. -/
theorem byte_placed (a : BitVec 8) (k : Fin 4) :
    (IntOp.shli ArithUnit.host (IntOp.andi (BitVec.signExtend 32 a) 255#32)
      (IntOp.addi (0#32) (IntOp.muli (8#32) (BitVec.ofNat 32 k.val)))).toNat = 2 ^ (8 * k.val) * a.toNat := by
  have e : IntOp.addi (0#32) (IntOp.muli (8#32) (BitVec.ofNat 32 k.val)) = BitVec.ofNat 32 (8 * k.val) :=
    (by decide : ∀ k : Fin 4, IntOp.addi (0#32) (IntOp.muli (8#32) (BitVec.ofNat 32 k.val)) = BitVec.ofNat 32 (8 * k.val)) k
  have e2 : (BitVec.ofNat 32 (8 * k.val)).toNat = 8 * k.val := by
    rw [BitVec.toNat_ofNat]; omega
  rw [e]
  unfold IntOp.shli
  rw [if_pos (by rw [e2]; omega), BitVec.shiftLeft_eq', e2, BitVec.toNat_shiftLeft, byte_masked, Nat.shiftLeft_eq]
  have := a.isLt
  match k with
  | 0 => norm_num; omega
  | 1 => norm_num; omega
  | 2 => norm_num; omega
  | 3 => norm_num; omega

/-- Four placed bytes sum to the packed word. -/
theorem sum_placed (b : Fin 4 → BitVec 8) (p : Fin 4 → BitVec 32)
    (h : ∀ k : Fin 4, (p k).toNat = 2 ^ (8 * k.val) * (b k).toNat) :
    Finset.fold IntOp.addi (0#32) p Finset.univ = pack b := by
  have : Finset.fold IntOp.addi (0#32) p Finset.univ = ((p 3 + 0#32) + p 2 + p 1 + p 0 : BitVec 32) := by
    rw [show (Finset.univ : Finset (Fin 4)) = {0, 1, 2, 3} by decide]
    rw [Finset.fold_insert (by decide), Finset.fold_insert (by decide), Finset.fold_insert (by decide), Finset.fold_singleton]
    unfold IntOp.addi
    ac_rfl
  rw [this]
  apply BitVec.eq_of_toNat_eq
  have h0 := h 0
  have h1 := h 1
  have h2 := h 2
  have h3 := h 3
  norm_num at h0 h1 h2 h3
  unfold pack
  rw [BitVec.toNat_add, BitVec.toNat_add, BitVec.toNat_add, BitVec.toNat_add, BitVec.toNat_ofNat, BitVec.toNat_ofNat]
  omega

end Cert.Words

end
-- ==== Proof.KT.Table.lean ====
/-
  What one step of the relayout writes: its buckets' words, eight buckets a row.
-/
module

public import proofs.«01_k».proof.Proof.Gen.RelayoutIdeal.Value
public import proofs.«01_k».proof.Proof.Lib.Words
public import Idealize.ShloMosaic.Lib.BitcastPair

@[expose] public section

set_option maxRecDepth 16384

noncomputable section

namespace Cert.RelayoutIdeal.Hand

open Cert.RelayoutIdeal Cert.RelayoutIdeal.Gen Cert.Words
open Idealize.ShloMosaic Idealize.ShloMosaic.TcCoe Idealize.SL.Sem

/-- Eight runs of 128 buckets from column `o` on, stacked and turned: row `l` holds bucket `o + l` and every 128th one
    after it, 16 words each. -/
theorem stack_apply (v : IVec S16x16384 32) (o0 o1 o2 o3 o4 o5 o6 o7 : ℕ)
    (h0 : S16x16384.Slices ![0, o0] S16x128) (h1 : S16x16384.Slices ![0, o1] S16x128)
    (h2 : S16x16384.Slices ![0, o2] S16x128) (h3 : S16x16384.Slices ![0, o3] S16x128)
    (h4 : S16x16384.Slices ![0, o4] S16x128) (h5 : S16x16384.Slices ![0, o5] S16x128)
    (h6 : S16x16384.Slices ![0, o6] S16x128) (h7 : S16x16384.Slices ![0, o7] S16x128)
    (e1 : o1 = o0 + 128) (e2 : o2 = o0 + 256) (e3 : o3 = o0 + 384) (e4 : o4 = o0 + 512) (e5 : o5 = o0 + 640)
    (e6 : o6 = o0 + 768) (e7 : o7 = o0 + 896) (hb : o0 + 1024 ≤ 16384) (l j : Fin 128) :
    transpose S128x128 [1, 0] (concatenate S128x128 0 [⟨S16x128, extractStridedSlice S16x128 ![0, o0] v h0⟩,
      ⟨S16x128, extractStridedSlice S16x128 ![0, o1] v h1⟩, ⟨S16x128, extractStridedSlice S16x128 ![0, o2] v h2⟩,
      ⟨S16x128, extractStridedSlice S16x128 ![0, o3] v h3⟩, ⟨S16x128, extractStridedSlice S16x128 ![0, o4] v h4⟩,
      ⟨S16x128, extractStridedSlice S16x128 ![0, o5] v h5⟩, ⟨S16x128, extractStridedSlice S16x128 ![0, o6] v h6⟩,
      ⟨S16x128, extractStridedSlice S16x128 ![0, o7] v h7⟩]
      concatenates_S16x128_S16x128_S16x128_S16x128_S16x128_S16x128_S16x128_S16x128_S128x128_d0)
      transposes_S128x128_p1_0_S128x128 (ix2 l j)
      = v (ix2 ⟨j.val % 16, by omega⟩ ⟨o0 + 128 * (j.val / 16) + l.val, by omega⟩) := by
  pointwise []
  have hj := j.isLt
  have key : ∀ (r r' : Fin 16) (b b' : Fin 16384), r.val = r'.val → b.val = b'.val → v (ix2 r b) = v (ix2 r' b') := by
    intro r r' b b' hr hb
    rw [Fin.ext hr, Fin.ext hb]
  split_ifs
  all_goals
    refine key _ _ _ _ ?_ ?_
    · simp only; omega
    · simp only; omega

/-- The columns of codes, four rows a word: bit for bit the packed words. -/
theorem words_apply (x : Vec Ideal S64x16384 .i8) (r : Fin 16) (b : Fin 16384) :
    k0_pay5 (F := Ideal) x (ix2 r b) = pack fun k => x (ix2 ⟨4 * r.val + k.val, by omega⟩ b) := by
  unfold k0_pay5
  apply BitVec.eq_of_getLsbD_eq
  intro q hq
  rw [bitcast_getLsbD _ bitcasts_S64x16384_w8_S16x16384_w32 _ q hq (by decide), pack_bit _ _ hq]
  have hrow : S16x16384.row (ix2 r b) = r.val := rfl
  have e : bitcasts_S64x16384_w8_S16x16384_w32.srcIdx (ix2 r b) ((S16x16384.row (ix2 r b) * 32 + q) / 8)
      (fun a ha => (Nat.div_lt_iff_lt_mul (by decide)).2 (bitcasts_S64x16384_w8_S16x16384_w32.pos_lt (ix2 r b) q hq a ha))
      = ix2 (⟨4 * r.val + q / 8, by omega⟩ : Fin 64) b := by
    funext a
    apply Fin.ext
    match a with
    | ⟨0, _⟩ =>
      refine (bitcasts_S64x16384_w8_S16x16384_w32.srcIdx_row _ _ _ ⟨0, Nat.zero_lt_two⟩ rfl).trans ?_
      rw [hrow]; show (r.val * 32 + q) / 8 = 4 * r.val + q / 8; omega
    | ⟨1, _⟩ => exact bitcasts_S64x16384_w8_S16x16384_w32.srcIdx_other _ _ _ ⟨1, Nat.one_lt_two⟩ (by show ¬ 1 + 2 = 2; omega)
  rw [e, hrow]
  congr 1
  omega

/-- One step's block: at a row and a column, the word of the bucket there. -/
def block (x : Vec Ideal S64x16384 .i8) (y : S2048x128.Idx) : BitVec 32 :=
  pack fun k => x (ix2 ⟨4 * ((y 1).val % 16) + k.val, by omega⟩
    ⟨(y 0).val / 128 * 1024 + (y 1).val / 16 * 128 + (y 0).val % 128, by
      have h0 : (y 0).val < 2048 := (y 0).isLt
      have h1 : (y 1).val < 128 := (y 1).isLt
      omega⟩)

/-- The `g`-th stack of a step is the `g`-th 128 rows of its block. -/
theorem piece (x : Vec Ideal S64x16384 .i8) (g : ℕ) (hg : g < 16) (o0 o1 o2 o3 o4 o5 o6 o7 : ℕ)
    (h0 : S16x16384.Slices ![0, o0] S16x128) (h1 : S16x16384.Slices ![0, o1] S16x128)
    (h2 : S16x16384.Slices ![0, o2] S16x128) (h3 : S16x16384.Slices ![0, o3] S16x128)
    (h4 : S16x16384.Slices ![0, o4] S16x128) (h5 : S16x16384.Slices ![0, o5] S16x128)
    (h6 : S16x16384.Slices ![0, o6] S16x128) (h7 : S16x16384.Slices ![0, o7] S16x128)
    (e0 : o0 = 1024 * g) (e1 : o1 = o0 + 128) (e2 : o2 = o0 + 256) (e3 : o3 = o0 + 384) (e4 : o4 = o0 + 512)
    (e5 : o5 = o0 + 640) (e6 : o6 = o0 + 768) (e7 : o7 = o0 + 896) (l j : Fin 128) (y : S2048x128.Idx)
    (hy0 : (y 0).val = 128 * g + l.val) (hy1 : (y 1).val = j.val) :
    transpose S128x128 [1, 0] (concatenate S128x128 0 [⟨S16x128, extractStridedSlice S16x128 ![0, o0] (k0_pay28 (F := Ideal) x) h0⟩,
      ⟨S16x128, extractStridedSlice S16x128 ![0, o1] (k0_pay28 (F := Ideal) x) h1⟩,
      ⟨S16x128, extractStridedSlice S16x128 ![0, o2] (k0_pay28 (F := Ideal) x) h2⟩,
      ⟨S16x128, extractStridedSlice S16x128 ![0, o3] (k0_pay28 (F := Ideal) x) h3⟩,
      ⟨S16x128, extractStridedSlice S16x128 ![0, o4] (k0_pay28 (F := Ideal) x) h4⟩,
      ⟨S16x128, extractStridedSlice S16x128 ![0, o5] (k0_pay28 (F := Ideal) x) h5⟩,
      ⟨S16x128, extractStridedSlice S16x128 ![0, o6] (k0_pay28 (F := Ideal) x) h6⟩,
      ⟨S16x128, extractStridedSlice S16x128 ![0, o7] (k0_pay28 (F := Ideal) x) h7⟩]
      concatenates_S16x128_S16x128_S16x128_S16x128_S16x128_S16x128_S16x128_S16x128_S128x128_d0)
      transposes_S128x128_p1_0_S128x128 (ix2 l j) = block x y := by
  have hj := j.isLt
  rw [stack_apply (k0_pay28 (F := Ideal) x) o0 o1 o2 o3 o4 o5 o6 o7 h0 h1 h2 h3 h4 h5 h6 h7 e1 e2 e3 e4 e5 e6 e7 (by omega) l j]
  have ld : View.ld x r0_0 = x := View.ld_unit_zero (S := S64x16384) (funext fun a => match a with | 0 => rfl | 1 => rfl) _ _
  unfold k0_pay28
  rw [ld, words_apply]
  unfold block
  refine congrArg pack (funext fun k => congrArg x (congrArg₂ ix2 (Fin.ext ?_) (Fin.ext ?_)))
  · simp only; omega
  · simp only; omega

/-- The block a step writes. -/
theorem out_apply (x : Vec Ideal S64x16384 .i8) (y : S2048x128.Idx) : out0_1 (F := Ideal) x y = block x y := by
  unfold out0_1
  refine View.canon_apply_of_pieces (block x) _ ?_ y (cover0_1 (F := Ideal) _ _ _ _ _ _ _ _ _ _ _ _ _ _ _ _ y)
  have eta : ∀ z : S128x128.Idx, z = ix2 (z 0) (z 1) := fun z => funext fun k => match k with | 0 => rfl | 1 => rfl
  refine List.forall_mem_cons.2 ⟨fun (z : S128x128.Idx) => (congrArg _ (eta z)).trans (piece x 15 (by decide) 15360 15488 15616 15744 15872 16000 16128 16256
    slices_S16x16384_o0_15360_S16x128 slices_S16x16384_o0_15488_S16x128 slices_S16x16384_o0_15616_S16x128 slices_S16x16384_o0_15744_S16x128
    slices_S16x16384_o0_15872_S16x128 slices_S16x16384_o0_16000_S16x128 slices_S16x16384_o0_16128_S16x128 slices_S16x16384_o0_16256_S16x128
    rfl rfl rfl rfl rfl rfl rfl rfl (z 0) (z 1) _ (by show 1920 + 1 * (z 0).val = 128 * 15 + (z 0).val; omega)
    (by show 0 + 1 * (z 1).val = (z 1).val; omega)), ?_⟩
  refine List.forall_mem_cons.2 ⟨fun (z : S128x128.Idx) => (congrArg _ (eta z)).trans (piece x 14 (by decide) 14336 14464 14592 14720 14848 14976 15104 15232
    slices_S16x16384_o0_14336_S16x128 slices_S16x16384_o0_14464_S16x128 slices_S16x16384_o0_14592_S16x128 slices_S16x16384_o0_14720_S16x128
    slices_S16x16384_o0_14848_S16x128 slices_S16x16384_o0_14976_S16x128 slices_S16x16384_o0_15104_S16x128 slices_S16x16384_o0_15232_S16x128
    rfl rfl rfl rfl rfl rfl rfl rfl (z 0) (z 1) _ (by show 1792 + 1 * (z 0).val = 128 * 14 + (z 0).val; omega)
    (by show 0 + 1 * (z 1).val = (z 1).val; omega)), ?_⟩
  refine List.forall_mem_cons.2 ⟨fun (z : S128x128.Idx) => (congrArg _ (eta z)).trans (piece x 13 (by decide) 13312 13440 13568 13696 13824 13952 14080 14208
    slices_S16x16384_o0_13312_S16x128 slices_S16x16384_o0_13440_S16x128 slices_S16x16384_o0_13568_S16x128 slices_S16x16384_o0_13696_S16x128
    slices_S16x16384_o0_13824_S16x128 slices_S16x16384_o0_13952_S16x128 slices_S16x16384_o0_14080_S16x128 slices_S16x16384_o0_14208_S16x128
    rfl rfl rfl rfl rfl rfl rfl rfl (z 0) (z 1) _ (by show 1664 + 1 * (z 0).val = 128 * 13 + (z 0).val; omega)
    (by show 0 + 1 * (z 1).val = (z 1).val; omega)), ?_⟩
  refine List.forall_mem_cons.2 ⟨fun (z : S128x128.Idx) => (congrArg _ (eta z)).trans (piece x 12 (by decide) 12288 12416 12544 12672 12800 12928 13056 13184
    slices_S16x16384_o0_12288_S16x128 slices_S16x16384_o0_12416_S16x128 slices_S16x16384_o0_12544_S16x128 slices_S16x16384_o0_12672_S16x128
    slices_S16x16384_o0_12800_S16x128 slices_S16x16384_o0_12928_S16x128 slices_S16x16384_o0_13056_S16x128 slices_S16x16384_o0_13184_S16x128
    rfl rfl rfl rfl rfl rfl rfl rfl (z 0) (z 1) _ (by show 1536 + 1 * (z 0).val = 128 * 12 + (z 0).val; omega)
    (by show 0 + 1 * (z 1).val = (z 1).val; omega)), ?_⟩
  refine List.forall_mem_cons.2 ⟨fun (z : S128x128.Idx) => (congrArg _ (eta z)).trans (piece x 11 (by decide) 11264 11392 11520 11648 11776 11904 12032 12160
    slices_S16x16384_o0_11264_S16x128 slices_S16x16384_o0_11392_S16x128 slices_S16x16384_o0_11520_S16x128 slices_S16x16384_o0_11648_S16x128
    slices_S16x16384_o0_11776_S16x128 slices_S16x16384_o0_11904_S16x128 slices_S16x16384_o0_12032_S16x128 slices_S16x16384_o0_12160_S16x128
    rfl rfl rfl rfl rfl rfl rfl rfl (z 0) (z 1) _ (by show 1408 + 1 * (z 0).val = 128 * 11 + (z 0).val; omega)
    (by show 0 + 1 * (z 1).val = (z 1).val; omega)), ?_⟩
  refine List.forall_mem_cons.2 ⟨fun (z : S128x128.Idx) => (congrArg _ (eta z)).trans (piece x 10 (by decide) 10240 10368 10496 10624 10752 10880 11008 11136
    slices_S16x16384_o0_10240_S16x128 slices_S16x16384_o0_10368_S16x128 slices_S16x16384_o0_10496_S16x128 slices_S16x16384_o0_10624_S16x128
    slices_S16x16384_o0_10752_S16x128 slices_S16x16384_o0_10880_S16x128 slices_S16x16384_o0_11008_S16x128 slices_S16x16384_o0_11136_S16x128
    rfl rfl rfl rfl rfl rfl rfl rfl (z 0) (z 1) _ (by show 1280 + 1 * (z 0).val = 128 * 10 + (z 0).val; omega)
    (by show 0 + 1 * (z 1).val = (z 1).val; omega)), ?_⟩
  refine List.forall_mem_cons.2 ⟨fun (z : S128x128.Idx) => (congrArg _ (eta z)).trans (piece x 9 (by decide) 9216 9344 9472 9600 9728 9856 9984 10112
    slices_S16x16384_o0_9216_S16x128 slices_S16x16384_o0_9344_S16x128 slices_S16x16384_o0_9472_S16x128 slices_S16x16384_o0_9600_S16x128
    slices_S16x16384_o0_9728_S16x128 slices_S16x16384_o0_9856_S16x128 slices_S16x16384_o0_9984_S16x128 slices_S16x16384_o0_10112_S16x128
    rfl rfl rfl rfl rfl rfl rfl rfl (z 0) (z 1) _ (by show 1152 + 1 * (z 0).val = 128 * 9 + (z 0).val; omega)
    (by show 0 + 1 * (z 1).val = (z 1).val; omega)), ?_⟩
  refine List.forall_mem_cons.2 ⟨fun (z : S128x128.Idx) => (congrArg _ (eta z)).trans (piece x 8 (by decide) 8192 8320 8448 8576 8704 8832 8960 9088
    slices_S16x16384_o0_8192_S16x128 slices_S16x16384_o0_8320_S16x128 slices_S16x16384_o0_8448_S16x128 slices_S16x16384_o0_8576_S16x128
    slices_S16x16384_o0_8704_S16x128 slices_S16x16384_o0_8832_S16x128 slices_S16x16384_o0_8960_S16x128 slices_S16x16384_o0_9088_S16x128
    rfl rfl rfl rfl rfl rfl rfl rfl (z 0) (z 1) _ (by show 1024 + 1 * (z 0).val = 128 * 8 + (z 0).val; omega)
    (by show 0 + 1 * (z 1).val = (z 1).val; omega)), ?_⟩
  refine List.forall_mem_cons.2 ⟨fun (z : S128x128.Idx) => (congrArg _ (eta z)).trans (piece x 7 (by decide) 7168 7296 7424 7552 7680 7808 7936 8064
    slices_S16x16384_o0_7168_S16x128 slices_S16x16384_o0_7296_S16x128 slices_S16x16384_o0_7424_S16x128 slices_S16x16384_o0_7552_S16x128
    slices_S16x16384_o0_7680_S16x128 slices_S16x16384_o0_7808_S16x128 slices_S16x16384_o0_7936_S16x128 slices_S16x16384_o0_8064_S16x128
    rfl rfl rfl rfl rfl rfl rfl rfl (z 0) (z 1) _ (by show 896 + 1 * (z 0).val = 128 * 7 + (z 0).val; omega)
    (by show 0 + 1 * (z 1).val = (z 1).val; omega)), ?_⟩
  refine List.forall_mem_cons.2 ⟨fun (z : S128x128.Idx) => (congrArg _ (eta z)).trans (piece x 6 (by decide) 6144 6272 6400 6528 6656 6784 6912 7040
    slices_S16x16384_o0_6144_S16x128 slices_S16x16384_o0_6272_S16x128 slices_S16x16384_o0_6400_S16x128 slices_S16x16384_o0_6528_S16x128
    slices_S16x16384_o0_6656_S16x128 slices_S16x16384_o0_6784_S16x128 slices_S16x16384_o0_6912_S16x128 slices_S16x16384_o0_7040_S16x128
    rfl rfl rfl rfl rfl rfl rfl rfl (z 0) (z 1) _ (by show 768 + 1 * (z 0).val = 128 * 6 + (z 0).val; omega)
    (by show 0 + 1 * (z 1).val = (z 1).val; omega)), ?_⟩
  refine List.forall_mem_cons.2 ⟨fun (z : S128x128.Idx) => (congrArg _ (eta z)).trans (piece x 5 (by decide) 5120 5248 5376 5504 5632 5760 5888 6016
    slices_S16x16384_o0_5120_S16x128 slices_S16x16384_o0_5248_S16x128 slices_S16x16384_o0_5376_S16x128 slices_S16x16384_o0_5504_S16x128
    slices_S16x16384_o0_5632_S16x128 slices_S16x16384_o0_5760_S16x128 slices_S16x16384_o0_5888_S16x128 slices_S16x16384_o0_6016_S16x128
    rfl rfl rfl rfl rfl rfl rfl rfl (z 0) (z 1) _ (by show 640 + 1 * (z 0).val = 128 * 5 + (z 0).val; omega)
    (by show 0 + 1 * (z 1).val = (z 1).val; omega)), ?_⟩
  refine List.forall_mem_cons.2 ⟨fun (z : S128x128.Idx) => (congrArg _ (eta z)).trans (piece x 4 (by decide) 4096 4224 4352 4480 4608 4736 4864 4992
    slices_S16x16384_o0_4096_S16x128 slices_S16x16384_o0_4224_S16x128 slices_S16x16384_o0_4352_S16x128 slices_S16x16384_o0_4480_S16x128
    slices_S16x16384_o0_4608_S16x128 slices_S16x16384_o0_4736_S16x128 slices_S16x16384_o0_4864_S16x128 slices_S16x16384_o0_4992_S16x128
    rfl rfl rfl rfl rfl rfl rfl rfl (z 0) (z 1) _ (by show 512 + 1 * (z 0).val = 128 * 4 + (z 0).val; omega)
    (by show 0 + 1 * (z 1).val = (z 1).val; omega)), ?_⟩
  refine List.forall_mem_cons.2 ⟨fun (z : S128x128.Idx) => (congrArg _ (eta z)).trans (piece x 3 (by decide) 3072 3200 3328 3456 3584 3712 3840 3968
    slices_S16x16384_o0_3072_S16x128 slices_S16x16384_o0_3200_S16x128 slices_S16x16384_o0_3328_S16x128 slices_S16x16384_o0_3456_S16x128
    slices_S16x16384_o0_3584_S16x128 slices_S16x16384_o0_3712_S16x128 slices_S16x16384_o0_3840_S16x128 slices_S16x16384_o0_3968_S16x128
    rfl rfl rfl rfl rfl rfl rfl rfl (z 0) (z 1) _ (by show 384 + 1 * (z 0).val = 128 * 3 + (z 0).val; omega)
    (by show 0 + 1 * (z 1).val = (z 1).val; omega)), ?_⟩
  refine List.forall_mem_cons.2 ⟨fun (z : S128x128.Idx) => (congrArg _ (eta z)).trans (piece x 2 (by decide) 2048 2176 2304 2432 2560 2688 2816 2944
    slices_S16x16384_o0_2048_S16x128 slices_S16x16384_o0_2176_S16x128 slices_S16x16384_o0_2304_S16x128 slices_S16x16384_o0_2432_S16x128
    slices_S16x16384_o0_2560_S16x128 slices_S16x16384_o0_2688_S16x128 slices_S16x16384_o0_2816_S16x128 slices_S16x16384_o0_2944_S16x128
    rfl rfl rfl rfl rfl rfl rfl rfl (z 0) (z 1) _ (by show 256 + 1 * (z 0).val = 128 * 2 + (z 0).val; omega)
    (by show 0 + 1 * (z 1).val = (z 1).val; omega)), ?_⟩
  refine List.forall_mem_cons.2 ⟨fun (z : S128x128.Idx) => (congrArg _ (eta z)).trans (piece x 1 (by decide) 1024 1152 1280 1408 1536 1664 1792 1920
    slices_S16x16384_o0_1024_S16x128 slices_S16x16384_o0_1152_S16x128 slices_S16x16384_o0_1280_S16x128 slices_S16x16384_o0_1408_S16x128
    slices_S16x16384_o0_1536_S16x128 slices_S16x16384_o0_1664_S16x128 slices_S16x16384_o0_1792_S16x128 slices_S16x16384_o0_1920_S16x128
    rfl rfl rfl rfl rfl rfl rfl rfl (z 0) (z 1) _ (by show 128 + 1 * (z 0).val = 128 * 1 + (z 0).val; omega)
    (by show 0 + 1 * (z 1).val = (z 1).val; omega)), ?_⟩
  refine List.forall_mem_cons.2 ⟨fun (z : S128x128.Idx) => (congrArg _ (eta z)).trans (piece x 0 (by decide) 0 128 256 384 512 640 768 896
    slices_S16x16384_o0_0_S16x128 slices_S16x16384_o0_128_S16x128 slices_S16x16384_o0_256_S16x128 slices_S16x16384_o0_384_S16x128
    slices_S16x16384_o0_512_S16x128 slices_S16x16384_o0_640_S16x128 slices_S16x16384_o0_768_S16x128 slices_S16x16384_o0_896_S16x128
    rfl rfl rfl rfl rfl rfl rfl rfl (z 0) (z 1) _ (by show 0 + 1 * (z 0).val = 128 * 0 + (z 0).val; omega)
    (by show 0 + 1 * (z 1).val = (z 1).val; omega)), ?_⟩
  intro p hp
  exact absurd hp List.not_mem_nil

end Cert.RelayoutIdeal.Hand

end
-- ==== Proof.KT.Value.lean ====
/-
  The relayout's result: the table of packed words.
-/
module

public import proofs.«01_k».proof.Proof.KT.Table

@[expose] public section

set_option maxRecDepth 16384

noncomputable section

namespace Cert.RelayoutIdeal.Hand

open Cert.RelayoutIdeal Cert.RelayoutIdeal.Gen Cert.Words
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The codes. -/
abbrev codes (c : Dev nD) : Codes := m (c.tc.loc main_arg0)

/-- The table claimed. -/
def tableOut (c : Dev nD) : Buf (Elt Ideal) ((c.tc : Thread nD τ).loc main_v0) :=
  fun (i : S524288x128.Idx) => tableOf (codes m c) (i 0) (i 1)

/-- There are 256 steps. -/
theorem lt256 (t : Fin cfg0.N) : t.val < 256 := t.isLt

/-- Step `t` reads the columns `16384 t` on. -/
theorem in_idx : ∀ t : Fin cfg0.N, win0_0.index t ⟨0, by decide⟩ = 0 ∧ win0_0.index t ⟨1, by decide⟩ = t.val :=
  (by decide +kernel : ∀ t : Fin grid0.N, win0_0.index t ⟨0, by decide⟩ = 0 ∧ win0_0.index t ⟨1, by decide⟩ = t.val)

/-- Step `t` writes the rows `2048 t` on. -/
theorem out_idx : ∀ t : Fin cfg0.N, win0_1.index t ⟨0, by decide⟩ = t.val ∧ win0_1.index t ⟨1, by decide⟩ = 0 :=
  (by decide +kernel : ∀ t : Fin grid0.N, win0_1.index t ⟨0, by decide⟩ = t.val ∧ win0_1.index t ⟨1, by decide⟩ = 0)

/-- Every step writes its block back. -/
theorem flush_1 : ∀ t : Fin cfg0.N, (cfg0.win 1).flush t = true :=
  (by decide +kernel : ∀ t : Fin grid0.N, win0_1.flush t = true)

/-- What step `t` reads, at a row and a column. -/
theorem iblk0_apply (c : Dev nD) (t : Fin cfg0.N) (r : Fin 64) (b : Fin 16384) :
    (iblk m c 0 t : Vec Ideal S64x16384 .i8) (ix2 r b)
      = codes m c (ix2 r ⟨16384 * t.val + b.val, by have := lt256 t; omega⟩) := by
  unfold iblk
  rw [View.read_apply]
  show m (c.tc.loc main_arg0) _ = _
  obtain ⟨w0, w1⟩ := in_idx t
  refine congrArg (m (c.tc.loc main_arg0)) (funext fun a => Fin.ext ?_)
  match a with
  | ⟨0, _⟩ => show win0_0.index t ⟨0, by decide⟩ * 64 + 1 * r.val = r.val; omega
  | ⟨1, _⟩ => show win0_0.index t ⟨1, by decide⟩ * 16384 + 1 * b.val = 16384 * t.val + b.val; omega

/-- The table claimed, at an index with a row and a column given. -/
theorem tableOut_apply (c : Dev nD) (i : S524288x128.Idx) (r : Fin 524288) (j : Fin 128) (h0 : (i 0 : Fin 524288) = r)
    (h1 : (i 1 : Fin 128) = j) : (tableOut m c i : BitVec 32) = tableOf (codes m c) r j := by
  subst h0 h1; rfl

/-- What a step writes is its rows of the table claimed. -/
theorem flushed_1 (c : Dev nD) (t : Fin cfg0.N) :
    (dats m 0 c).flushed 1 t = ((cfg0.win 1).blk t).view.read (Elt Ideal) (tableOut m c) := by
  rw [Value.flushed1]
  refine funext fun (y : S2048x128.Idx) => ?_
  have ht := lt256 t
  have h0 : (y 0).val < 2048 := (y 0).isLt
  have h1 : (y 1).val < 128 := (y 1).isLt
  obtain ⟨w0, w1⟩ := out_idx t
  refine Eq.trans (b := (block (iblk m c 0 t) y : BitVec 32)) ?_ (Eq.symm (Eq.trans (View.read_apply ..) (Eq.symm ?_)))
  · exact out_apply _ y
  · refine Eq.trans ?_ (cast_eq _ _).symm
    refine Eq.trans ?_ (tableOut_apply m c _ ⟨2048 * t.val + (y 0).val, by omega⟩ ⟨(y 1).val, h1⟩ (Fin.ext ?_) (Fin.ext ?_)).symm
    · unfold block tableOf wordOf
      refine congrArg pack (funext fun k => ?_)
      rw [iblk0_apply]
      refine congrArg (codes m c) (congrArg₂ ix2 (Fin.ext ?_) (Fin.ext ?_))
      · simp only
      · simp only; omega
    · show win0_1.index t ⟨0, by decide⟩ * 2048 + 1 * (y 0).val = 2048 * t.val + (y 0).val; omega
    · show win0_1.index t ⟨1, by decide⟩ * 128 + 1 * (y 1).val = (y 1).val; omega

/-- After all steps the result is the table claimed. -/
theorem final_1 (c : Dev nD) : (dats m 0 c).arrAt 1 cfg0.N = tableOut m c :=
  (dats m 0 c).arrAt_eq_of_cover 1 (tableOut m c) (fun t _ => flushed_1 m c t) fun (i : S524288x128.Idx) => by
    have h0 : (i 0).val < 524288 := (i 0).isLt
    have h1 : (i 1).val < 128 := (i 1).isLt
    have hlt : (i 0).val / 2048 < 256 := by omega
    refine ⟨⟨(i 0).val / 2048, hlt⟩, flush_1 _, ?_⟩
    refine (congrArg (i ∈ ·) (View.set_slice_whole ..)).mpr ((Rect.mem_set_unit ..).mpr fun a => ?_)
    obtain ⟨w0, w1⟩ := out_idx ⟨(i 0).val / 2048, hlt⟩
    simp only at w0
    match a with
    | ⟨0, _⟩ =>
      have q : win0_1.index ⟨(i 0).val / 2048, hlt⟩ ⟨0, by decide⟩ * 2048 ≤ (i 0).val
          ∧ (i 0).val < win0_1.index ⟨(i 0).val / 2048, hlt⟩ ⟨0, by decide⟩ * 2048 + 2048 := by rw [w0]; omega
      exact q
    | ⟨1, _⟩ =>
      have q : win0_1.index ⟨(i 0).val / 2048, hlt⟩ ⟨1, by decide⟩ * 128 ≤ (i 1).val
          ∧ (i 1).val < win0_1.index ⟨(i 0).val / 2048, hlt⟩ ⟨1, by decide⟩ * 128 + 128 := by rw [w1]; omega
      exact q

/-- The relayout ends with the table. -/
theorem run_value :
    θ_run defs (onTc (τ := τ) (main (F := Ideal))) ⟨m, fun _ => 0, ρ⟩ fun r => ∀ c : Dev nD,
      r.2.mem ((c.tc : Thread nD τ).loc main_v0) = tableOut m c
      ∧ r.2.mem ((c.tc : Thread nD τ).loc main_arg0) = m ((c.tc : Thread nD τ).loc main_arg0) :=
  (θ_run defs _ _).mono (fun r h c => ⟨(h c).1.trans (final_1 m c), (h c).2⟩) (Value.run_blocks m ρ)

end Cert.RelayoutIdeal.Hand

end
-- ==== Proof.RT.Table.lean ====
/-
  The reference's table of words: four codes a word, the lowest byte first, eight buckets a row.
-/
module

public import proofs.«01_k».proof.Proof.Gen.TableIdeal.Run
public import proofs.«01_k».proof.Proof.Lib.Words
public import Idealize.ShloMosaic.Lib.Quiescent

@[expose] public section

set_option maxRecDepth 16384

noncomputable section

namespace Cert.TableIdeal.Hand

open Cert.TableIdeal Cert.TableIdeal.Gen Cert.Words
open Idealize.ShloMosaic Idealize.ShloMosaic.TcCoe Idealize.SL.Sem Idealize.ShloMosaic.StableHlo

/-- One summand of a word: a code's byte at its place. -/
def placed (x : IVec S64x4194304 8) : IVec S16x4x4194304 32 :=
  Host.shli (andi (shapeCast S16x4x4194304 (extsi 32 x natLt_8_32) shapeCasts_S64x4194304_S16x4x4194304) (broadcastInDim S16x4x4194304 ![] bcast_S_S16x4x4194304 (constantI S_ 32 255#32))) (broadcastInDim S16x4x4194304 ![0, 1, 2] bcast_S1x4x1_S16x4x4194304_0_1_2 (broadcastInDim S1x4x1 ![1, 2] bcast_S4x1_S1x4x1_1_2 (broadcastInDim S4x1 ![0] bcast_S4_S4x1_0 (addi (broadcastInDim S4 ![] bcast_S_S4 (constantI S_ 32 0#32)) (muli (broadcastInDim S4 ![] bcast_S_S4 (constantI S_ 32 8#32)) (iotaInDim S4 32 0))))))

/-- The words, 16 a bucket. -/
def words (x : IVec S64x4194304 8) : IVec S16x4194304 32 :=
  Host.reduce IntOp.addi (placed x) (constantI S_ 32 0#32) reducesTo_S16x4x4194304_S16x4194304_d1 h_S_

/-- The table. -/
def table (x : IVec S64x4194304 8) : IVec S524288x128 32 :=
  shapeCast S524288x128 (transpose S4096x128x8x16 [1, 3, 2, 0] (shapeCast S16x4096x8x128 (words x) shapeCasts_S16x4194304_S16x4096x8x128) transposes_S16x4096x8x128_S4096x128x8x16_1_3_2_0) shapeCasts_S4096x128x8x16_S524288x128

/-- A summand is the code's byte times its place. -/
theorem placed_apply (x : IVec S64x4194304 8) (r : Fin 16) (k : Fin 4) (b : Fin 4194304) :
    (placed x (ix3 r k b)).toNat = 2 ^ (8 * k.val) * (x (ix2 ⟨4 * r.val + k.val, by omega⟩ b)).toNat := by
  pointwise [placed]
  rw [byte_placed]
  have e : (⟨r.val * 4 + k.val, by omega⟩ : Fin 64) = ⟨4 * r.val + k.val, by omega⟩ := Fin.ext (by simp only; omega)
  rw [e]

/-- The reference's words are the packed words. -/
theorem words_apply (x : IVec S64x4194304 8) (r : Fin 16) (b : Fin 4194304) :
    words x (ix2 r b) = wordOf x r b := by
  pointwise [words]
  exact sum_placed _ _ fun k => placed_apply x r k b

/-- The reference's table is the table of packed words. -/
theorem table_apply (x : IVec S64x4194304 8) (i : Fin 524288) (j : Fin 128) :
    table x (ix2 i j) = tableOf x i j := by
  pointwise [table]
  rw [words_apply]
  rfl

variable (m : (ℓ : Loc nD τ sig) → Buf (Elt Ideal) ℓ) (ρ : Dev nD → PrngReg)

/-- The reference ends with the table. -/
theorem run_value :
    θ_run defs (onTc (τ := τ) (main (F := Ideal))) ⟨m, fun _ => 0, ρ⟩ fun r => ∀ c : Dev nD,
      r.2.mem ((c.tc : Thread nD τ).loc main_v16)
        = (fun (i : S524288x128.Idx) => tableOf (m (c.tc.loc main_arg0)) (i 0) (i 1))
      ∧ r.2.mem ((c.tc : Thread nD τ).loc main_arg0) = m ((c.tc : Thread nD τ).loc main_arg0) := by
  refine (θ_run defs _ _).mono (fun r h c => ⟨?_, (h c).2⟩) (Value.run m ρ)
  refine (h c).1.trans (funext fun (i : S524288x128.Idx) => ?_)
  have e : i = ix2 (i 0) (i 1) := by funext k; match k with | 0 => rfl | 1 => rfl
  refine (congrArg _ e).trans ?_
  exact table_apply (m (c.tc.loc main_arg0)) (i 0) (i 1)

/-- The reference always runs, leaves its argument alone, and ends with every counter at zero. -/
theorem frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0))
      ∧ r.2.sem = fun _ => 0 :=
  (θ_run defs _ _).mono (fun r h => ⟨fun c => (h c).2, sem_eq_zero_of_no_sems (by decide) _⟩) (Value.run m ρ)

end Cert.TableIdeal.Hand

end
-- ==== Proof.lean ====
module

public import proofs.«01_k».proof.Defs
public import proofs.«01_k».proof.Proof.K.Frame
public import proofs.«01_k».proof.Proof.KI.Frame
public import proofs.«01_k».proof.Proof.KI.Value
public import proofs.«01_k».proof.Proof.Ref.Value
public import proofs.«01_k».proof.Proof.Pre
public import proofs.«01_k».proof.Proof.Gen.Relayout.Frame
public import proofs.«01_k».proof.Proof.Gen.RelayoutIdeal.Frame
public import proofs.«01_k».proof.Proof.KT.Value
public import proofs.«01_k».proof.Proof.RT.Table
public import Idealize.ShloMosaic.Adequacy
public import Idealize.ShloMosaic.Init

@[expose] public section

set_option maxRecDepth 16384

noncomputable section

namespace Cert.Proof

open Idealize.ShloMosaic Idealize.SL.Sem

attribute [local instance] Cert.Pre_bags_in_order.Hand.facts Cert.KernelIdeal.Gen.facts Cert.ReferenceIdeal.Gen.facts
  Cert.RelayoutIdeal.Gen.facts Cert.TableIdeal.Gen.facts

/-- Where the bags are in order and the weights finite, kernel and reference both end with every token's embedding and
    every bag's sum. -/
theorem algebraic : Cert.algebraic_KernelIdeal_ReferenceIdeal_pre_bags_in_order := by
  intro m g m' g' hp ha
  have ho : ∀ c, Sums.Ordered (KernelIdeal.Hand.offs m c) := fun c =>
    Pre_bags_in_order.Hand.ordered _ _ _ (hp c).2.1 (hp c).2.2
  have hw : ∀ c, Sums.Finite (KernelIdeal.Hand.wts m c) := fun c =>
    Pre_bags_in_order.Hand.finite _ _ _ (hp c).1
  refine ⟨fun c => KernelIdeal.Hand.embOut m c, fun c => KernelIdeal.Hand.poolOut m c,
    KernelIdeal.Hand.run_value m g ho hw, ?_⟩
  refine (θ_run _ _ _).mono (fun r h c => ⟨(h c).1.trans ?_, (h c).2.1.trans ?_, (h c).2.2⟩)
    (ReferenceIdeal.Hand.run_value m' g' fun c => ?_)
  · rw [(ha c).2.2]
    exact ho c
  · rw [(ha c).1, (ha c).2.1]
    rfl
  · rw [(ha c).1, (ha c).2.1, (ha c).2.2]
    rfl

/-- Relayout and reference both end with the table of packed words. -/
theorem relayout : Cert.algebraic_RelayoutIdeal_TableIdeal := by
  intro m g m' g' _ ha
  refine ⟨fun c => RelayoutIdeal.Hand.tableOut m c, RelayoutIdeal.Hand.run_value m g, ?_⟩
  refine (θ_run _ _ _).mono (fun r h c => ⟨(h c).1.trans ?_, (h c).2⟩) (TableIdeal.Hand.run_value m' g')
  rw [ha c]
  rfl

/-- Every claim of the certificate. -/
theorem claim : Cert.Claim := ⟨Cert.Kernel.Gen.facts, Cert.KernelIdeal.Gen.facts, Cert.ReferenceIdeal.Gen.facts,
  Cert.Relayout.Gen.facts, Cert.RelayoutIdeal.Gen.facts, Cert.TableIdeal.Gen.facts,
  Cert.Pre_bags_in_order.Hand.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Hand.frame m ρ,
  fun m ρ _ => Cert.ReferenceIdeal.Hand.frame m ρ,
  fun m ρ _ => Cert.Relayout.Gen.frame m ρ,
  fun m ρ _ => Cert.RelayoutIdeal.Gen.frame m ρ,
  fun m ρ _ => Cert.TableIdeal.Hand.frame m ρ,
  trivial,
  algebraic,
  trivial,
  relayout⟩

end Cert.Proof

end
